-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v119) = v0 c
          ∧ r.2.mem ((c.tc : Thread Cert.Reference5Ideal.nD Cert.Reference5Ideal.τ).loc Cert.Reference5Ideal.main_v120) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v104) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x4x96 : Shape := ⟨3, ![8192, 4, 96]⟩
abbrev S8192x4x64 : Shape := ⟨3, ![8192, 4, 64]⟩
abbrev S8192x256 : Shape := ⟨2, ![8192, 256]⟩
abbrev S_ : Shape := ⟨0, ![]⟩

class Facts : Prop where
  bcast_S_S8192x4x96 : S_.BroadcastsInDim S8192x4x96 (![] : Fin 0 → Fin S8192x4x96.rank)
  reducesTo_S8192x4x96_S_d0_1_2 : S8192x4x96.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  main_v18

def fn {F : FTy → Type} [FloatOps F] (main_arg0 : FVec F S8192x4x96 .f32) (main_arg1 : FVec F S8192x4x96 .f32) (main_arg2 : FVec F S8192x4x64 .f32) (main_arg3 : FVec F S8192x256 .f32) : IVec S_ 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_c : IVec S_ 1 := constantI S_ 1 1#1
  let main_v3 : IVec S_ 1 := (fun x v => Host.reduce IntOp.andi x v reducesTo_S8192x4x96_S_d0_1_2 h_S_) main_v2 main_c
  let main_v4 : FVec F S8192x4x96 .f32 := Host.absf main_arg1
  let main_cst_0 : FVec F S_ .f32 := constant S_ .f32 0x7F800000#32
  let main_v5 : FVec F S8192x4x96 .f32 := broadcastInDim S8192x4x96 ![] bcast_S_S8192x4x96 main_cst_0
  let main_v6 : IVec S8192x4x96 1 := cmpf .olt main_v4 main_v5
  let main_c_1 : IVec S_ 1 := constantI S_ 1 1#1
  let main_v7 : IVec S_ 1 := (fun x v => Host.reduce IntOp.andi x v reducesTo_S8192x4x96_S_d0_1_2 h_S_) main_v6 main_c_1
  let main_v8 : IVec S_ 1 := andi main_v3 main_v7
  let main_v9 : FVec F S8192x4x64 .f32 := Host.absf main_arg2
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_c_3 : IVec S_ 1 := constantI S_ 1 1#1
  let main_v12 : IVec S_ 1 := (fun x v => Host.reduce IntOp.andi x v reducesTo_S8192x4x64_S_d0_1_2 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_v13 main_v16
-- ==== Kernel.lean ====
abbrev S8192x4x96 : Shape := ⟨3, ![8192, 4, 96]⟩
abbrev S8192x4x64 : Shape := ⟨3, ![8192, 4, 64]⟩
abbrev S8192x256 : Shape := ⟨2, ![8192, 256]⟩
abbrev S_ : Shape := ⟨0, ![]⟩
abbrev S8192x4x128 : Shape := ⟨3, ![8192, 4, 128]⟩
abbrev S8192x512 : Shape := ⟨2, ![8192, 512]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S8192x4x1 : Shape := ⟨3, ![8192, 4, 1]⟩
abbrev S2x32x256x256 : Shape := ⟨4, ![2, 32, 256, 256]⟩
abbrev S2x32x128x256 : Shape := ⟨4, ![2, 32, 128, 256]⟩
abbrev S512x256 : Shape := ⟨2, ![512, 256]⟩
abbrev S8192x128 : Shape := ⟨2, ![8192, 128]⟩
abbrev S512x128 : Shape := ⟨2, ![512, 128]⟩
abbrev S1x32x256x256 : Shape := ⟨4, ![1, 32, 256, 256]⟩
abbrev S1x32x128x256 : Shape := ⟨4, ![1, 32, 128, 256]⟩
abbrev S2x512x128 : Shape := ⟨3, ![2, 512, 128]⟩
abbrev S4x512x128 : Shape := ⟨3, ![4, 512, 128]⟩
abbrev S256x512 : Shape := ⟨2, ![256, 512]⟩
abbrev S128x512 : Shape := ⟨2, ![128, 512]⟩
abbrev S1x128 : Shape := ⟨2, ![1, 128]⟩
abbrev S1x512x128 : Shape := ⟨3, ![1, 512, 128]⟩
abbrev S512 : Shape := ⟨1, ![512]⟩
abbrev S512x1 : Shape := ⟨2, ![512, 1]⟩
abbrev S256x128 : Shape := ⟨2, ![256, 128]⟩
abbrev S256x256 : Shape := ⟨2, ![256, 256]⟩
abbrev S1x256x128 : Shape := ⟨3, ![1, 256, 128]⟩
abbrev S1x1x64x256 : Shape := ⟨4, ![1, 1, 64, 256]⟩
abbrev S64x256 : Shape := ⟨2, ![64, 256]⟩
abbrev S64x512 : Shape := ⟨2, ![64, 512]⟩
abbrev S1x1x128x256 : Shape := ⟨4, ![1, 1, 128, 256]⟩
abbrev S128x256 : Shape := ⟨2, ![128, 256]⟩

abbrev nBuf : Space → Nat
  | .hbm => 61
  | .vmem => 22
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x4x96, .f32⟩
  | .hbm, ⟨10, _⟩ => ⟨S8192x4x96, .f32⟩
  | .hbm, ⟨11, _⟩ => ⟨S_, .i32⟩
  | .hbm, ⟨12, _⟩ => ⟨S_, .f32⟩
  | .hbm, ⟨13, _⟩ => ⟨S8192x4x128, .f32⟩
  | .hbm, ⟨14, _⟩ => ⟨S8192x512, .f32⟩
  | .hbm, ⟨15, _⟩ => ⟨S8192x512, .bf16⟩
  | .hbm, ⟨16, _⟩ => ⟨S_, .i32⟩
  | .hbm, ⟨17, _⟩ => ⟨S_, .f32⟩
  | .hbm, ⟨18, _⟩ => ⟨S8192x4x128, .f32⟩
  | .hbm, ⟨19, _⟩ => ⟨S8192x512, .f32⟩
  | .hbm, ⟨20, _⟩ => ⟨S8192x512, .bf16⟩
  | .hbm, ⟨21, _⟩ => ⟨S8192x256, .f32⟩
  | .hbm, ⟨22, _⟩ => ⟨S8192x256, .bf16⟩
  | .hbm, ⟨23, _⟩ => ⟨S4x8192x8192, .f32⟩
  | .hbm, ⟨24, _⟩ => ⟨S_, .f32⟩
  | .hbm, ⟨25, _⟩ => ⟨S_, .f32⟩
  | .hbm, ⟨26, _⟩ => ⟨S4x8192x8192, .f32⟩
  | .hbm, ⟨27, _⟩ => ⟨S4x8192x8192, .f32⟩
  | .hbm, ⟨28, _⟩ => ⟨S8192, .i32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S4x8192x8192, .i1⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .f32⟩
  | .hbm, ⟨50, _⟩ => ⟨S4x64x8192, .f32⟩
  | .hbm, ⟨51, _⟩ => ⟨S8192x4x64, .f32⟩
  | .hbm, ⟨52, _⟩ => ⟨S8192x256, .f32⟩
  | .hbm, ⟨53, _⟩ => ⟨S4x8192x1, .f32⟩
  | .hbm, ⟨54, _⟩ => ⟨S4x8192x1, .f32⟩
  | .hbm, ⟨55, _⟩ => ⟨S8192x4x1, .f32⟩
  | .hbm, ⟨56, _⟩ => ⟨S8192x4x64, .f32⟩
  | .hbm, ⟨57, _⟩ => ⟨S8192x256, .f32⟩
  | .hbm, ⟨58, _⟩ => ⟨S8192x512, .f32⟩
  | .hbm, ⟨59, _⟩ => ⟨S2x32x256x256, .f32⟩
  | .hbm, ⟨60, _⟩ => ⟨S2x32x128x256, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S1x32x256x256, .f32⟩
  | .local _ .vmem, ⟨15, _⟩ => ⟨S1x32x256x256, .f32⟩
  | .local _ .vmem, ⟨16, _⟩ => ⟨S1x32x128x256, .f32⟩
  | .local _ .vmem, ⟨17, _⟩ => ⟨S1x32x128x256, .f32⟩
  | .local _ .vmem, ⟨18, _⟩ => ⟨S2x512x128, .bf16⟩
  | .local _ .vmem, ⟨19, _⟩ => ⟨S4x512x128, .f32⟩
  | .local _ .vmem, ⟨20, _⟩ => ⟨S256x512, .bf16⟩
  | .local _ .vmem, ⟨21, _⟩ => ⟨S128x512, .bf16⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v111 : BitVec 32 := Scalar.muli arg1 c2_i32
  let c0_i32_51 : BitVec 32 := 0#32
  let v112 : BitVec 32 := Scalar.addi v111 c0_i32_51
  let c256_i32 : BitVec 32 := 256#32
  let v114 : BitVec 32 := Scalar.muli v112 c256_i32
  v114
def k0_mult2 (i : grid0.Coords) : BitVec 32 :=
  let arg1 : BitVec 32 := BitVec.ofNat 32 (i 1).val
  let c2_i32 : BitVec 32 := 2#32
  let v111 : BitVec 32 := Scalar.muli arg1 c2_i32
  let c1_i32_52 : BitVec 32 := 1#32
  let v113 : BitVec 32 := Scalar.addi v111 c1_i32_52
  let c256_i32_53 : BitVec 32 := 256#32
  let v116 : BitVec 32 := Scalar.muli v113 c256_i32_53
  v116
def k0_off1 (i : grid0.Coords) (c0_i32_51 : BitVec 32) : Fin 2 → Nat :=
  let arg1 : BitVec 32 := BitVec.ofNat 32 (i 1).val
  let c2_i32 : BitVec 32 := 2#32
  let v111 : BitVec 32 := Scalar.muli arg1 c2_i32
  let v112 : BitVec 32 := Scalar.addi v111 c0_i32_51
  let c256_i32 : BitVec 32 := 256#32
  let v114 : BitVec 32 := Scalar.muli v112 c256_i32
  let v115 : BitVec 32 := v114
  let v120 : Index := Scalar.indexCast v115
  let c0_56 : Index := 0#32
  ![v120.toNat, 0]
def k0_off2 (i : grid0.Coords) (c0_i32_51 : BitVec 32) : Fin 2 → Nat :=
  let arg1 : BitVec 32 := BitVec.ofNat 32 (i 1).val
  let c2_i32 : BitVec 32 := 2#32
  let v111 : BitVec 32 := Scalar.muli arg1 c2_i32
  let v112 : BitVec 32 := Scalar.addi v111 c0_i32_51
  let c256_i32 : BitVec 32 := 256#32
  let v114 : BitVec 32 := Scalar.muli v112 c256_i32
  let v115 : BitVec 32 := v114
  let v128 : Index := Scalar.indexCast v115
  let c0_62 : Index := 0#32
  ![v128.toNat, 0]
def k0_off3 (i : grid0.Coords) (c0_i32_51 : BitVec 32) : Fin 2 → Nat :=
  let arg1 : BitVec 32 := BitVec.ofNat 32 (i 1).val
  let c2_i32 : BitVec 32 := 2#32
  let v111 : BitVec 32 := Scalar.muli arg1 c2_i32
  let v112 : BitVec 32 := Scalar.addi v111 c0_i32_51
  let c256_i32 : BitVec 32 := 256#32
  let v114 : BitVec 32 := Scalar.muli v112 c256_i32
  let v115 : BitVec 32 := v114
  let v139 : Index := Scalar.indexCast v115
  let c128_66 : Index := 128#32
  ![v139.toNat, 128]
def k0_off4 (i : grid0.Coords) (c0_i32_51 : BitVec 32) : Fin 4 → Nat :=
  let c0_128 : Index := 0#32
  let arg1 : BitVec 32 := BitVec.ofNat 32 (i 1).val
  let c2_i32 : BitVec 32 := 2#32
  let v111 : BitVec 32 := Scalar.muli arg1 c2_i32
  let v112 : BitVec 32 := Scalar.addi v111 c0_i32_51
  let v266 : Index := Scalar.indexCast v112
  let c0_129 : Index := 0#32
  let c0_130 : Index := 0#32
  ![0, v266.toNat, 0, 0]
def k0_off5 (i : grid0.Coords) (c0_i32_51 : BitVec 32) : Fin 4 → Nat :=
  let c0_137 : Index := 0#32
  let arg1 : BitVec 32 := BitVec.ofNat 32 (i 1).val
  let c2_i32 : BitVec 32 := 2#32
  let v111 : BitVec 32 := Scalar.muli arg1 c2_i32
  let v112 : BitVec 32 := Scalar.addi v111 c0_i32_51
  let v276 : Index := Scalar.indexCast v112
  let c64 : Index := 64#32
  let c0_138 : Index := 0#32
  ![0, v276.toNat, 64, 0]
def k0_off6 (i : grid0.Coords) (c0_i32_51 : BitVec 32) : Fin 4 → Nat :=
  let c0_163 : Index := 0#32
  let arg1 : BitVec 32 := BitVec.ofNat 32 (i 1).val
  let c2_i32 : BitVec 32 := 2#32
  let v111 : BitVec 32 := Scalar.muli arg1 c2_i32
  let v112 : BitVec 32 := Scalar.addi v111 c0_i32_51
  let v306 : Index := Scalar.indexCast v112
  let c0_164 : Index := 0#32
  let c0_165 : Index := 0#32
  ![0, v306.toNat, 0, 0]
def k0_off7 (i : grid0.Coords) (c0_i32_51 : BitVec 32) : Fin 4 → Nat :=
  let c0_172 : Index := 0#32
  let arg1 : BitVec 32 := BitVec.ofNat 32 (i 1).val
  let c2_i32 : BitVec 32 := 2#32
  let v111 : BitVec 32 := Scalar.muli arg1 c2_i32
  let v112 : BitVec 32 := Scalar.addi v111 c0_i32_51
  let v316 : Index := Scalar.indexCast v112
  let c128_173 : Index := 128#32
  let c0_174 : Index := 0#32
  ![0, v316.toNat, 128, 0]
@[reducible] def k0_t1_loop (i : grid0.Coords) : Scf.Loop 32 :=
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_226 : BitVec 32 := 1#32
  ⟨c0_i32_224, v382, c1_i32_226⟩
def k0_mult3 (i : grid0.Coords) (k0_t1 : Fin (k0_t1_loop i).trips) : BitVec 32 :=
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let c0_i32_234 : BitVec 32 := 0#32
  let v389 : BitVec 32 := Scalar.addi v388 c0_i32_234
  let c256_i32_236 : BitVec 32 := 256#32
  let v391 : BitVec 32 := Scalar.muli v389 c256_i32_236
  v391
def k0_mult4 (i : grid0.Coords) (k0_t1 : Fin (k0_t1_loop i).trips) : BitVec 32 :=
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let c1_i32_235 : BitVec 32 := 1#32
  let v390 : BitVec 32 := Scalar.addi v388 c1_i32_235
  let c256_i32_237 : BitVec 32 := 256#32
  let v393 : BitVec 32 := Scalar.muli v390 c256_i32_237
  v393
def k0_off8 (i : grid0.Coords) (k0_t1 : Fin (k0_t1_loop i).trips) (c0_i32_234 : BitVec 32) : Fin 2 → Nat :=
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let v389 : BitVec 32 := Scalar.addi v388 c0_i32_234
  let c256_i32_236 : BitVec 32 := 256#32
  let v391 : BitVec 32 := Scalar.muli v389 c256_i32_236
  let v392 : BitVec 32 := v391
  let v397 : Index := Scalar.indexCast v392
  let c0_240 : Index := 0#32
  ![v397.toNat, 0]
def k0_off9 (i : grid0.Coords) (k0_t1 : Fin (k0_t1_loop i).trips) (c0_i32_234 : BitVec 32) : Fin 2 → Nat :=
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let v389 : BitVec 32 := Scalar.addi v388 c0_i32_234
  let c256_i32_236 : BitVec 32 := 256#32
  let v391 : BitVec 32 := Scalar.muli v389 c256_i32_236
  let v392 : BitVec 32 := v391
  let v405 : Index := Scalar.indexCast v392
  let c0_246 : Index := 0#32
  ![v405.toNat, 0]
def k0_off10 (i : grid0.Coords) (k0_t1 : Fin (k0_t1_loop i).trips) (c0_i32_234 : BitVec 32) : Fin 2 → Nat :=
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let v389 : BitVec 32 := Scalar.addi v388 c0_i32_234
  let c256_i32_236 : BitVec 32 := 256#32
  let v391 : BitVec 32 := Scalar.muli v389 c256_i32_236
  let v392 : BitVec 32 := v391
  let v416 : Index := Scalar.indexCast v392
  let c128_251 : Index := 128#32
  ![v416.toNat, 128]
def k0_off11 (i : grid0.Coords) (k0_t1 : Fin (k0_t1_loop i).trips) (c0_i32_234 : BitVec 32) : Fin 4 → Nat :=
  let c0_306 : Index := 0#32
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let v389 : BitVec 32 := Scalar.addi v388 c0_i32_234
  let v519 : Index := Scalar.indexCast v389
  let c0_307 : Index := 0#32
  let c0_308 : Index := 0#32
  ![0, v519.toNat, 0, 0]
def k0_off12 (i : grid0.Coords) (k0_t1 : Fin (k0_t1_loop i).trips) (c0_i32_234 : BitVec 32) : Fin 4 → Nat :=
  let c0_315 : Index := 0#32
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let v389 : BitVec 32 := Scalar.addi v388 c0_i32_234
  let v529 : Index := Scalar.indexCast v389
  let c64_316 : Index := 64#32
  let c0_317 : Index := 0#32
  ![0, v529.toNat, 64, 0]
def k0_off13 (i : grid0.Coords) (k0_t1 : Fin (k0_t1_loop i).trips) (c0_i32_234 : BitVec 32) : Fin 4 → Nat :=
  let c0_342 : Index := 0#32
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let v389 : BitVec 32 := Scalar.addi v388 c0_i32_234
  let v559 : Index := Scalar.indexCast v389
  let c0_343 : Index := 0#32
  let c0_344 : Index := 0#32
  ![0, v559.toNat, 0, 0]
def k0_off14 (i : grid0.Coords) (k0_t1 : Fin (k0_t1_loop i).trips) (c0_i32_234 : BitVec 32) : Fin 4 → Nat :=
  let c0_351 : Index := 0#32
  let c0_i32_224 : BitVec 32 := 0#32
  let c1_i32_226 : BitVec 32 := 1#32
  let arg15 : BitVec 32 := Scf.iv c0_i32_224 c1_i32_226 k0_t1
  let c2_i32_233 : BitVec 32 := 2#32
  let v388 : BitVec 32 := Scalar.muli arg15 c2_i32_233
  let v389 : BitVec 32 := Scalar.addi v388 c0_i32_234
  let v569 : Index := Scalar.indexCast v389
  let c128_352 : Index := 128#32
  let c0_353 : Index := 0#32
  ![0, v569.toNat, 128, 0]
@[reducible] def k0_t2_loop (i : grid0.Coords) : Scf.Loop 32 :=
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let v379 : BitVec 32 := Scalar.addi c0_i32_224 v378
  let c1_i32_227 : BitVec 32 := 1#32
  ⟨v382, v379, c1_i32_227⟩
def k0_mult5 (i : grid0.Coords) (k0_t2 : Fin (k0_t2_loop i).trips) : BitVec 32 :=
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let c0_i32_234 : BitVec 32 := 0#32
  let v389 : BitVec 32 := Scalar.addi v388 c0_i32_234
  let c256_i32_236 : BitVec 32 := 256#32
  let v391 : BitVec 32 := Scalar.muli v389 c256_i32_236
  v391
def k0_mult6 (i : grid0.Coords) (k0_t2 : Fin (k0_t2_loop i).trips) : BitVec 32 :=
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let c1_i32_235 : BitVec 32 := 1#32
  let v390 : BitVec 32 := Scalar.addi v388 c1_i32_235
  let c256_i32_237 : BitVec 32 := 256#32
  let v393 : BitVec 32 := Scalar.muli v390 c256_i32_237
  v393
def k0_off15 (i : grid0.Coords) (k0_t2 : Fin (k0_t2_loop i).trips) (c0_i32_234 : BitVec 32) : Fin 2 → Nat :=
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let v389 : BitVec 32 := Scalar.addi v388 c0_i32_234
  let c256_i32_236 : BitVec 32 := 256#32
  let v391 : BitVec 32 := Scalar.muli v389 c256_i32_236
  let v392 : BitVec 32 := v391
  let v397 : Index := Scalar.indexCast v392
  let c0_240 : Index := 0#32
  ![v397.toNat, 0]
def k0_off16 (i : grid0.Coords) (k0_t2 : Fin (k0_t2_loop i).trips) (c0_i32_234 : BitVec 32) : Fin 2 → Nat :=
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let v389 : BitVec 32 := Scalar.addi v388 c0_i32_234
  let c256_i32_236 : BitVec 32 := 256#32
  let v391 : BitVec 32 := Scalar.muli v389 c256_i32_236
  let v392 : BitVec 32 := v391
  let v405 : Index := Scalar.indexCast v392
  let c0_246 : Index := 0#32
  ![v405.toNat, 0]
def k0_off17 (i : grid0.Coords) (k0_t2 : Fin (k0_t2_loop i).trips) (c0_i32_234 : BitVec 32) : Fin 2 → Nat :=
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let v389 : BitVec 32 := Scalar.addi v388 c0_i32_234
  let c256_i32_236 : BitVec 32 := 256#32
  let v391 : BitVec 32 := Scalar.muli v389 c256_i32_236
  let v392 : BitVec 32 := v391
  let v416 : Index := Scalar.indexCast v392
  let c128_251 : Index := 128#32
  ![v416.toNat, 128]
def k0_off18 (i : grid0.Coords) (k0_t2 : Fin (k0_t2_loop i).trips) (c0_i32_234 : BitVec 32) : Fin 4 → Nat :=
  let c0_306 : Index := 0#32
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let v389 : BitVec 32 := Scalar.addi v388 c0_i32_234
  let v519 : Index := Scalar.indexCast v389
  let c0_307 : Index := 0#32
  let c0_308 : Index := 0#32
  ![0, v519.toNat, 0, 0]
def k0_off19 (i : grid0.Coords) (k0_t2 : Fin (k0_t2_loop i).trips) (c0_i32_234 : BitVec 32) : Fin 4 → Nat :=
  let c0_315 : Index := 0#32
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let v389 : BitVec 32 := Scalar.addi v388 c0_i32_234
  let v529 : Index := Scalar.indexCast v389
  let c64_316 : Index := 64#32
  let c0_317 : Index := 0#32
  ![0, v529.toNat, 64, 0]
def k0_off20 (i : grid0.Coords) (k0_t2 : Fin (k0_t2_loop i).trips) (c0_i32_234 : BitVec 32) : Fin 4 → Nat :=
  let c0_342 : Index := 0#32
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let v389 : BitVec 32 := Scalar.addi v388 c0_i32_234
  let v559 : Index := Scalar.indexCast v389
  let c0_343 : Index := 0#32
  let c0_344 : Index := 0#32
  ![0, v559.toNat, 0, 0]
def k0_off21 (i : grid0.Coords) (k0_t2 : Fin (k0_t2_loop i).trips) (c0_i32_234 : BitVec 32) : Fin 4 → Nat :=
  let c0_351 : Index := 0#32
  let c0_i32_224 : BitVec 32 := 0#32
  let arg1 : BitVec 32 := BitVec.ofNat 32 (i 1).val
  let v378 : BitVec 32 := Scalar.subi arg1 c0_i32_224
  let c1_i32_225 : BitVec 32 := 1#32
  let v380 : BitVec 32 := Scalar.divsi v378 c1_i32_225
  let v381 : BitVec 32 := Scalar.muli v380 c1_i32_225
  let v382 : BitVec 32 := Scalar.addi c0_i32_224 v381
  let c1_i32_227 : BitVec 32 := 1#32
  let arg15 : BitVec 32 := Scf.iv v382 c1_i32_227 k0_t2
  let c2_i32_233 : BitVec 32 := 2#32
  let v388 : BitVec 32 := Scalar.muli arg15 c2_i32_233
  let v389 : BitVec 32 := Scalar.addi v388 c0_i32_234
  let v569 : Index := Scalar.indexCast v389
  let c128_352 : Index := 128#32
  let c0_353 : Index := 0#32
  ![0, v569.toNat, 128, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== ReferenceIdeal.lean ====
abbrev S8192x4x96 : Shape := ⟨3, ![8192, 4, 96]⟩
abbrev S8192x4x64 : Shape := ⟨3, ![8192, 4, 64]⟩
abbrev S8192x256 : Shape := ⟨2, ![8192, 256]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S4x8192x96 : Shape := ⟨3, ![4, 8192, 96]⟩
abbrev S8192x4x128 : Shape := ⟨3, ![8192, 4, 128]⟩
abbrev S8192x512 : Shape := ⟨2, ![8192, 512]⟩
abbrev S32x256x2x256 : Shape := ⟨4, ![32, 256, 2, 256]⟩
abbrev S2x32x256x256 : Shape := ⟨4, ![2, 32, 256, 256]⟩
abbrev S32x256x2x128 : Shape := ⟨4, ![32, 256, 2, 128]⟩
abbrev S2x32x128x256 : Shape := ⟨4, ![2, 32, 128, 256]⟩

abbrev nBuf : Space → Nat
  | .hbm => 111
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x256, .f32⟩
  | .hbm, ⟨4, _⟩ => ⟨S4x8192x8192, .f32⟩
  | .hbm, ⟨5, _⟩ => ⟨S_, .f32⟩
  | .hbm, ⟨6, _⟩ => ⟨S_, .f32⟩
  | .hbm, ⟨7, _⟩ => ⟨S4x8192x8192, .f32⟩
  | .hbm, ⟨8, _⟩ => ⟨S4x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S4x8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x8192, .f32⟩
  | .hbm, ⟨26, _⟩ => ⟨S4x8192x8192, .i1⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .f32⟩
  | .hbm, ⟨50, _⟩ => ⟨S4x8192x8192, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S4x8192x8192, .f32⟩
  | .hbm, ⟨55, _⟩ => ⟨S4x8192x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x64x8192, .f32⟩
  | .hbm, ⟨61, _⟩ => ⟨S8192x4x64, .f32⟩
  | .hbm, ⟨62, _⟩ => ⟨S8192x256, .f32⟩
  | .hbm, ⟨63, _⟩ => ⟨S8192x4x64, .f32⟩
  | .hbm, ⟨64, _⟩ => ⟨S4x64x8192, .f32⟩
  | .hbm, ⟨65, _⟩ => ⟨S4x8192x8192, .f32⟩
  | .hbm, ⟨66, _⟩ => ⟨S4x64x8192, .f32⟩
  | .hbm, ⟨67, _⟩ => ⟨S8192x4x64, .f32⟩
  | .hbm, ⟨68, _⟩ => ⟨S4x8192x8192, .f32⟩
  | .hbm, ⟨69, _⟩ => ⟨S4x8192x8192, .f32⟩
  | .hbm, ⟨70, _⟩ => ⟨S4x8192x8192, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S4x8192x1, .f32⟩
  | .hbm, ⟨75, _⟩ => ⟨S4x8192x8192, .f32⟩
  | .hbm, ⟨76, _⟩ => ⟨S4x8192x8192, .f32⟩
  | .hbm, ⟨77, _⟩ => ⟨S_, .f32⟩
  | .hbm, ⟨78, _⟩ => ⟨S4x8192, .f32⟩
  | .hbm, ⟨79, _⟩ => ⟨S4x8192x8192, .f32⟩
  | .hbm, ⟨80, _⟩ => ⟨S4x8192x8192, .f32⟩
  | .hbm, ⟨81, _⟩ => ⟨S4x8192x8192, .f32⟩
  | .hbm, ⟨82, _⟩ => ⟨S_, .f32⟩
  | .hbm, ⟨83, _⟩ => ⟨S4x8192x8192, .f32⟩
  | .hbm, ⟨84, _⟩ => ⟨S4x8192x8192, .f32⟩
  | .hbm, ⟨85, _⟩ => ⟨S4x8192x8192, .f32⟩
  | .hbm, ⟨86, _⟩ => ⟨S4x8192x8192, .f32⟩
  | .hbm, ⟨87, _⟩ => ⟨S4x8192x96, .f32⟩
  | .hbm, ⟨88, _⟩ => ⟨S8192x4x96, .f32⟩
  | .hbm, ⟨89, _⟩ => ⟨S4x8192x96, .f32⟩
  | .hbm, ⟨90, _⟩ => ⟨S8192x4x96, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S8192x4x96, .f32⟩
  | .hbm, ⟨97, _⟩ => ⟨S8192x4x96, .f32⟩
  | .hbm, ⟨98, _⟩ => ⟨S_, .i32⟩
  | .hbm, ⟨99, _⟩ => ⟨S_, .f32⟩
  | .hbm, ⟨100, _⟩ => ⟨S8192x4x128, .f32⟩
  | .hbm, ⟨101, _⟩ => ⟨S8192x512, .f32⟩
  | .hbm, ⟨102, _⟩ => ⟨S8192x4x96, .f32⟩
  | .hbm, ⟨103, _⟩ => ⟨S8192x4x96, .f32⟩
  | .hbm, ⟨104, _⟩ => ⟨S_, .i32⟩
  | .hbm, ⟨105, _⟩ => ⟨S_, .f32⟩
  | .hbm, ⟨106, _⟩ => ⟨S8192x4x128, .f32⟩
  | .hbm, ⟨107, _⟩ => ⟨S32x256x2x256, .f32⟩
  | .hbm, ⟨108, _⟩ => ⟨S2x32x256x256, .f32⟩
  | .hbm, ⟨109, _⟩ => ⟨S32x256x2x128, .f32⟩
  | .hbm, ⟨110, _⟩ => ⟨S2x32x128x256, .f32⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c : Ref sig .tc := ⟨.hbm, 98, rfl⟩
abbrev main_call2_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_call3_v0 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S3488x1024 : Shape := ⟨2, ![3488, 1024]⟩
abbrev S8192x3488 : Shape := ⟨2, ![8192, 3488]⟩
abbrev S8192x256 : Shape := ⟨2, ![8192, 256]⟩
abbrev S8192x128 : Shape := ⟨2, ![8192, 128]⟩
abbrev S8192x768 : Shape := ⟨2, ![8192, 768]⟩
abbrev S8192x1792 : Shape := ⟨2, ![8192, 1792]⟩
abbrev S8192x416 : Shape := ⟨2, ![8192, 416]⟩
abbrev S_ : Shape := ⟨0, ![]⟩
abbrev S8192x96 : Shape := ⟨2, ![8192, 96]⟩
abbrev S8192x512 : Shape := ⟨2, ![8192, 512]⟩
abbrev S1x1024 : Shape := ⟨2, ![1, 1024]⟩
abbrev S512x1024 : Shape := ⟨2, ![512, 1024]⟩
abbrev S1792x1024 : Shape := ⟨2, ![1792, 1024]⟩
abbrev S1184x1024 : Shape := ⟨2, ![1184, 1024]⟩
abbrev S96x1024 : Shape := ⟨2, ![96, 1024]⟩
abbrev S3584x1024 : Shape := ⟨2, ![3584, 1024]⟩
abbrev S8192x3584 : Shape := ⟨2, ![8192, 3584]⟩
abbrev S512x256 : Shape := ⟨2, ![512, 256]⟩
abbrev S512x128 : Shape := ⟨2, ![512, 128]⟩
abbrev S512x1792 : Shape := ⟨2, ![512, 1792]⟩
abbrev S512x512 : Shape := ⟨2, ![512, 512]⟩
abbrev S512x3584 : Shape := ⟨2, ![512, 3584]⟩
abbrev S512 : Shape := ⟨1, ![512]⟩
abbrev S512x1 : Shape := ⟨2, ![512, 1]⟩

abbrev nBuf : Space → Nat
  | .hbm => 33
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3488x1024, .f32⟩
  | .hbm, ⟨3, _⟩ => ⟨S8192x1024, .f32⟩
  | .hbm, ⟨4, _⟩ => ⟨S8192x3488, .f32⟩
  | .hbm, ⟨5, _⟩ => ⟨S8192x256, .f32⟩
  | .hbm, ⟨6, _⟩ => ⟨S8192x256, .bf16⟩
  | .hbm, ⟨7, _⟩ => ⟨S8192x128, .f32⟩
  | .hbm, ⟨8, _⟩ => ⟨S8192x128, .f32⟩
  | .hbm, ⟨9, _⟩ => ⟨S8192x256, .f32⟩
  | .hbm, ⟨10, _⟩ => ⟨S8192x256, .bf16⟩
  | .hbm, ⟨11, _⟩ => ⟨S8192x256, .f32⟩
  | .hbm, ⟨12, _⟩ => ⟨S8192x256, .f32⟩
  | .hbm, ⟨13, _⟩ => ⟨S8192x1024, .f32⟩
  | .hbm, ⟨14, _⟩ => ⟨S8192x768, .f32⟩
  | .hbm, ⟨15, _⟩ => ⟨S8192x1792, .f32⟩
  | .hbm, ⟨16, _⟩ => ⟨S8192x1792, .bf16⟩
  | .hbm, ⟨17, _⟩ => ⟨S8192x416, .f32⟩
  | .hbm, ⟨18, _⟩ => ⟨S_, .f32⟩
  | .hbm, ⟨19, _⟩ => ⟨S8192x96, .f32⟩
  | .hbm, ⟨20, _⟩ => ⟨S8192x512, .f32⟩
  | .hbm, ⟨21, _⟩ => ⟨S8192x512, .bf16⟩
  | .hbm, ⟨22, _⟩ => ⟨S1x1024, .f32⟩
  | .hbm, ⟨23, _⟩ => ⟨S512x1024, .f32⟩
  | .hbm, ⟨24, _⟩ => ⟨S1792x1024, .f32⟩
  | .hbm, ⟨25, _⟩ => ⟨S1184x1024, .f32⟩
  | .hbm, ⟨26, _⟩ => ⟨S_, .f32⟩
  | .hbm, ⟨27, _⟩ => ⟨S96x1024, .f32⟩
  | .hbm, ⟨28, _⟩ => ⟨S3584x1024, .f32⟩
  | .hbm, ⟨29, _⟩ => ⟨S3584x1024, .bf16⟩
  | .hbm, ⟨30, _⟩ => ⟨S8192x1024, .f32⟩
  | .hbm, ⟨31, _⟩ => ⟨S8192x3584, .bf16⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3584x1024, .bf16⟩
  | .local _ .vmem, ⟨4, _⟩ => ⟨S512x1024, .f32⟩
  | .local _ .vmem, ⟨5, _⟩ => ⟨S512x1024, .f32⟩
  | .local _ .vmem, ⟨6, _⟩ => ⟨S512x256, .bf16⟩
  | .local _ .vmem, ⟨7, _⟩ => ⟨S512x256, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x1792, .bf16⟩
  | .local _ .vmem, ⟨19, _⟩ => ⟨S512x1792, .bf16⟩
  | .local _ .vmem, ⟨20, _⟩ => ⟨S512x512, .bf16⟩
  | .local _ .vmem, ⟨21, _⟩ => ⟨S512x512, .bf16⟩
  | .local _ .vmem, ⟨22, _⟩ => ⟨S512x1024, .f32⟩
  | .local _ .vmem, ⟨23, _⟩ => ⟨S512x1024, .f32⟩
  | .local _ .vmem, ⟨24, _⟩ => ⟨S512x3584, .bf16⟩
  | .local _ .vmem, ⟨25, _⟩ => ⟨S512x3584, .bf16⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3584 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S1024 : Shape := ⟨1, ![1024]⟩
abbrev S3488x1024 : Shape := ⟨2, ![3488, 1024]⟩
abbrev S8192x3488 : Shape := ⟨2, ![8192, 3488]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x3488 : Shape := ⟨2, ![1024, 3488]⟩
abbrev S8192x512 : Shape := ⟨2, ![8192, 512]⟩
abbrev S8192x1792 : Shape := ⟨2, ![8192, 1792]⟩
abbrev S8192x1184 : Shape := ⟨2, ![8192, 1184]⟩
abbrev S8192x96 : Shape := ⟨2, ![8192, 96]⟩
abbrev S8192x3584 : Shape := ⟨2, ![8192, 3584]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3488x1024, .f32⟩
  | .hbm, ⟨3, _⟩ => ⟨S8192x1024, .f32⟩
  | .hbm, ⟨4, _⟩ => ⟨S8192x3488, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x3488, .f32⟩
  | .hbm, ⟨26, _⟩ => ⟨S8192x3488, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x512, .f32⟩
  | .hbm, ⟨54, _⟩ => ⟨S8192x1792, .f32⟩
  | .hbm, ⟨55, _⟩ => ⟨S8192x1184, .f32⟩
  | .hbm, ⟨56, _⟩ => ⟨S_, .f32⟩
  | .hbm, ⟨57, _⟩ => ⟨S8192x96, .f32⟩
  | .hbm, ⟨58, _⟩ => ⟨S8192x1024, .f32⟩
  | .hbm, ⟨59, _⟩ => ⟨S8192x3584, .f32⟩
  | .hbm, ⟨60, _⟩ => ⟨S8192x3584, .bf16⟩
  | .hbm, ⟨61, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S8192x3488 : Shape := ⟨2, ![8192, 3488]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S8192x128 : Shape := ⟨2, ![8192, 128]⟩
abbrev S8192x32 : Shape := ⟨2, ![8192, 32]⟩
abbrev S8192x3584 : Shape := ⟨2, ![8192, 3584]⟩
abbrev S3488x1024 : Shape := ⟨2, ![3488, 1024]⟩
abbrev S512x1024 : Shape := ⟨2, ![512, 1024]⟩
abbrev S512x3584 : Shape := ⟨2, ![512, 3584]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩
abbrev S32x1024 : Shape := ⟨2, ![32, 1024]⟩
abbrev S1024x1024 : Shape := ⟨2, ![1024, 1024]⟩

abbrev nBuf : Space → Nat
  | .hbm => 39
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x3488, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x256, .f32⟩
  | .hbm, ⟨21, _⟩ => ⟨S8192x128, .f32⟩
  | .hbm, ⟨22, _⟩ => ⟨S8192x128, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x1024, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x128, .f32⟩
  | .hbm, ⟨32, _⟩ => ⟨S8192x32, .f32⟩
  | .hbm, ⟨33, _⟩ => ⟨S8192x3488, .f32⟩
  | .hbm, ⟨34, _⟩ => ⟨S_, .i32⟩
  | .hbm, ⟨35, _⟩ => ⟨S_, .f32⟩
  | .hbm, ⟨36, _⟩ => ⟨S8192x3584, .f32⟩
  | .hbm, ⟨37, _⟩ => ⟨S8192x3584, .bf16⟩
  | .hbm, ⟨38, _⟩ => ⟨S3488x1024, .f32⟩
  | .local _ .vmem, ⟨0, _⟩ => ⟨S512x1024, .bf16⟩
  | .local _ .vmem, ⟨1, _⟩ => ⟨S512x1024, .bf16⟩
  | .local _ .vmem, ⟨2, _⟩ => ⟨S512x3584, .bf16⟩
  | .local _ .vmem, ⟨3, _⟩ => ⟨S512x3584, .bf16⟩
  | .local _ .vmem, ⟨4, _⟩ => ⟨S3488x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3488x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x1024 : Shape := ⟨2, ![8192, 1024]⟩
abbrev S1024 : Shape := ⟨1, ![1024]⟩
abbrev S8192x3488 : Shape := ⟨2, ![8192, 3488]⟩
abbrev S_ : Shape := ⟨0, ![]⟩
abbrev S3488x1024 : Shape := ⟨2, ![3488, 1024]⟩
abbrev S8192 : Shape := ⟨1, ![8192]⟩
abbrev S8192x1 : Shape := ⟨2, ![8192, 1]⟩
abbrev S1x1024 : Shape := ⟨2, ![1, 1024]⟩
abbrev S1024x3488 : Shape := ⟨2, ![1024, 3488]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x3488, .f32⟩
  | .hbm, ⟨3, _⟩ => ⟨S_, .f32⟩
  | .hbm, ⟨4, _⟩ => ⟨S3488x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x3488, .f32⟩
  | .hbm, ⟨22, _⟩ => ⟨S8192x3488, .f32⟩
  | .hbm, ⟨23, _⟩ => ⟨S3488x1024, .f32⟩
  | .hbm, ⟨24, _⟩ => ⟨S1024x3488, .f32⟩
  | .hbm, ⟨25, _⟩ => ⟨S3488x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S3488x1024 : Shape := ⟨2, ![3488, 1024]⟩
abbrev S1x1024 : Shape := ⟨2, ![1, 1024]⟩
abbrev S512x1024 : Shape := ⟨2, ![512, 1024]⟩
abbrev S1792x1024 : Shape := ⟨2, ![1792, 1024]⟩
abbrev S1184x1024 : Shape := ⟨2, ![1184, 1024]⟩
abbrev S_ : Shape := ⟨0, ![]⟩
abbrev S96x1024 : Shape := ⟨2, ![96, 1024]⟩
abbrev S3584x1024 : Shape := ⟨2, ![3584, 1024]⟩
abbrev S8192x1280 : Shape := ⟨2, ![8192, 1280]⟩
abbrev S8192x2304 : Shape := ⟨2, ![8192, 2304]⟩
abbrev S512x1280 : Shape := ⟨2, ![512, 1280]⟩
abbrev S512x2304 : Shape := ⟨2, ![512, 2304]⟩
abbrev S512 : Shape := ⟨1, ![512]⟩
abbrev S512x1 : Shape := ⟨2, ![512, 1]⟩
abbrev S512x3584 : Shape := ⟨2, ![512, 3584]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3488x1024, .f32⟩
  | .hbm, ⟨3, _⟩ => ⟨S1x1024, .f32⟩
  | .hbm, ⟨4, _⟩ => ⟨S512x1024, .f32⟩
  | .hbm, ⟨5, _⟩ => ⟨S1792x1024, .f32⟩
  | .hbm, ⟨6, _⟩ => ⟨S1184x1024, .f32⟩
  | .hbm, ⟨7, _⟩ => ⟨S_, .f32⟩
  | .hbm, ⟨8, _⟩ => ⟨S96x1024, .f32⟩
  | .hbm, ⟨9, _⟩ => ⟨S3584x1024, .f32⟩
  | .hbm, ⟨10, _⟩ => ⟨S3584x1024, .bf16⟩
  | .hbm, ⟨11, _⟩ => ⟨S8192x1024, .bf16⟩
  | .hbm, ⟨12, _⟩ => ⟨S8192x1280, .bf16⟩
  | .hbm, ⟨13, _⟩ => ⟨S8192x2304, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3584x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1280, .bf16⟩
  | .local _ .vmem, ⟨7, _⟩ => ⟨S512x1280, .bf16⟩
  | .local _ .vmem, ⟨8, _⟩ => ⟨S512x2304, .f32⟩
  | .local _ .vmem, ⟨9, _⟩ => ⟨S512x2304, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x1024 : Shape := ⟨2, ![8192, 1024]⟩
abbrev S1024 : Shape := ⟨1, ![1024]⟩
abbrev S3488x1024 : Shape := ⟨2, ![3488, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x3488 : Shape := ⟨2, ![1024, 3488]⟩
abbrev S8192x3488 : Shape := ⟨2, ![8192, 3488]⟩
abbrev S8192x1184 : Shape := ⟨2, ![8192, 1184]⟩
abbrev S8192x96 : Shape := ⟨2, ![8192, 96]⟩
abbrev S8192x2304 : Shape := ⟨2, ![8192, 2304]⟩
abbrev S8192x512 : Shape := ⟨2, ![8192, 512]⟩
abbrev S8192x768 : Shape := ⟨2, ![8192, 768]⟩
abbrev S8192x1280 : Shape := ⟨2, ![8192, 1280]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3488x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x3488, .f32⟩
  | .hbm, ⟨20, _⟩ => ⟨S8192x3488, .f32⟩
  | .hbm, ⟨21, _⟩ => ⟨S8192x1024, .f32⟩
  | .hbm, ⟨22, _⟩ => ⟨S8192x1184, .f32⟩
  | .hbm, ⟨23, _⟩ => ⟨S_, .f32⟩
  | .hbm, ⟨24, _⟩ => ⟨S8192x96, .f32⟩
  | .hbm, ⟨25, _⟩ => ⟨S8192x2304, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x512, .f32⟩
  | .hbm, ⟨44, _⟩ => ⟨S8192x768, .f32⟩
  | .hbm, ⟨45, _⟩ => ⟨S8192x1280, .f32⟩
  | .hbm, ⟨46, _⟩ => ⟨S8192x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel5.lean ====
abbrev S8192x1024 : Shape := ⟨2, ![8192, 1024]⟩
abbrev S8192x3488 : Shape := ⟨2, ![8192, 3488]⟩
abbrev S8192x256 : Shape := ⟨2, ![8192, 256]⟩
abbrev S3x256 : Shape := ⟨2, ![3, 256]⟩
abbrev S256 : Shape := ⟨1, ![256]⟩
abbrev S1024 : Shape := ⟨1, ![1024]⟩
abbrev S1024x1024 : Shape := ⟨2, ![1024, 1024]⟩
abbrev S8192x1184 : Shape := ⟨2, ![8192, 1184]⟩
abbrev S_ : Shape := ⟨0, ![]⟩
abbrev S8192x96 : Shape := ⟨2, ![8192, 96]⟩
abbrev S8192x2304 : Shape := ⟨2, ![8192, 2304]⟩
abbrev S1x256 : Shape := ⟨2, ![1, 256]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S8x256 : Shape := ⟨2, ![8, 256]⟩
abbrev S512x1 : Shape := ⟨2, ![512, 1]⟩
abbrev S512 : Shape := ⟨1, ![512]⟩
abbrev S1 : Shape := ⟨1, ![1]⟩
abbrev S1x1 : Shape := ⟨2, ![1, 1]⟩

abbrev nBuf : Space → Nat
  | .hbm => 22
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x3488, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S3x256, .f32⟩
  | .hbm, ⟨6, _⟩ => ⟨S256, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x1184, .f32⟩
  | .hbm, ⟨13, _⟩ => ⟨S_, .f32⟩
  | .hbm, ⟨14, _⟩ => ⟨S8192x96, .f32⟩
  | .hbm, ⟨15, _⟩ => ⟨S8192x2304, .f32⟩
  | .hbm, ⟨16, _⟩ => ⟨S1x256, .f32⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S8192x1024, .f32⟩
  | .hbm, ⟨21, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S3x256, .f32⟩
  | .local _ .vmem, ⟨21, _⟩ => ⟨S1x256, .f32⟩
  | .local _ .vmem, ⟨22, _⟩ => ⟨S1x1024, .f32⟩
  | .local _ .vmem, ⟨23, _⟩ => ⟨S1024x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference5Ideal.lean ====
abbrev S8192x1024 : Shape := ⟨2, ![8192, 1024]⟩
abbrev S8192x3488 : Shape := ⟨2, ![8192, 3488]⟩
abbrev S8192x256 : Shape := ⟨2, ![8192, 256]⟩
abbrev S3x256 : Shape := ⟨2, ![3, 256]⟩
abbrev S256 : Shape := ⟨1, ![256]⟩
abbrev S1024 : Shape := ⟨1, ![1024]⟩
abbrev S1024x1024 : Shape := ⟨2, ![1024, 1024]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 164
  | .vmem => 0
  | .smem => 0
  | _ => 0

abbrev hbmTy0_0 (i : Nat) : BufTy := match i % 128 with
  | 0 => ⟨S8192x1024, .f32⟩
  | 1 => ⟨S8192x3488, .f32⟩
  | 2 => ⟨S8192x256, .f32⟩
  | 3 => ⟨S8192x256, .f32⟩
  | 4 => ⟨S8192x256, .f32⟩
  | 5 => ⟨S3x256, .f32⟩
  | 6 => ⟨S256, .f32⟩
  | 7 => ⟨S1024, .f32⟩
  | 8 => ⟨S1024x1024, .f32⟩
  | 9 => ⟨S1024, .f32⟩
  | 10 => ⟨S8192x1024, .f32⟩
  | 11 => ⟨S8192x256, .f32⟩
  | 12 => ⟨S8192x256, .f32⟩
  | 13 => ⟨S8192x256, .f32⟩
  | 14 => ⟨S8192x1024, .f32⟩
  | 15 => ⟨S_, .f32⟩
  | 16 => ⟨S2x256, .f32⟩
  | 17 => ⟨S8192x256, .f32⟩
  | 18 => ⟨S8194x256, .f32⟩
  | 19 => ⟨S1x256, .f32⟩
  | 20 => ⟨S256, .f32⟩
  | 21 => ⟨S8192x256, .f32⟩
  | 22 => ⟨S1x256, .f32⟩
  | 23 => ⟨S8192x256, .f32⟩
  | 24 => ⟨S8192x256, .f32⟩
  | 25 => ⟨S1x256, .f32⟩
  | 26 => ⟨S256, .f32⟩
  | 27 => ⟨S8192x256, .f32⟩
  | 28 => ⟨S1x256, .f32⟩
  | 29 => ⟨S8192x256, .f32⟩
  | 30 => ⟨S8192x256, .f32⟩
  | 31 => ⟨S8192x256, .f32⟩
  | 32 => ⟨S1x256, .f32⟩
  | 33 => ⟨S256, .f32⟩
  | 34 => ⟨S8192x256, .f32⟩
  | 35 => ⟨S1x256, .f32⟩
  | 36 => ⟨S8192x256, .f32⟩
  | 37 => ⟨S8192x256, .f32⟩
  | 38 => ⟨S8192x256, .f32⟩
  | 39 => ⟨S1x256, .f32⟩
  | 40 => ⟨S8192x256, .f32⟩
  | 41 => ⟨S8192x256, .f32⟩
  | 42 => ⟨S8192x256, .f32⟩
  | 43 => ⟨S256, .f32⟩
  | 44 => ⟨S8192x256, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x256, .f32⟩
  | 56 => ⟨S8192x256, .f32⟩
  | 57 => ⟨S1x256, .f32⟩
  | 58 => ⟨S8192x256, .f32⟩
  | 59 => ⟨S8192x256, .f32⟩
  | 60 => ⟨S256, .f32⟩
  | 61 => ⟨S8192x256, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1, .f32⟩
  | 72 => ⟨S8192x256, .f32⟩
  | 73 => ⟨S8192x256, .f32⟩
  | 74 => ⟨S1x256, .f32⟩
  | 75 => ⟨S8192x256, .f32⟩
  | 76 => ⟨S8192x256, .f32⟩
  | 77 => ⟨S256, .f32⟩
  | 78 => ⟨S8192x256, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x256, .f32⟩
  | 90 => ⟨S8192x256, .f32⟩
  | 91 => ⟨S1x256, .f32⟩
  | 92 => ⟨S8192x256, .f32⟩
  | 93 => ⟨S8192x256, .f32⟩
  | 94 => ⟨S256, .f32⟩
  | 95 => ⟨S8192x256, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S8192x1, .f32⟩
  | 106 => ⟨S8192x256, .f32⟩
  | 107 => ⟨S8192x256, .f32⟩
  | 108 => ⟨S1x256, .f32⟩
  | 109 => ⟨S8192x256, .f32⟩
  | 110 => ⟨S8192x256, .f32⟩
  | 111 => ⟨S8192x1024, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x1024, .f32⟩
  | 7 => ⟨S8192x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192, .f32⟩
  | 19 => ⟨S_, .f32⟩
  | 20 => ⟨S8192, .f32⟩
  | 21 => ⟨S8192, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S8192, .f32⟩
  | 30 => ⟨S_, .f32⟩
  | 31 => ⟨S8192, .f32⟩
  | 32 => ⟨S8192, .f32⟩
  | 33 => ⟨S8192x1024, .f32⟩
  | 34 => ⟨S8192x1024, .f32⟩
  | 35 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call0_v0 : Ref sig .tc := ⟨.hbm, 112, rfl⟩
abbrev main_call0_v1 : Ref sig .tc := ⟨.hbm, 113, rfl⟩
abbrev main_call0_cst : Ref sig .tc := ⟨.hbm, 114, rfl⟩
abbrev main_call0_v2 : Ref sig .tc := ⟨.hbm, 115, rfl⟩
abbrev main_call0_v3 : Ref sig .tc := ⟨.hbm, 116, rfl⟩
abbrev main_call0_cst_0 : Ref sig .tc := ⟨.hbm, 117, rfl⟩
abbrev main_call0_v4 : Ref sig .tc := ⟨.hbm, 118, rfl⟩
abbrev main_call0_v5 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_12 : Ref sig .tc := ⟨.hbm, 124, rfl⟩
abbrev main_v92 : Ref sig .tc := ⟨.hbm, 125, rfl⟩
abbrev main_v93 : Ref sig .tc := ⟨.hbm, 126, rfl⟩
abbrev main_cst_13 : Ref sig .tc := ⟨.hbm, 127, rfl⟩
abbrev main_v94 : Ref sig .tc := ⟨.hbm, 128, rfl⟩
abbrev main_v95 : Ref sig .tc := ⟨.hbm, 129, rfl⟩
abbrev main_cst_14 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_15 : Ref sig .tc := ⟨.hbm, 142, rfl⟩
abbrev main_v107 : Ref sig .tc := ⟨.hbm, 143, rfl⟩
abbrev main_v108 : Ref sig .tc := ⟨.hbm, 144, rfl⟩
abbrev main_cst_16 : Ref sig .tc := ⟨.hbm, 145, rfl⟩
abbrev main_v109 : Ref sig .tc := ⟨.hbm, 146, rfl⟩
abbrev main_cst_17 : Ref sig .tc := ⟨.hbm, 147, rfl⟩
abbrev main_v110 : Ref sig .tc := ⟨.hbm, 148, rfl⟩
abbrev main_v111 : Ref sig .tc := ⟨.hbm, 149, rfl⟩
abbrev main_cst_18 : Ref sig .tc := ⟨.hbm, 150, rfl⟩
abbrev main_v112 : Ref sig .tc := ⟨.hbm, 151, rfl⟩
abbrev main_cst_19 : Ref sig .tc := ⟨.hbm, 152, rfl⟩
abbrev main_v113 : Ref sig .tc := ⟨.hbm, 153, rfl⟩
abbrev main_cst_20 : Ref sig .tc := ⟨.hbm, 154, rfl⟩
abbrev main_cst_21 : Ref sig .tc := ⟨.hbm, 155, rfl⟩
abbrev main_v114 : Ref sig .tc := ⟨.hbm, 156, rfl⟩
abbrev main_v115 : Ref sig .tc := ⟨.hbm, 157, rfl⟩
abbrev main_cst_22 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩

abbrev nD : Nat := 1
abbrev τ : Topo := Topo.v7x

variable {F : FTy → Type} [FloatOps F]
-- ==== Kernel6.lean ====
abbrev S8192x1024 : Shape := ⟨2, ![8192, 1024]⟩
abbrev S8192x3488 : Shape := ⟨2, ![8192, 3488]⟩
abbrev S8192x256 : Shape := ⟨2, ![8192, 256]⟩
abbrev S3x256 : Shape := ⟨2, ![3, 256]⟩
abbrev S256 : Shape := ⟨1, ![256]⟩
abbrev S1024 : Shape := ⟨1, ![1024]⟩
abbrev S1024x1024 : Shape := ⟨2, ![1024, 1024]⟩
abbrev S8192x1184 : Shape := ⟨2, ![8192, 1184]⟩
abbrev S_ : Shape := ⟨0, ![]⟩
abbrev S8192x96 : Shape := ⟨2, ![8192, 96]⟩
abbrev S8192x2304 : Shape := ⟨2, ![8192, 2304]⟩
abbrev S1x256 : Shape := ⟨2, ![1, 256]⟩
abbrev S1x1024 : Shape := ⟨2, ![1, 1024]⟩
abbrev S512x1024 : Shape := ⟨2, ![512, 1024]⟩
abbrev S512x256 : Shape := ⟨2, ![512, 256]⟩
abbrev S8x256 : Shape := ⟨2, ![8, 256]⟩
abbrev S512x1 : Shape := ⟨2, ![512, 1]⟩
abbrev S512 : Shape := ⟨1, ![512]⟩

abbrev nBuf : Space → Nat
  | .hbm => 20
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x3488, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S3x256, .f32⟩
  | .hbm, ⟨6, _⟩ => ⟨S256, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S8192x1184, .f32⟩
  | .hbm, ⟨12, _⟩ => ⟨S_, .f32⟩
  | .hbm, ⟨13, _⟩ => ⟨S8192x96, .f32⟩
  | .hbm, ⟨14, _⟩ => ⟨S8192x2304, .f32⟩
  | .hbm, ⟨15, _⟩ => ⟨S1x256, .f32⟩
  | .hbm, ⟨16, _⟩ => ⟨S1x1024, .f32⟩
  | .hbm, ⟨17, _⟩ => ⟨S1024x1024, .bf16⟩
  | .hbm, ⟨18, _⟩ => ⟨S1x1024, .f32⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S3x256, .f32⟩
  | .local _ .vmem, ⟨21, _⟩ => ⟨S1x256, .f32⟩
  | .local _ .vmem, ⟨22, _⟩ => ⟨S1x1024, .f32⟩
  | .local _ .vmem, ⟨23, _⟩ => ⟨S1024x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S8192x1024 : Shape := ⟨2, ![8192, 1024]⟩
abbrev S8192x3488 : Shape := ⟨2, ![8192, 3488]⟩
abbrev S8192x256 : Shape := ⟨2, ![8192, 256]⟩
abbrev S3x256 : Shape := ⟨2, ![3, 256]⟩
abbrev S256 : Shape := ⟨1, ![256]⟩
abbrev S1024 : Shape := ⟨1, ![1024]⟩
abbrev S1024x1024 : Shape := ⟨2, ![1024, 1024]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S8192 : Shape := ⟨1, ![8192]⟩
abbrev S8192x1 : Shape := ⟨2, ![8192, 1]⟩
abbrev S1x1024 : Shape := ⟨2, ![1, 1024]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8192x3488, .f32⟩
  | 2 => ⟨S8192x256, .f32⟩
  | 3 => ⟨S8192x256, .f32⟩
  | 4 => ⟨S8192x256, .f32⟩
  | 5 => ⟨S3x256, .f32⟩
  | 6 => ⟨S256, .f32⟩
  | 7 => ⟨S1024, .f32⟩
  | 8 => ⟨S1024x1024, .f32⟩
  | 9 => ⟨S1024, .f32⟩
  | 10 => ⟨S8192x256, .f32⟩
  | 11 => ⟨S8192x256, .f32⟩
  | 12 => ⟨S8192x256, .f32⟩
  | 13 => ⟨S8192x1024, .f32⟩
  | 14 => ⟨S_, .f32⟩
  | 15 => ⟨S2x256, .f32⟩
  | 16 => ⟨S8192x256, .f32⟩
  | 17 => ⟨S8194x256, .f32⟩
  | 18 => ⟨S1x256, .f32⟩
  | 19 => ⟨S256, .f32⟩
  | 20 => ⟨S8192x256, .f32⟩
  | 21 => ⟨S1x256, .f32⟩
  | 22 => ⟨S8192x256, .f32⟩
  | 23 => ⟨S8192x256, .f32⟩
  | 24 => ⟨S1x256, .f32⟩
  | 25 => ⟨S256, .f32⟩
  | 26 => ⟨S8192x256, .f32⟩
  | 27 => ⟨S1x256, .f32⟩
  | 28 => ⟨S8192x256, .f32⟩
  | 29 => ⟨S8192x256, .f32⟩
  | 30 => ⟨S8192x256, .f32⟩
  | 31 => ⟨S1x256, .f32⟩
  | 32 => ⟨S256, .f32⟩
  | 33 => ⟨S8192x256, .f32⟩
  | 34 => ⟨S1x256, .f32⟩
  | 35 => ⟨S8192x256, .f32⟩
  | 36 => ⟨S8192x256, .f32⟩
  | 37 => ⟨S8192x256, .f32⟩
  | 38 => ⟨S1x256, .f32⟩
  | 39 => ⟨S8192x256, .f32⟩
  | 40 => ⟨S8192x256, .f32⟩
  | 41 => ⟨S8192x256, .f32⟩
  | 42 => ⟨S256, .f32⟩
  | 43 => ⟨S8192x256, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x256, .f32⟩
  | 55 => ⟨S8192x256, .f32⟩
  | 56 => ⟨S1x256, .f32⟩
  | 57 => ⟨S8192x256, .f32⟩
  | 58 => ⟨S8192x256, .f32⟩
  | 59 => ⟨S256, .f32⟩
  | 60 => ⟨S8192x256, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1, .f32⟩
  | 71 => ⟨S8192x256, .f32⟩
  | 72 => ⟨S8192x256, .f32⟩
  | 73 => ⟨S1x256, .f32⟩
  | 74 => ⟨S8192x256, .f32⟩
  | 75 => ⟨S8192x256, .f32⟩
  | 76 => ⟨S256, .f32⟩
  | 77 => ⟨S8192x256, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x1, .f32⟩
  | 88 => ⟨S8192x256, .f32⟩
  | 89 => ⟨S8192x256, .f32⟩
  | 90 => ⟨S1x256, .f32⟩
  | 91 => ⟨S8192x256, .f32⟩
  | 92 => ⟨S8192x256, .f32⟩
  | 93 => ⟨S256, .f32⟩
  | 94 => ⟨S8192x256, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x1, .f32⟩
  | 105 => ⟨S8192x256, .f32⟩
  | 106 => ⟨S8192x256, .f32⟩
  | 107 => ⟨S1x256, .f32⟩
  | 108 => ⟨S8192x256, .f32⟩
  | 109 => ⟨S8192x256, .f32⟩
  | 110 => ⟨S8192x1024, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_12 : Ref sig .tc := ⟨.hbm, 123, rfl⟩
abbrev main_v92 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩
abbrev main_v95 : Ref sig .tc := ⟨.hbm, 128, rfl⟩
abbrev main_cst_14 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]
-- ==== Proof.LayerEnd.lean ====
module

public import proofs.«01_k».proof.Reference5Ideal
public import Idealize.ShloMosaic.Lib.Pointwise

/-!
# The end of a layer, entry by entry

After the attentions a layer convolves three groups of columns of the projection, normalises the four outputs by themselves,
gates them, multiplies them by a matrix, normalises the product and adds it to the activations. Here this is written for one
entry, as sums over the rows' and columns' numbers.
-/

@[expose] public section

set_option maxRecDepth 16384

noncomputable section

namespace Cert.Reference5Ideal.LayerEnd

open Idealize.ShloMosaic Cert.Reference5Ideal

/-- What the convolution is of: the product of two columns of the projection. -/
def inner (h : FVec Ideal S8192x3488 .f32) (i : Fin 8192) (l : Fin 256) : EReal :=
  h (ix2 i (⟨768 + l.val, by have := l.isLt; omega⟩ : Fin 3488)) * h (ix2 i (⟨1024 + l.val, by have := l.isLt; omega⟩ : Fin 3488))

/-- The same, `n` rows before; zero before the first row. -/
def before (h : FVec Ideal S8192x3488 .f32) (n : ℕ) (i : Fin 8192) (l : Fin 256) : EReal :=
  if n ≤ i.val then inner h ⟨i.val - n, Nat.lt_of_le_of_lt (Nat.sub_le _ _) i.isLt⟩ l else 0

/-- Only the difference matters. -/
theorem before_eq (h : FVec Ideal S8192x3488 .f32) (n n' : ℕ) (i i' : Fin 8192) (l : Fin 256) (e : i.val + n' = i'.val + n) :
    before h n i l = before h n' i' l := by
  unfold before
  by_cases hn : n ≤ i.val
  · rw [if_pos hn, if_pos (by omega)]
    exact congrArg (fun j => inner h j l) (Fin.ext (show i.val - n = i'.val - n' by omega))
  · rw [if_neg hn, if_neg (by omega)]

/-- No rows before is the row itself. -/
theorem before_zero (h : FVec Ideal S8192x3488 .f32) (i : Fin 8192) (l : Fin 256) : before h 0 i l = inner h i l :=
  if_pos (Nat.zero_le _)

/-- The gated convolution. -/
def gated (h : FVec Ideal S8192x3488 .f32) (cw : FVec Ideal S3x256 .f32) (cb : FVec Ideal S256 .f32) (i : Fin 8192) (l : Fin 256) : EReal :=
  h (ix2 i (⟨512 + l.val, by have := l.isLt; omega⟩ : Fin 3488))
    * (cw (ix2 (0 : Fin 3) l) * before h 2 i l + cw (ix2 (1 : Fin 3) l) * before h 1 i l + cw (ix2 (2 : Fin 3) l) * before h 0 i l + cb (ix1 l))

/-- The inverse root of the mean square of 256 numbers. -/
def inverse (f : Fin 256 → EReal) : EReal :=
  Ideal.rsqrt (Ideal.div (∑ l : Fin 256, f l * f l) (Ideal.ofBits .f32 0x43800000#32) + Ideal.ofBits .f32 0x358637BD#32)

/-- Four groups of columns side by side. -/
def four (a b c d : Fin 256 → EReal) (k : Fin 1024) : EReal :=
  if h : k.val < 256 then a ⟨k.val, h⟩
  else if h2 : k.val - 256 < 256 then b ⟨k.val - 256, h2⟩
  else if h3 : k.val - 256 - 256 < 256 then c ⟨k.val - 256 - 256, h3⟩
  else d ⟨k.val - 256 - 256 - 256, by have := k.isLt; omega⟩

/-- The four normalised groups. -/
def groups (ya : FVec Ideal S8192x256 .f32) (yb : Fin 8192 → Fin 256 → EReal) (yc yd : FVec Ideal S8192x256 .f32) (i : Fin 8192) (k : Fin 1024) : EReal :=
  four (fun l => ya (ix2 i l) * inverse fun l => ya (ix2 i l)) (fun l => yb i l * inverse (yb i))
    (fun l => yc (ix2 i l) * inverse fun l => yc (ix2 i l)) (fun l => yd (ix2 i l) * inverse fun l => yd (ix2 i l)) k

/-- The gate times its sigmoid. -/
def gate (h : FVec Ideal S8192x3488 .f32) (i : Fin 8192) (k : Fin 1024) : EReal :=
  h (ix2 i (⟨2464 + k.val, by have := k.isLt; omega⟩ : Fin 3488))
    * Ideal.div (Ideal.ofBits .f32 0x3F800000#32)
        (Ideal.ofBits .f32 0x3F800000#32 + Ideal.exp (-h (ix2 i (⟨2464 + k.val, by have := k.isLt; omega⟩ : Fin 3488))))

/-- The product with the matrix. -/
def product (h : FVec Ideal S8192x3488 .f32) (ya : FVec Ideal S8192x256 .f32) (yb : Fin 8192 → Fin 256 → EReal) (yc yd : FVec Ideal S8192x256 .f32)
    (gg : FVec Ideal S1024 .f32) (w : FVec Ideal S1024x1024 .f32) (i : Fin 8192) (n : Fin 1024) : EReal :=
  ∑ k : Fin 1024, groups ya yb yc yd i k * gg (ix1 k) * gate h i k * w (ix2 k n)

/-- The layer's result less the target, of the product `z`. -/
def away (x : FVec Ideal S8192x1024 .f32) (z : Fin 8192 → Fin 1024 → EReal) (gp : FVec Ideal S1024 .f32) (target : FVec Ideal S8192x1024 .f32)
    (i : Fin 8192) (n : Fin 1024) : EReal :=
  x (ix2 i n) + z i n * Ideal.rsqrt (Ideal.div (∑ k : Fin 1024, z i k * z i k) (Ideal.ofBits .f32 0x44800000#32) + Ideal.ofBits .f32 0x358637BD#32)
    * gp (ix1 n) - target (ix2 i n)

/-- The layer's result less the target. -/
def difference (x : FVec Ideal S8192x1024 .f32) (h : FVec Ideal S8192x3488 .f32) (ya yc yd : FVec Ideal S8192x256 .f32) (cw : FVec Ideal S3x256 .f32)
    (cb : FVec Ideal S256 .f32) (gg : FVec Ideal S1024 .f32) (w : FVec Ideal S1024x1024 .f32) (gp : FVec Ideal S1024 .f32)
    (target : FVec Ideal S8192x1024 .f32) : Fin 8192 → Fin 1024 → EReal :=
  away x (product h ya (gated h cw cb) yc yd gg w) gp target

/-- Half of a row's share of its mean. -/
theorem half_share : Ideal.ofBits .f32 0x3A000000#32 = ((1 / 2048 : ℝ) : EReal) := by
  simp [Ideal.ofBits, Ideal.ieee, -EReal.coe_mul]; norm_num

end Cert.Reference5Ideal.LayerEnd

end
-- ==== Proof.Forward.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

/-!
# The input projection

The call normalises 512 rows of the activations at a point and multiplies them by the projection's matrix, whose columns
lie in the call's order, with zeros at the end. Nothing is added over the points.
-/

@[expose] public section

set_option maxRecDepth 16384

noncomputable section

namespace Cert.Reference4Ideal.Forward

open Idealize.ShloMosaic Cert.Reference4Ideal.Gen Cert.Reference4Ideal

/-- The normalised and scaled activations. -/
def normed (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf
      (Host.divf (broadcastInDim S8192x1 ![0] bcast_S8192_S8192x1_0
          (Host.reduceAdd (mulf x x) (constant S_ .f32 0x00000000#32) reducesTo_S8192x1024_S8192_d1 h_S_))
        (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

/-- An entry of the projection. -/
def entry (xn : FVec Ideal S8192x1024 .f32) (w : FVec Ideal S3488x1024 .f32) (i : Fin 8192) (n : Fin 3488) : EReal :=
  ∑ k : Fin 1024, xn (ix2 i k) * w (ix2 n k)

/-- The same, at a column of the call's layout. -/
def wide (xn : FVec Ideal S8192x1024 .f32) (w : FVec Ideal S3488x1024 .f32) (i : Fin 8192) (l : ℕ) : EReal :=
  if h : l < 512 then entry xn w i ⟨l, by omega⟩
  else if h : l < 2304 then entry xn w i ⟨l + 1184, by omega⟩
  else if h : l < 3488 then entry xn w i ⟨l - 1792, by omega⟩ else 0

/-- The projection as the host computes it. -/
def host (xn : FVec Ideal S8192x1024 .f32) (w : FVec Ideal S3488x1024 .f32) : FVec Ideal S8192x3488 .f32 :=
  Host.dotGeneral dot_S8192x1024_S1024x3488_S8192x3488_1_0_0_1_n_n none xn (transpose S1024x3488 [1, 0] w transposes_S3488x1024_S1024x3488_1_0)

theorem host_at (xn : FVec Ideal S8192x1024 .f32) (w : FVec Ideal S3488x1024 .f32) (i : Fin 8192) (n : Fin 3488) :
    host xn w (ix2 i n) = entry xn w i n := by
  pointwise [host, entry]

/-- The first 1280 columns of the call's layout. -/
theorem first_columns (xn : FVec Ideal S8192x1024 .f32) (w : FVec Ideal S3488x1024 .f32) (i : Fin 8192) (l : Fin 1280) :
    concatenate S8192x1280 1 [⟨S8192x512, extractStridedSlice S8192x512 ![0, 0] (host xn w) slices_S8192x3488_S8192x512_0_0⟩,
      ⟨S8192x768, extractStridedSlice S8192x768 ![0, 1696] (host xn w) slices_S8192x3488_S8192x768_0_1696⟩]
      concatenates_S8192x512_S8192x768_S8192x1280_d1 (ix2 i l) = wide xn w i l.val := by
  have hl := l.isLt
  generalize hA : host xn w = A
  have hA' : ∀ n, A (ix2 i n) = entry xn w i n := fun n => by rw [← hA, host_at]
  pointwise []
  unfold wide
  by_cases h : l.val < 512
  · rw [dif_pos h, dif_pos h]
    exact hA' _
  · rw [dif_neg h, dif_neg h, dif_pos (by omega)]
    exact (congrArg (fun n : Fin 3488 => A (ix2 i n)) (Fin.ext (show _ = l.val + 1184 by simp; omega))).trans (hA' _)

/-- The other columns. -/
theorem last_columns (xn : FVec Ideal S8192x1024 .f32) (w : FVec Ideal S3488x1024 .f32) (i : Fin 8192) (l : Fin 2304) :
    concatenate S8192x2304 1 [⟨S8192x1024, extractStridedSlice S8192x1024 ![0, 2464] (host xn w) slices_S8192x3488_S8192x1024_0_2464⟩,
      ⟨S8192x1184, extractStridedSlice S8192x1184 ![0, 512] (host xn w) slices_S8192x3488_S8192x1184_0_512⟩,
      ⟨S8192x96, broadcastInDim S8192x96 ![] bcast_S_S8192x96 (constant S_ .f32 0x00000000#32)⟩]
      concatenates_S8192x1024_S8192x1184_S8192x96_S8192x2304_d1 (ix2 i l) = wide xn w i (1280 + l.val) := by
  have hl := l.isLt
  generalize hA : host xn w = A
  have hA' : ∀ n, A (ix2 i n) = entry xn w i n := fun n => by rw [← hA, host_at]
  pointwise []
  unfold wide
  rw [dif_neg (show ¬ 1280 + l.val < 512 by omega)]
  by_cases h : l.val < 1024
  · rw [dif_pos h, dif_pos (show 1280 + l.val < 2304 by omega)]
    exact (congrArg (fun n : Fin 3488 => A (ix2 i n)) (Fin.ext (show 2464 + l.val = 1280 + l.val + 1184 by omega))).trans (hA' _)
  · rw [dif_neg h, dif_neg (show ¬ 1280 + l.val < 2304 by omega)]
    by_cases h2 : l.val < 2208
    · rw [dif_pos (show l.val - 1024 < 1184 by omega), dif_pos (show 1280 + l.val < 3488 by omega)]
      exact (congrArg (fun n : Fin 3488 => A (ix2 i n)) (Fin.ext (show 512 + (l.val - 1024) = 1280 + l.val - 1792 by omega))).trans (hA' _)
    · rw [dif_neg (show ¬ l.val - 1024 < 1184 by omega), dif_neg (show ¬ 1280 + l.val < 3488 by omega)]

end Cert.Reference4Ideal.Forward

namespace Cert.Kernel4Ideal.Forward

open Idealize.ShloMosaic Idealize.ShloMosaic.TcCoe Idealize.ShloMosaic.Tactic Cert.Kernel4Ideal.Gen Cert.Kernel4Ideal
open Cert.Reference4Ideal.Forward (normed entry wide)

variable (m : (ℓ : Loc nD τ sig) → Buf (Elt Ideal) ℓ) (c : Dev nD)

/-- The activations. -/
abbrev argx : FVec Ideal S8192x1024 .f32 := m ((c : Thread nD τ).loc main_arg0)
/-- The scale of the normalisation. -/
abbrev argg : FVec Ideal S1024 .f32 := m ((c : Thread nD τ).loc main_arg1)
/-- The projection's matrix, its columns as rows. -/
abbrev argw : FVec Ideal S3488x1024 .f32 := m ((c : Thread nD τ).loc main_arg2)

/-- The matrix in the call's layout. -/
def rows (w : FVec Ideal S3488x1024 .f32) : FVec Ideal S3584x1024 .f32 :=
  concatenate S3584x1024 0 [⟨S512x1024, extractStridedSlice S512x1024 ![0, 0] w slices_S3488x1024_S512x1024_0_0⟩,
    ⟨S1792x1024, extractStridedSlice S1792x1024 ![1696, 0] w slices_S3488x1024_S1792x1024_1696_0⟩,
    ⟨S1184x1024, extractStridedSlice S1184x1024 ![512, 0] w slices_S3488x1024_S1184x1024_512_0⟩,
    ⟨S96x1024, broadcastInDim S96x1024 ![] bcast_S_S96x1024 (constant S_ .f32 0x00000000#32)⟩]
    concatenates_S512x1024_S1792x1024_S1184x1024_S96x1024_S3584x1024_d0

theorem rows_at (w : FVec Ideal S3488x1024 .f32) (l : Fin 3584) (k : Fin 1024) : rows w (ix2 l k) =
    if h : l.val < 512 then w (ix2 ⟨l.val, by omega⟩ k)
    else if h : l.val < 2304 then w (ix2 ⟨l.val + 1184, by omega⟩ k)
    else if h : l.val < 3488 then w (ix2 ⟨l.val - 1792, by omega⟩ k) else 0 := by
  have hl := l.isLt
  pointwise [rows]
  by_cases h : l.val < 512
  · rw [dif_pos h, dif_pos h]
  · rw [dif_neg h, dif_neg h]
    by_cases h2 : l.val < 2304
    · rw [dif_pos (show l.val - 512 < 1792 by omega), dif_pos h2]
      exact congrArg (fun n : Fin 3488 => w (ix2 n k)) (Fin.ext (show 1696 + (l.val - 512) = l.val + 1184 by omega))
    · rw [dif_neg (show ¬ l.val - 512 < 1792 by omega), dif_neg h2]
      by_cases h3 : l.val < 3488
      · rw [dif_pos (show l.val - 512 - 1792 < 1184 by omega), dif_pos h3]
        exact congrArg (fun n : Fin 3488 => w (ix2 n k)) (Fin.ext (show 512 + (l.val - 512 - 1792) = l.val - 1792 by omega))
      · rw [dif_neg (show ¬ l.val - 512 - 1792 < 1184 by omega), dif_neg h3]

theorem product (xn : FVec Ideal S8192x1024 .f32) (w : FVec Ideal S3488x1024 .f32) (i : Fin 8192) (l : Fin 3584) :
    ∑ k : Fin 1024, xn (ix2 i k) * rows w (ix2 l k) = wide xn w i l.val := by
  unfold wide entry
  simp only [rows_at]
  split
  · rfl
  split
  · rfl
  split
  · rfl
  exact Finset.sum_eq_zero fun k _ => mul_zero _

theorem V_v0 : V m c main_v0 = shapeCast S1x1024 (argg m c) shapeCasts_S1024_S1x1024 := by
  simp only [V, hostOps0]
  after_reads_simp
  rfl

theorem V_v6 : V m c main_v6 = truncf .bf16 (rows (argw m c)) bitsLt_bf16_f32 := by
  simp only [V, hostOps0]
  after_reads_simp
  rfl

theorem ix2_of {n0 n1 : ℕ} {x : (a : Fin 2) → Fin ((![n0, n1] : Fin 2 → ℕ) a)} {a : Fin n0} {b : Fin n1}
    (ha : (x 0).val = a.val) (hb : (x 1).val = b.val) : x = ix2 a b :=
  funext (Fin.forall_fin_two.2 ⟨Fin.ext ha, Fin.ext hb⟩)

/-- Row `r` of the block of point `t`. -/
def row (t : Fin cfg0.N) (r : Fin 512) : Fin 8192 :=
  ⟨t.val * 512 + r.val, by have h := Nat.lt_of_lt_of_eq t.isLt N_0; have hr := r.isLt; omega⟩

theorem row_val (t : Fin cfg0.N) (r : Fin 512) : (row t r).val = t.val * 512 + r.val := rfl

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel

theorem emb_0 (t : Fin cfg0.N) (r : Fin 512) (l : Fin 1024) : ((win0_0.blk t).view.emb (ix2 r l) : S8192x1024.Idx) = ix2 (row t r) l := by
  refine ix2_of ?_ ?_
  · rw [row_val]
    blk_simp [index_0]
  · blk_simp [index_0]
theorem emb_1 (t : Fin cfg0.N) (r : Fin 1) (l : Fin 1024) : ((win0_1.blk t).view.emb (ix2 r l) : S1x1024.Idx) = ix2 r l := by
  refine ix2_of ?_ ?_
  · blk_simp [index_1]
  · blk_simp [index_1]
theorem emb_2 (t : Fin cfg0.N) (r : Fin 3584) (l : Fin 1024) : ((win0_2.blk t).view.emb (ix2 r l) : S3584x1024.Idx) = ix2 r l := by
  refine ix2_of ?_ ?_
  · blk_simp [index_2]
  · blk_simp [index_2]
theorem emb_3 (t : Fin cfg0.N) (r : Fin 512) (l : Fin 1024) : ((win0_3.blk t).view.emb (ix2 r l) : S8192x1024.Idx) = ix2 (row t r) l := by
  refine ix2_of ?_ ?_
  · rw [row_val]
    blk_simp [index_3]
  · blk_simp [index_3]
theorem emb_4 (t : Fin cfg0.N) (r : Fin 512) (l : Fin 1280) : ((win0_4.blk t).view.emb (ix2 r l) : S8192x1280.Idx) = ix2 (row t r) l := by
  refine ix2_of ?_ ?_
  · rw [row_val]
    blk_simp [index_4]
  · blk_simp [index_4]
theorem emb_5 (t : Fin cfg0.N) (r : Fin 512) (l : Fin 2304) : ((win0_5.blk t).view.emb (ix2 r l) : S8192x2304.Idx) = ix2 (row t r) l := by
  refine ix2_of ?_ ?_
  · rw [row_val]
    blk_simp [index_5]
  · blk_simp [index_5]

theorem read_0 (X : (b : Ref sig .tc) → Buf (Elt Ideal) ((c : Thread nD τ).loc b)) (t : Fin cfg0.N) (r : Fin 512) (l : Fin 1024) :
    (((cfg0.win 0).blk t).view.read (Elt Ideal) (X (Pipeline.arrRef spec0 0)) : Vec Ideal S512x1024 .f32) (ix2 r l)
      = (X main_arg0 : FVec Ideal S8192x1024 .f32) (ix2 (row t r) l) :=
  congrArg (X main_arg0) (emb_0 t r l)
theorem read_1 (X : (b : Ref sig .tc) → Buf (Elt Ideal) ((c : Thread nD τ).loc b)) (t : Fin cfg0.N) (r : Fin 1) (l : Fin 1024) :
    (((cfg0.win 1).blk t).view.read (Elt Ideal) (X (Pipeline.arrRef spec0 1)) : Vec Ideal S1x1024 .f32) (ix2 r l)
      = (X main_v0 : FVec Ideal S1x1024 .f32) (ix2 r l) :=
  congrArg (X main_v0) (emb_1 t r l)
theorem read_2 (X : (b : Ref sig .tc) → Buf (Elt Ideal) ((c : Thread nD τ).loc b)) (t : Fin cfg0.N) (r : Fin 3584) (l : Fin 1024) :
    (((cfg0.win 2).blk t).view.read (Elt Ideal) (X (Pipeline.arrRef spec0 2)) : Vec Ideal S3584x1024 .bf16) (ix2 r l)
      = (X main_v6 : FVec Ideal S3584x1024 .bf16) (ix2 r l) :=
  congrArg (X main_v6) (emb_2 t r l)

theorem block_0 {A : FVec Ideal S8192x1024 .f32} (hA : V m c main_arg0 = A) (t : Fin cfg0.N) (r : Fin 512) (l : Fin 1024) :
    (iblk m c 0 t : Vec Ideal S512x1024 .f32) (ix2 r l) = A (ix2 (row t r) l) := by
  subst hA
  unfold iblk
  exact read_0 c (V m c) t r l
theorem block_1 {A : FVec Ideal S1x1024 .f32} (hA : V m c main_v0 = A) (t : Fin cfg0.N) (r : Fin 1) (l : Fin 1024) :
    (iblk m c 1 t : Vec Ideal S1x1024 .f32) (ix2 r l) = A (ix2 r l) := by
  subst hA
  unfold iblk
  exact read_1 c (V m c) t r l
theorem block_2 {A : FVec Ideal S3584x1024 .bf16} (hA : V m c main_v6 = A) (t : Fin cfg0.N) (r : Fin 3584) (l : Fin 1024) :
    (iblk m c 2 t : Vec Ideal S3584x1024 .bf16) (ix2 r l) = A (ix2 r l) := by
  subst hA
  unfold iblk
  exact read_2 c (V m c) t r l

theorem flat_at (g : FVec Ideal S1024 .f32) (r : Fin 1) (l : Fin 1024) : shapeCast S1x1024 g shapeCasts_S1024_S1x1024 (ix2 r l) = g (ix1 l) := by
  pointwise []

/-- A block's normalised rows are those of the whole array. -/
theorem pay1 (x : FVec Ideal S8192x1024 .f32) (g : FVec Ideal S1024 .f32) (v : Vec Ideal S512x1024 .f32) (u : Vec Ideal S1x1024 .f32)
    (i : Fin 512 → Fin 8192) (hv : ∀ r l, v (ix2 r l) = x (ix2 (i r) l)) (hu : ∀ r l, u (ix2 r l) = g (ix1 l)) (r : Fin 512) (l : Fin 1024) :
    k0_pay1 (F := Ideal) v u (ix2 r l) = normed x g (ix2 (i r) l) := by
  pointwise [k0_pay1, normed]
  simp only [hv, hu]

theorem pay2 (v : Vec Ideal S512x1024 .f32) (u : Vec Ideal S1x1024 .f32) (w : Vec Ideal S3584x1024 .bf16) (r : Fin 512) (l : Fin 3584) :
    k0_pay2 (F := Ideal) v u w (ix2 r l) = ∑ k : Fin 1024, k0_pay1 (F := Ideal) v u (ix2 r k) * w (ix2 l k) := by
  pointwise [k0_pay2]

/-- The normalised rows at a point. -/
theorem normed_block (t : Fin cfg0.N) (r : Fin 512) (l : Fin 1024) :
    k0_pay1 (F := Ideal) (iblk m c 0 t) (iblk m c 1 t) (ix2 r l) = normed (argx m c) (argg m c) (ix2 (row t r) l) :=
  pay1 _ _ _ _ (row t) (block_0 m c (V_main_arg0 m c) t) (fun r l => (block_1 m c (V_v0 m c) t r l).trans (flat_at _ r l)) r l

/-- The projection's rows at a point. -/
theorem wide_block (t : Fin cfg0.N) (r : Fin 512) (l : Fin 3584) :
    k0_pay2 (F := Ideal) (iblk m c 0 t) (iblk m c 1 t) (iblk m c 2 t) (ix2 r l)
      = wide (normed (argx m c) (argg m c)) (argw m c) (row t r) l.val := by
  refine (pay2 _ _ _ r l).trans ((Finset.sum_congr rfl fun k _ => ?_).trans (product _ _ _ _))
  exact congrArg₂ (· * ·) (normed_block m c t r k) (block_2 m c (V_v6 m c) t l k)

theorem pay3 (v : Vec Ideal S512x1024 .f32) (u : Vec Ideal S1x1024 .f32) (w : Vec Ideal S3584x1024 .bf16) (r : Fin 512) (l : Fin 1280) :
    k0_pay3 (F := Ideal) v u w (ix2 r l) = k0_pay2 (F := Ideal) v u w (ix2 r (⟨l.val, by have := l.isLt; omega⟩ : Fin 3584)) := by
  pointwise [k0_pay3]

theorem pay4 (v : Vec Ideal S512x1024 .f32) (u : Vec Ideal S1x1024 .f32) (w : Vec Ideal S3584x1024 .bf16) (r : Fin 512) (l : Fin 2304) :
    k0_pay4 (F := Ideal) v u w (ix2 r l) = k0_pay2 (F := Ideal) v u w (ix2 r (⟨1280 + l.val, by have := l.isLt; omega⟩ : Fin 3584)) := by
  pointwise [k0_pay4]

/-- The first result: the normalised activations. -/
def result3 (x : FVec Ideal S8192x1024 .f32) (g : FVec Ideal S1024 .f32) : FVec Ideal S8192x1024 .bf16 :=
  truncf .bf16 (normed x g) bitsLt_bf16_f32

/-- The second result: the projection's first 1280 columns. -/
def result4 (x : FVec Ideal S8192x1024 .f32) (g : FVec Ideal S1024 .f32) (w : FVec Ideal S3488x1024 .f32) : FVec Ideal S8192x1280 .bf16 :=
  fun y => wide (normed x g) w (y 0) (y 1).val

/-- The third result: its other columns. -/
def result5 (x : FVec Ideal S8192x1024 .f32) (g : FVec Ideal S1024 .f32) (w : FVec Ideal S3488x1024 .f32) : FVec Ideal S8192x2304 .f32 :=
  fun y => wide (normed x g) w (y 0) (1280 + (y 1).val)

theorem point3 (t : Fin cfg0.N) (y : S512x1024.Idx) : k0_pay1 (F := Ideal) (iblk m c 0 t) (iblk m c 1 t) y
    = result3 (argx m c) (argg m c) ((win0_3.blk t).view.emb y) := by
  obtain ⟨a, b, rfl⟩ : ∃ a b, y = ix2 a b := ⟨y 0, y 1, ix2_of rfl rfl⟩
  exact (normed_block m c t a b).trans (congrArg (result3 (argx m c) (argg m c)) (emb_3 t a b)).symm

theorem point4 (t : Fin cfg0.N) (y : S512x1280.Idx) : k0_pay3 (F := Ideal) (iblk m c 0 t) (iblk m c 1 t) (iblk m c 2 t) y
    = result4 (argx m c) (argg m c) (argw m c) ((win0_4.blk t).view.emb y) := by
  obtain ⟨a, b, rfl⟩ : ∃ a b, y = ix2 a b := ⟨y 0, y 1, ix2_of rfl rfl⟩
  exact ((pay3 _ _ _ a b).trans (wide_block m c t a _)).trans (congrArg (result4 (argx m c) (argg m c) (argw m c)) (emb_4 t a b)).symm

theorem point5 (t : Fin cfg0.N) (y : S512x2304.Idx) : k0_pay4 (F := Ideal) (iblk m c 0 t) (iblk m c 1 t) (iblk m c 2 t) y
    = result5 (argx m c) (argg m c) (argw m c) ((win0_5.blk t).view.emb y) := by
  obtain ⟨a, b, rfl⟩ : ∃ a b, y = ix2 a b := ⟨y 0, y 1, ix2_of rfl rfl⟩
  exact ((pay4 _ _ _ a b).trans (wide_block m c t a _)).trans (congrArg (result5 (argx m c) (argg m c) (argw m c)) (emb_5 t a b)).symm

theorem final3 : (dats m 0 c).arrAt 3 cfg0.N = result3 (argx m c) (argg m c) := by
  refine (dats m 0 c).arrAt_eq_of_covers 3 _ (by decide +kernel) fun t _ y => ?_
  blk_simp
  rw [after0_3]
  frame_out
  exact point3 m c t y

theorem final4 : (dats m 0 c).arrAt 4 cfg0.N = result4 (argx m c) (argg m c) (argw m c) := by
  refine (dats m 0 c).arrAt_eq_of_covers 4 _ (by decide +kernel) fun t _ y => ?_
  blk_simp
  rw [after0_4]
  frame_out
  exact point4 m c t y

theorem final5 : (dats m 0 c).arrAt 5 cfg0.N = result5 (argx m c) (argg m c) (argw m c) := by
  refine (dats m 0 c).arrAt_eq_of_covers 5 _ (by decide +kernel) fun t _ y => ?_
  blk_simp
  rw [after0_5]
  frame_out
  exact point5 m c t y

end Cert.Kernel4Ideal.Forward

end
-- ==== Proof.Pieces.lean ====
module

public import proofs.«01_k».proof.Proof.Forward
public import proofs.«01_k».proof.Proof.Gen.Kernel2Ideal.Value
public import proofs.«01_k».proof.Proof.Gen.Reference2Ideal.Run

/-!
# The gradients behind the input projection

The call puts the projection's gradient together from its groups of columns, writes it out, multiplies it by the projection's
matrix, and takes the product back through the normalisation; the scale's gradient is added over the points.
-/

@[expose] public section

set_option maxRecDepth 16384

noncomputable section

namespace Cert.Kernel2Ideal.Input

open Idealize.ShloMosaic Idealize.ShloMosaic.TcCoe Idealize.ShloMosaic.Tactic Cert.Kernel2Ideal.Gen Cert.Kernel2Ideal
open Cert.Kernel4Ideal.Forward (rows rows_at ix2_of)

variable (m : (ℓ : Loc nD τ sig) → Buf (Elt Ideal) ℓ) (c : Dev nD)

/-- The activations. -/
abbrev argx : FVec Ideal S8192x1024 .f32 := m ((c : Thread nD τ).loc main_arg0)
/-- The scale of the normalisation. -/
abbrev argg : FVec Ideal S1024 .f32 := m ((c : Thread nD τ).loc main_arg1)
/-- The projection's matrix, its columns as rows. -/
abbrev argw : FVec Ideal S3488x1024 .f32 := m ((c : Thread nD τ).loc main_arg2)
/-- The gradient that comes past the projection. -/
abbrev argn : FVec Ideal S8192x1024 .f32 := m ((c : Thread nD τ).loc main_arg3)
/-- The gradient of the projection. -/
abbrev argd : FVec Ideal S8192x3488 .f32 := m ((c : Thread nD τ).loc main_arg4)

/-- The gradient of the projection at a column, zero past the last. -/
def col (d : FVec Ideal S8192x3488 .f32) (i : Fin 8192) (n : ℕ) : EReal :=
  if h : n < 3488 then d (ix2 i ⟨n, h⟩) else 0

/-- The same, at a column of the call's layout. -/
def laid (d : FVec Ideal S8192x3488 .f32) (i : Fin 8192) (l : ℕ) : EReal :=
  if l < 512 then col d i l else if l < 2304 then col d i (l + 1184) else if l < 3488 then col d i (l - 1792) else 0

/-- A column inside the array. -/
theorem col_at (d : FVec Ideal S8192x3488 .f32) (i : Fin 8192) (n : Fin 3488) {k : ℕ} (h : n.val = k) : d (ix2 i n) = col d i k := by
  subst h
  unfold col
  rw [dif_pos n.isLt]

theorem V_v1 : V m c main_v1 = truncf .bf16 (extractStridedSlice S8192x256 ![0, 0] (argd m c) slices_S8192x3488_S8192x256_0_0) bitsLt_bf16_f32 := by
  simp only [V, hostOps0]
  after_reads_simp

theorem V_v2 : V m c main_v2 = extractStridedSlice S8192x128 ![0, 256] (argd m c) slices_S8192x3488_S8192x128_0_256 := by
  simp only [V, hostOps0]
  after_reads_simp

theorem V_v3 : V m c main_v3 = extractStridedSlice S8192x128 ![0, 384] (argd m c) slices_S8192x3488_S8192x128_0_384 := by
  simp only [V, hostOps0]
  after_reads_simp

theorem V_v5 : V m c main_v5 = truncf .bf16 (extractStridedSlice S8192x256 ![0, 1696] (argd m c) slices_S8192x3488_S8192x256_0_1696) bitsLt_bf16_f32 := by
  simp only [V, hostOps0]
  after_reads_simp

theorem V_v6 : V m c main_v6 = extractStridedSlice S8192x256 ![0, 1952] (argd m c) slices_S8192x3488_S8192x256_0_1952 := by
  simp only [V, hostOps0]
  after_reads_simp

theorem V_v7 : V m c main_v7 = extractStridedSlice S8192x256 ![0, 2208] (argd m c) slices_S8192x3488_S8192x256_0_2208 := by
  simp only [V, hostOps0]
  after_reads_simp

theorem V_v11 : V m c main_v11 = truncf .bf16 (concatenate S8192x1792 1
    [⟨S8192x1024, extractStridedSlice S8192x1024 ![0, 2464] (argd m c) slices_S8192x3488_S8192x1024_0_2464⟩,
      ⟨S8192x768, extractStridedSlice S8192x768 ![0, 512] (argd m c) slices_S8192x3488_S8192x768_0_512⟩]
    concatenates_S8192x1024_S8192x768_S8192x1792_d1) bitsLt_bf16_f32 := by
  simp only [V, hostOps0]
  after_reads_simp
  rfl

theorem V_v15 : V m c main_v15 = truncf .bf16 (concatenate S8192x512 1
    [⟨S8192x416, extractStridedSlice S8192x416 ![0, 1280] (argd m c) slices_S8192x3488_S8192x416_0_1280⟩,
      ⟨S8192x96, broadcastInDim S8192x96 ![] bcast_S_S8192x96 (constant S_ .f32 0x00000000#32)⟩]
    concatenates_S8192x416_S8192x96_S8192x512_d1) bitsLt_bf16_f32 := by
  simp only [V, hostOps0]
  after_reads_simp
  rfl

theorem V_v16 : V m c main_v16 = shapeCast S1x1024 (argg m c) shapeCasts_S1024_S1x1024 := by
  simp only [V, hostOps0]
  after_reads_simp
  rfl

theorem V_v22 : V m c main_v22 = truncf .bf16 (rows (argw m c)) bitsLt_bf16_f32 := by
  simp only [V, hostOps0]
  after_reads_simp
  rfl

/-- Row `r` of the block of point `t`. -/
def row (t : Fin cfg0.N) (r : Fin 512) : Fin 8192 :=
  ⟨t.val * 512 + r.val, by have h := Nat.lt_of_lt_of_eq t.isLt N_0; have hr := r.isLt; omega⟩

theorem row_val (t : Fin cfg0.N) (r : Fin 512) : (row t r).val = t.val * 512 + r.val := rfl

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel
theorem index_8 : ∀ t : Fin cfg0.N, win0_8.index t = ![t.val, 0] := by decide +kernel
theorem index_9 : ∀ t : Fin cfg0.N, win0_9.index t = ![t.val, 0] := by decide +kernel
theorem index_10 : ∀ t : Fin cfg0.N, win0_10.index t = ![t.val, 0] := by decide +kernel
theorem index_11 : ∀ t : Fin cfg0.N, win0_11.index t = ![t.val, 0] := by decide +kernel
theorem index_12 : ∀ t : Fin cfg0.N, win0_12.index t = ![t.val, 0] := by decide +kernel
theorem index_13 : ∀ t : Fin cfg0.N, win0_13.index t = ![t.val, 0] := by decide +kernel

theorem emb_0 (t : Fin cfg0.N) (r : Fin 512) (l : Fin 1024) : ((win0_0.blk t).view.emb (ix2 r l) : S8192x1024.Idx) = ix2 (row t r) l := by
  refine ix2_of ?_ ?_
  · rw [row_val]
    blk_simp [index_0]
  · blk_simp [index_0]
theorem read_0 (X : (b : Ref sig .tc) → Buf (Elt Ideal) ((c : Thread nD τ).loc b)) (t : Fin cfg0.N) (r : Fin 512) (l : Fin 1024) :
    (((cfg0.win 0).blk t).view.read (Elt Ideal) (X (Pipeline.arrRef spec0 0)) : Vec Ideal S512x1024 .f32) (ix2 r l)
      = (X main_arg0 : FVec Ideal S8192x1024 .f32) (ix2 (row t r) l) :=
  congrArg (X main_arg0) (emb_0 t r l)
theorem block_0 {A : FVec Ideal S8192x1024 .f32} (hA : V m c main_arg0 = A) (t : Fin cfg0.N) (r : Fin 512) (l : Fin 1024) :
    (iblk m c 0 t : Vec Ideal S512x1024 .f32) (ix2 r l) = A (ix2 (row t r) l) := by
  subst hA
  unfold iblk
  exact read_0 c (V m c) t r l

theorem emb_1 (t : Fin cfg0.N) (r : Fin 1) (l : Fin 1024) : ((win0_1.blk t).view.emb (ix2 r l) : S1x1024.Idx) = ix2 r l := by
  refine ix2_of ?_ ?_
  · blk_simp [index_1]
  · blk_simp [index_1]
theorem read_1 (X : (b : Ref sig .tc) → Buf (Elt Ideal) ((c : Thread nD τ).loc b)) (t : Fin cfg0.N) (r : Fin 1) (l : Fin 1024) :
    (((cfg0.win 1).blk t).view.read (Elt Ideal) (X (Pipeline.arrRef spec0 1)) : Vec Ideal S1x1024 .f32) (ix2 r l)
      = (X main_v16 : FVec Ideal S1x1024 .f32) (ix2 r l) :=
  congrArg (X main_v16) (emb_1 t r l)
theorem block_1 {A : FVec Ideal S1x1024 .f32} (hA : V m c main_v16 = A) (t : Fin cfg0.N) (r : Fin 1) (l : Fin 1024) :
    (iblk m c 1 t : Vec Ideal S1x1024 .f32) (ix2 r l) = A (ix2 r l) := by
  subst hA
  unfold iblk
  exact read_1 c (V m c) t r l

theorem emb_2 (t : Fin cfg0.N) (r : Fin 3584) (l : Fin 1024) : ((win0_2.blk t).view.emb (ix2 r l) : S3584x1024.Idx) = ix2 r l := by
  refine ix2_of ?_ ?_
  · blk_simp [index_2]
  · blk_simp [index_2]
theorem read_2 (X : (b : Ref sig .tc) → Buf (Elt Ideal) ((c : Thread nD τ).loc b)) (t : Fin cfg0.N) (r : Fin 3584) (l : Fin 1024) :
    (((cfg0.win 2).blk t).view.read (Elt Ideal) (X (Pipeline.arrRef spec0 2)) : Vec Ideal S3584x1024 .bf16) (ix2 r l)
      = (X main_v22 : FVec Ideal S3584x1024 .bf16) (ix2 r l) :=
  congrArg (X main_v22) (emb_2 t r l)
theorem block_2 {A : FVec Ideal S3584x1024 .bf16} (hA : V m c main_v22 = A) (t : Fin cfg0.N) (r : Fin 3584) (l : Fin 1024) :
    (iblk m c 2 t : Vec Ideal S3584x1024 .bf16) (ix2 r l) = A (ix2 r l) := by
  subst hA
  unfold iblk
  exact read_2 c (V m c) t r l

theorem emb_3 (t : Fin cfg0.N) (r : Fin 512) (l : Fin 1024) : ((win0_3.blk t).view.emb (ix2 r l) : S8192x1024.Idx) = ix2 (row t r) l := by
  refine ix2_of ?_ ?_
  · rw [row_val]
    blk_simp [index_3]
  · blk_simp [index_3]
theorem read_3 (X : (b : Ref sig .tc) → Buf (Elt Ideal) ((c : Thread nD τ).loc b)) (t : Fin cfg0.N) (r : Fin 512) (l : Fin 1024) :
    (((cfg0.win 3).blk t).view.read (Elt Ideal) (X (Pipeline.arrRef spec0 3)) : Vec Ideal S512x1024 .f32) (ix2 r l)
      = (X main_arg3 : FVec Ideal S8192x1024 .f32) (ix2 (row t r) l) :=
  congrArg (X main_arg3) (emb_3 t r l)
theorem block_3 {A : FVec Ideal S8192x1024 .f32} (hA : V m c main_arg3 = A) (t : Fin cfg0.N) (r : Fin 512) (l : Fin 1024) :
    (iblk m c 3 t : Vec Ideal S512x1024 .f32) (ix2 r l) = A (ix2 (row t r) l) := by
  subst hA
  unfold iblk
  exact read_3 c (V m c) t r l

theorem emb_4 (t : Fin cfg0.N) (r : Fin 512) (l : Fin 256) : ((win0_4.blk t).view.emb (ix2 r l) : S8192x256.Idx) = ix2 (row t r) l := by
  refine ix2_of ?_ ?_
  · rw [row_val]
    blk_simp [index_4]
  · blk_simp [index_4]
theorem read_4 (X : (b : Ref sig .tc) → Buf (Elt Ideal) ((c : Thread nD τ).loc b)) (t : Fin cfg0.N) (r : Fin 512) (l : Fin 256) :
    (((cfg0.win 4).blk t).view.read (Elt Ideal) (X (Pipeline.arrRef spec0 4)) : Vec Ideal S512x256 .bf16) (ix2 r l)
      = (X main_v1 : FVec Ideal S8192x256 .bf16) (ix2 (row t r) l) :=
  congrArg (X main_v1) (emb_4 t r l)
theorem block_4 {A : FVec Ideal S8192x256 .bf16} (hA : V m c main_v1 = A) (t : Fin cfg0.N) (r : Fin 512) (l : Fin 256) :
    (iblk m c 4 t : Vec Ideal S512x256 .bf16) (ix2 r l) = A (ix2 (row t r) l) := by
  subst hA
  unfold iblk
  exact read_4 c (V m c) t r l

theorem emb_5 (t : Fin cfg0.N) (r : Fin 512) (l : Fin 128) : ((win0_5.blk t).view.emb (ix2 r l) : S8192x128.Idx) = ix2 (row t r) l := by
  refine ix2_of ?_ ?_
  · rw [row_val]
    blk_simp [index_5]
  · blk_simp [index_5]
theorem read_5 (X : (b : Ref sig .tc) → Buf (Elt Ideal) ((c : Thread nD τ).loc b)) (t : Fin cfg0.N) (r : Fin 512) (l : Fin 128) :
    (((cfg0.win 5).blk t).view.read (Elt Ideal) (X (Pipeline.arrRef spec0 5)) : Vec Ideal S512x128 .f32) (ix2 r l)
      = (X main_v2 : FVec Ideal S8192x128 .f32) (ix2 (row t r) l) :=
  congrArg (X main_v2) (emb_5 t r l)
theorem block_5 {A : FVec Ideal S8192x128 .f32} (hA : V m c main_v2 = A) (t : Fin cfg0.N) (r : Fin 512) (l : Fin 128) :
    (iblk m c 5 t : Vec Ideal S512x128 .f32) (ix2 r l) = A (ix2 (row t r) l) := by
  subst hA
  unfold iblk
  exact read_5 c (V m c) t r l

theorem emb_6 (t : Fin cfg0.N) (r : Fin 512) (l : Fin 128) : ((win0_6.blk t).view.emb (ix2 r l) : S8192x128.Idx) = ix2 (row t r) l := by
  refine ix2_of ?_ ?_
  · rw [row_val]
    blk_simp [index_6]
  · blk_simp [index_6]
theorem read_6 (X : (b : Ref sig .tc) → Buf (Elt Ideal) ((c : Thread nD τ).loc b)) (t : Fin cfg0.N) (r : Fin 512) (l : Fin 128) :
    (((cfg0.win 6).blk t).view.read (Elt Ideal) (X (Pipeline.arrRef spec0 6)) : Vec Ideal S512x128 .f32) (ix2 r l)
      = (X main_v3 : FVec Ideal S8192x128 .f32) (ix2 (row t r) l) :=
  congrArg (X main_v3) (emb_6 t r l)
theorem block_6 {A : FVec Ideal S8192x128 .f32} (hA : V m c main_v3 = A) (t : Fin cfg0.N) (r : Fin 512) (l : Fin 128) :
    (iblk m c 6 t : Vec Ideal S512x128 .f32) (ix2 r l) = A (ix2 (row t r) l) := by
  subst hA
  unfold iblk
  exact read_6 c (V m c) t r l

theorem emb_7 (t : Fin cfg0.N) (r : Fin 512) (l : Fin 256) : ((win0_7.blk t).view.emb (ix2 r l) : S8192x256.Idx) = ix2 (row t r) l := by
  refine ix2_of ?_ ?_
  · rw [row_val]
    blk_simp [index_7]
  · blk_simp [index_7]
theorem read_7 (X : (b : Ref sig .tc) → Buf (Elt Ideal) ((c : Thread nD τ).loc b)) (t : Fin cfg0.N) (r : Fin 512) (l : Fin 256) :
    (((cfg0.win 7).blk t).view.read (Elt Ideal) (X (Pipeline.arrRef spec0 7)) : Vec Ideal S512x256 .bf16) (ix2 r l)
      = (X main_v5 : FVec Ideal S8192x256 .bf16) (ix2 (row t r) l) :=
  congrArg (X main_v5) (emb_7 t r l)
theorem block_7 {A : FVec Ideal S8192x256 .bf16} (hA : V m c main_v5 = A) (t : Fin cfg0.N) (r : Fin 512) (l : Fin 256) :
    (iblk m c 7 t : Vec Ideal S512x256 .bf16) (ix2 r l) = A (ix2 (row t r) l) := by
  subst hA
  unfold iblk
  exact read_7 c (V m c) t r l

theorem emb_8 (t : Fin cfg0.N) (r : Fin 512) (l : Fin 256) : ((win0_8.blk t).view.emb (ix2 r l) : S8192x256.Idx) = ix2 (row t r) l := by
  refine ix2_of ?_ ?_
  · rw [row_val]
    blk_simp [index_8]
  · blk_simp [index_8]
theorem read_8 (X : (b : Ref sig .tc) → Buf (Elt Ideal) ((c : Thread nD τ).loc b)) (t : Fin cfg0.N) (r : Fin 512) (l : Fin 256) :
    (((cfg0.win 8).blk t).view.read (Elt Ideal) (X (Pipeline.arrRef spec0 8)) : Vec Ideal S512x256 .f32) (ix2 r l)
      = (X main_v6 : FVec Ideal S8192x256 .f32) (ix2 (row t r) l) :=
  congrArg (X main_v6) (emb_8 t r l)
theorem block_8 {A : FVec Ideal S8192x256 .f32} (hA : V m c main_v6 = A) (t : Fin cfg0.N) (r : Fin 512) (l : Fin 256) :
    (iblk m c 8 t : Vec Ideal S512x256 .f32) (ix2 r l) = A (ix2 (row t r) l) := by
  subst hA
  unfold iblk
  exact read_8 c (V m c) t r l

theorem emb_9 (t : Fin cfg0.N) (r : Fin 512) (l : Fin 256) : ((win0_9.blk t).view.emb (ix2 r l) : S8192x256.Idx) = ix2 (row t r) l := by
  refine ix2_of ?_ ?_
  · rw [row_val]
    blk_simp [index_9]
  · blk_simp [index_9]
theorem read_9 (X : (b : Ref sig .tc) → Buf (Elt Ideal) ((c : Thread nD τ).loc b)) (t : Fin cfg0.N) (r : Fin 512) (l : Fin 256) :
    (((cfg0.win 9).blk t).view.read (Elt Ideal) (X (Pipeline.arrRef spec0 9)) : Vec Ideal S512x256 .f32) (ix2 r l)
      = (X main_v7 : FVec Ideal S8192x256 .f32) (ix2 (row t r) l) :=
  congrArg (X main_v7) (emb_9 t r l)
theorem block_9 {A : FVec Ideal S8192x256 .f32} (hA : V m c main_v7 = A) (t : Fin cfg0.N) (r : Fin 512) (l : Fin 256) :
    (iblk m c 9 t : Vec Ideal S512x256 .f32) (ix2 r l) = A (ix2 (row t r) l) := by
  subst hA
  unfold iblk
  exact read_9 c (V m c) t r l

theorem emb_10 (t : Fin cfg0.N) (r : Fin 512) (l : Fin 1792) : ((win0_10.blk t).view.emb (ix2 r l) : S8192x1792.Idx) = ix2 (row t r) l := by
  refine ix2_of ?_ ?_
  · rw [row_val]
    blk_simp [index_10]
  · blk_simp [index_10]
theorem read_10 (X : (b : Ref sig .tc) → Buf (Elt Ideal) ((c : Thread nD τ).loc b)) (t : Fin cfg0.N) (r : Fin 512) (l : Fin 1792) :
    (((cfg0.win 10).blk t).view.read (Elt Ideal) (X (Pipeline.arrRef spec0 10)) : Vec Ideal S512x1792 .bf16) (ix2 r l)
      = (X main_v11 : FVec Ideal S8192x1792 .bf16) (ix2 (row t r) l) :=
  congrArg (X main_v11) (emb_10 t r l)
theorem block_10 {A : FVec Ideal S8192x1792 .bf16} (hA : V m c main_v11 = A) (t : Fin cfg0.N) (r : Fin 512) (l : Fin 1792) :
    (iblk m c 10 t : Vec Ideal S512x1792 .bf16) (ix2 r l) = A (ix2 (row t r) l) := by
  subst hA
  unfold iblk
  exact read_10 c (V m c) t r l

theorem emb_11 (t : Fin cfg0.N) (r : Fin 512) (l : Fin 512) : ((win0_11.blk t).view.emb (ix2 r l) : S8192x512.Idx) = ix2 (row t r) l := by
  refine ix2_of ?_ ?_
  · rw [row_val]
    blk_simp [index_11]
  · blk_simp [index_11]
theorem read_11 (X : (b : Ref sig .tc) → Buf (Elt Ideal) ((c : Thread nD τ).loc b)) (t : Fin cfg0.N) (r : Fin 512) (l : Fin 512) :
    (((cfg0.win 11).blk t).view.read (Elt Ideal) (X (Pipeline.arrRef spec0 11)) : Vec Ideal S512x512 .bf16) (ix2 r l)
      = (X main_v15 : FVec Ideal S8192x512 .bf16) (ix2 (row t r) l) :=
  congrArg (X main_v15) (emb_11 t r l)
theorem block_11 {A : FVec Ideal S8192x512 .bf16} (hA : V m c main_v15 = A) (t : Fin cfg0.N) (r : Fin 512) (l : Fin 512) :
    (iblk m c 11 t : Vec Ideal S512x512 .bf16) (ix2 r l) = A (ix2 (row t r) l) := by
  subst hA
  unfold iblk
  exact read_11 c (V m c) t r l

theorem emb_12 (t : Fin cfg0.N) (r : Fin 512) (l : Fin 1024) : ((win0_12.blk t).view.emb (ix2 r l) : S8192x1024.Idx) = ix2 (row t r) l := by
  refine ix2_of ?_ ?_
  · rw [row_val]
    blk_simp [index_12]
  · blk_simp [index_12]

theorem emb_13 (t : Fin cfg0.N) (r : Fin 512) (l : Fin 3584) : ((win0_13.blk t).view.emb (ix2 r l) : S8192x3584.Idx) = ix2 (row t r) l := by
  refine ix2_of ?_ ?_
  · rw [row_val]
    blk_simp [index_13]
  · blk_simp [index_13]

theorem cut_v1 (d : FVec Ideal S8192x3488 .f32) (i : Fin 8192) (l : Fin 256) :
    extractStridedSlice S8192x256 ![0, 0] d slices_S8192x3488_S8192x256_0_0 (ix2 i l) = col d i (0 + l.val) := by
  pointwise []
  exact col_at d i _ (by simp)

theorem cut_v2 (d : FVec Ideal S8192x3488 .f32) (i : Fin 8192) (l : Fin 128) :
    extractStridedSlice S8192x128 ![0, 256] d slices_S8192x3488_S8192x128_0_256 (ix2 i l) = col d i (256 + l.val) := by
  pointwise []
  exact col_at d i _ (by simp)

theorem cut_v3 (d : FVec Ideal S8192x3488 .f32) (i : Fin 8192) (l : Fin 128) :
    extractStridedSlice S8192x128 ![0, 384] d slices_S8192x3488_S8192x128_0_384 (ix2 i l) = col d i (384 + l.val) := by
  pointwise []
  exact col_at d i _ (by simp)

theorem cut_v5 (d : FVec Ideal S8192x3488 .f32) (i : Fin 8192) (l : Fin 256) :
    extractStridedSlice S8192x256 ![0, 1696] d slices_S8192x3488_S8192x256_0_1696 (ix2 i l) = col d i (1696 + l.val) := by
  pointwise []
  exact col_at d i _ (by simp)

theorem cut_v6 (d : FVec Ideal S8192x3488 .f32) (i : Fin 8192) (l : Fin 256) :
    extractStridedSlice S8192x256 ![0, 1952] d slices_S8192x3488_S8192x256_0_1952 (ix2 i l) = col d i (1952 + l.val) := by
  pointwise []
  exact col_at d i _ (by simp)

theorem cut_v7 (d : FVec Ideal S8192x3488 .f32) (i : Fin 8192) (l : Fin 256) :
    extractStridedSlice S8192x256 ![0, 2208] d slices_S8192x3488_S8192x256_0_2208 (ix2 i l) = col d i (2208 + l.val) := by
  pointwise []
  exact col_at d i _ (by simp)

theorem cut_v11 (d : FVec Ideal S8192x3488 .f32) (i : Fin 8192) (l : Fin 1792) : concatenate S8192x1792 1
    [⟨S8192x1024, extractStridedSlice S8192x1024 ![0, 2464] d slices_S8192x3488_S8192x1024_0_2464⟩,
      ⟨S8192x768, extractStridedSlice S8192x768 ![0, 512] d slices_S8192x3488_S8192x768_0_512⟩]
    concatenates_S8192x1024_S8192x768_S8192x1792_d1 (ix2 i l)
    = if l.val < 1024 then col d i (2464 + l.val) else col d i (512 + (l.val - 1024)) := by
  have hl := l.isLt
  pointwise []
  by_cases h : l.val < 1024
  · rw [dif_pos h, if_pos h]
    exact col_at d i _ (by simp)
  · rw [dif_neg h, if_neg h]
    exact col_at d i _ (by simp)

theorem cut_v15 (d : FVec Ideal S8192x3488 .f32) (i : Fin 8192) (l : Fin 512) : concatenate S8192x512 1
    [⟨S8192x416, extractStridedSlice S8192x416 ![0, 1280] d slices_S8192x3488_S8192x416_0_1280⟩,
      ⟨S8192x96, broadcastInDim S8192x96 ![] bcast_S_S8192x96 (constant S_ .f32 0x00000000#32)⟩]
    concatenates_S8192x416_S8192x96_S8192x512_d1 (ix2 i l)
    = if l.val < 416 then col d i (1280 + l.val) else 0 := by
  have hl := l.isLt
  pointwise []
  by_cases h : l.val < 416
  · rw [dif_pos h, if_pos h]
    exact col_at d i _ (by simp)
  · rw [dif_neg h, if_neg h]

/-- The order of the groups is that of the call's layout. -/
theorem groups (f : ℕ → EReal) (n : ℕ) (hn : n < 3584) :
    (if n < 256 then f (0 + n)
      else if n - 256 < 128 then f (256 + (n - 256))
      else if n - 256 - 128 < 128 then f (384 + (n - 256 - 128))
      else if n - 256 - 128 - 128 < 256 then f (1696 + (n - 256 - 128 - 128))
      else if n - 256 - 128 - 128 - 256 < 256 then f (1952 + (n - 256 - 128 - 128 - 256))
      else if n - 256 - 128 - 128 - 256 - 256 < 256 then f (2208 + (n - 256 - 128 - 128 - 256 - 256))
      else if n - 256 - 128 - 128 - 256 - 256 - 256 < 1792 then
        if n - 256 - 128 - 128 - 256 - 256 - 256 < 1024 then f (2464 + (n - 256 - 128 - 128 - 256 - 256 - 256)) else f (512 + (n - 256 - 128 - 128 - 256 - 256 - 256 - 1024))
      else if n - 256 - 128 - 128 - 256 - 256 - 256 - 1792 < 416 then f (1280 + (n - 256 - 128 - 128 - 256 - 256 - 256 - 1792)) else 0)
      = if n < 512 then f n else if n < 2304 then f (n + 1184) else if n < 3488 then f (n - 1792) else 0 := by
  by_cases h0 : n < 256
  · rw [if_pos (show n < 256 by omega), if_pos (show n < 512 by omega)]
    exact congrArg f (by omega)
  by_cases h1 : n < 384
  · rw [if_neg (show ¬ n < 256 by omega), if_pos (show n - 256 < 128 by omega), if_pos (show n < 512 by omega)]
    exact congrArg f (by omega)
  by_cases h2 : n < 512
  · rw [if_neg (show ¬ n < 256 by omega), if_neg (show ¬ n - 256 < 128 by omega), if_pos (show n - 256 - 128 < 128 by omega), if_pos (show n < 512 by omega)]
    exact congrArg f (by omega)
  by_cases h3 : n < 768
  · rw [if_neg (show ¬ n < 256 by omega), if_neg (show ¬ n - 256 < 128 by omega), if_neg (show ¬ n - 256 - 128 < 128 by omega), if_pos (show n - 256 - 128 - 128 < 256 by omega), if_neg (show ¬ n < 512 by omega), if_pos (show n < 2304 by omega)]
    exact congrArg f (by omega)
  by_cases h4 : n < 1024
  · rw [if_neg (show ¬ n < 256 by omega), if_neg (show ¬ n - 256 < 128 by omega), if_neg (show ¬ n - 256 - 128 < 128 by omega), if_neg (show ¬ n - 256 - 128 - 128 < 256 by omega), if_pos (show n - 256 - 128 - 128 - 256 < 256 by omega), if_neg (show ¬ n < 512 by omega), if_pos (show n < 2304 by omega)]
    exact congrArg f (by omega)
  by_cases h5 : n < 1280
  · rw [if_neg (show ¬ n < 256 by omega), if_neg (show ¬ n - 256 < 128 by omega), if_neg (show ¬ n - 256 - 128 < 128 by omega), if_neg (show ¬ n - 256 - 128 - 128 < 256 by omega), if_neg (show ¬ n - 256 - 128 - 128 - 256 < 256 by omega), if_pos (show n - 256 - 128 - 128 - 256 - 256 < 256 by omega), if_neg (show ¬ n < 512 by omega), if_pos (show n < 2304 by omega)]
    exact congrArg f (by omega)
  by_cases h6 : n < 2304
  · rw [if_neg (show ¬ n < 256 by omega), if_neg (show ¬ n - 256 < 128 by omega), if_neg (show ¬ n - 256 - 128 < 128 by omega), if_neg (show ¬ n - 256 - 128 - 128 < 256 by omega), if_neg (show ¬ n - 256 - 128 - 128 - 256 < 256 by omega), if_neg (show ¬ n - 256 - 128 - 128 - 256 - 256 < 256 by omega), if_pos (show n - 256 - 128 - 128 - 256 - 256 - 256 < 1792 by omega), if_pos (show n - 256 - 128 - 128 - 256 - 256 - 256 < 1024 by omega), if_neg (show ¬ n < 512 by omega), if_pos (show n < 2304 by omega)]
    exact congrArg f (by omega)
  by_cases h7 : n < 3072
  · rw [if_neg (show ¬ n < 256 by omega), if_neg (show ¬ n - 256 < 128 by omega), if_neg (show ¬ n - 256 - 128 < 128 by omega), if_neg (show ¬ n - 256 - 128 - 128 < 256 by omega), if_neg (show ¬ n - 256 - 128 - 128 - 256 < 256 by omega), if_neg (show ¬ n - 256 - 128 - 128 - 256 - 256 < 256 by omega), if_pos (show n - 256 - 128 - 128 - 256 - 256 - 256 < 1792 by omega), if_neg (show ¬ n - 256 - 128 - 128 - 256 - 256 - 256 < 1024 by omega), if_neg (show ¬ n < 512 by omega), if_neg (show ¬ n < 2304 by omega), if_pos (show n < 3488 by omega)]
    exact congrArg f (by omega)
  by_cases h8 : n < 3488
  · rw [if_neg (show ¬ n < 256 by omega), if_neg (show ¬ n - 256 < 128 by omega), if_neg (show ¬ n - 256 - 128 < 128 by omega), if_neg (show ¬ n - 256 - 128 - 128 < 256 by omega), if_neg (show ¬ n - 256 - 128 - 128 - 256 < 256 by omega), if_neg (show ¬ n - 256 - 128 - 128 - 256 - 256 < 256 by omega), if_neg (show ¬ n - 256 - 128 - 128 - 256 - 256 - 256 < 1792 by omega), if_pos (show n - 256 - 128 - 128 - 256 - 256 - 256 - 1792 < 416 by omega), if_neg (show ¬ n < 512 by omega), if_neg (show ¬ n < 2304 by omega), if_pos (show n < 3488 by omega)]
    exact congrArg f (by omega)
  · rw [if_neg (show ¬ n < 256 by omega), if_neg (show ¬ n - 256 < 128 by omega), if_neg (show ¬ n - 256 - 128 < 128 by omega), if_neg (show ¬ n - 256 - 128 - 128 < 256 by omega), if_neg (show ¬ n - 256 - 128 - 128 - 256 < 256 by omega), if_neg (show ¬ n - 256 - 128 - 128 - 256 - 256 < 256 by omega), if_neg (show ¬ n - 256 - 128 - 128 - 256 - 256 - 256 < 1792 by omega), if_neg (show ¬ n - 256 - 128 - 128 - 256 - 256 - 256 - 1792 < 416 by omega), if_neg (show ¬ n < 512 by omega), if_neg (show ¬ n < 2304 by omega), if_neg (show ¬ n < 3488 by omega)]

/-- The groups of columns, put together, are the gradient in the call's layout. -/
theorem pay6 (d : FVec Ideal S8192x3488 .f32) (i : Fin 512 → Fin 8192) (v0 : Vec Ideal S512x256 .bf16) (v2 : Vec Ideal S512x128 .f32)
    (v5 : Vec Ideal S512x128 .f32) (v8 : Vec Ideal S512x256 .bf16) (v10 : Vec Ideal S512x256 .f32) (v13 : Vec Ideal S512x256 .f32)
    (v16 : Vec Ideal S512x1792 .bf16) (v18 : Vec Ideal S512x512 .bf16)
    (h0 : ∀ r l, v0 (ix2 r l) = col d (i r) (0 + l.val)) (h2 : ∀ r l, v2 (ix2 r l) = col d (i r) (256 + l.val))
    (h5 : ∀ r l, v5 (ix2 r l) = col d (i r) (384 + l.val)) (h8 : ∀ r l, v8 (ix2 r l) = col d (i r) (1696 + l.val))
    (h10 : ∀ r l, v10 (ix2 r l) = col d (i r) (1952 + l.val)) (h13 : ∀ r l, v13 (ix2 r l) = col d (i r) (2208 + l.val))
    (h16 : ∀ r l, v16 (ix2 r l) = if l.val < 1024 then col d (i r) (2464 + l.val) else col d (i r) (512 + (l.val - 1024)))
    (h18 : ∀ r l, v18 (ix2 r l) = if l.val < 416 then col d (i r) (1280 + l.val) else 0) (r : Fin 512) (l : Fin 3584) :
    k0_pay6 (F := Ideal) v0 v2 v5 v8 v10 v13 v16 v18 (ix2 r l) = laid d (i r) l.val := by
  have hl := l.isLt
  pointwise [k0_pay6]
  simp only [h0, h2, h5, h8, h10, h13, h16, h18]
  exact groups (col d (i r)) l.val hl

end Cert.Kernel2Ideal.Input

end
-- ==== Proof.Input.lean ====
module

public import proofs.«01_k».proof.Proof.Pieces

/-!
# The three gradients of the call

What a point computes of its rows, and from this the call's three arrays: the gradient of the activations, that of the
projection in the call's layout, and that of the scale.
-/

@[expose] public section

set_option maxRecDepth 16384

noncomputable section

namespace Cert.Kernel2Ideal.Input

open Idealize.ShloMosaic Idealize.ShloMosaic.TcCoe Idealize.ShloMosaic.Tactic Cert.Kernel2Ideal.Gen Cert.Kernel2Ideal
open Cert.Kernel4Ideal.Forward (rows rows_at ix2_of)

variable (m : (ℓ : Loc nD τ sig) → Buf (Elt Ideal) ℓ) (c : Dev nD)

/-- The gradient of the normalised activations. -/
def back (d : FVec Ideal S8192x3488 .f32) (w : FVec Ideal S3488x1024 .f32) (i : Fin 8192) (k : Fin 1024) : EReal :=
  ∑ n : Fin 3488, d (ix2 i n) * w (ix2 n k)

/-- Where the call's layout has a column. -/
def place (n : Fin 3488) : Fin 3584 :=
  ⟨if n.val < 512 then n.val else if n.val < 1696 then n.val + 1792 else n.val - 1184, by have := n.isLt; split_ifs <;> omega⟩

/-- Its number. -/
theorem place_val (n : Fin 3488) :
    (place n).val = if n.val < 512 then n.val else if n.val < 1696 then n.val + 1792 else n.val - 1184 := rfl

/-- A row of the matrix, in the call's layout. -/
theorem rows_place (w : FVec Ideal S3488x1024 .f32) (n : Fin 3488) (k : Fin 1024) : rows w (ix2 (place n) k) = w (ix2 n k) := by
  have hn := n.isLt
  have hp := place_val n
  rw [rows_at]
  by_cases h : n.val < 512
  · rw [if_pos h] at hp
    rw [dif_pos (by omega)]
    exact congrArg (fun n : Fin 3488 => w (ix2 n k)) (Fin.ext hp)
  rw [if_neg h] at hp
  by_cases h2 : n.val < 1696
  · rw [if_pos h2] at hp
    rw [dif_neg (by omega), dif_neg (by omega), dif_pos (by omega)]
    exact congrArg (fun n : Fin 3488 => w (ix2 n k)) (Fin.ext (show (place n).val - 1792 = n.val by omega))
  · rw [if_neg h2] at hp
    rw [dif_neg (by omega), dif_pos (by omega)]
    exact congrArg (fun n : Fin 3488 => w (ix2 n k)) (Fin.ext (show (place n).val + 1184 = n.val by omega))

/-- A column of the gradient, in the call's layout. -/
theorem laid_place (d : FVec Ideal S8192x3488 .f32) (i : Fin 8192) (n : Fin 3488) : laid d i (place n).val = d (ix2 i n) := by
  have hn := n.isLt
  have hp := place_val n
  unfold laid
  by_cases h : n.val < 512
  · rw [if_pos h] at hp
    rw [if_pos (by omega)]
    exact (col_at d i n (by omega)).symm
  rw [if_neg h] at hp
  by_cases h2 : n.val < 1696
  · rw [if_pos h2] at hp
    rw [if_neg (by omega), if_neg (by omega), if_pos (by omega)]
    exact (col_at d i n (by omega)).symm
  · rw [if_neg h2] at hp
    rw [if_neg (by omega), if_pos (by omega)]
    exact (col_at d i n (by omega)).symm

/-- Two columns have two places. -/
theorem place_injective : Function.Injective place := by
  intro a b h
  have e := congrArg Fin.val h
  rw [place_val, place_val] at e
  have ha := a.isLt
  have hb := b.isLt
  refine Fin.ext ?_
  split_ifs at e <;> omega

/-- The product over the call's layout is the product over the columns: the zeros add nothing. -/
theorem back_laid (d : FVec Ideal S8192x3488 .f32) (w : FVec Ideal S3488x1024 .f32) (i : Fin 8192) (k : Fin 1024) :
    ∑ l : Fin 3584, laid d i l.val * rows w (ix2 l k) = back d w i k := by
  refine (Fintype.sum_of_injective place place_injective (fun n => d (ix2 i n) * w (ix2 n k)) _ ?_ fun n => ?_).symm
  · intro l hl
    have h : ¬ l.val < 3488 := fun h => hl (by
      by_cases h1 : l.val < 512
      · exact ⟨⟨l.val, h⟩, Fin.ext ((place_val _).trans (if_pos h1))⟩
      by_cases h2 : l.val < 2304
      · exact ⟨⟨l.val + 1184, by omega⟩, Fin.ext ((place_val _).trans (by simp only []; split_ifs <;> omega))⟩
      · exact ⟨⟨l.val - 1792, by omega⟩, Fin.ext ((place_val _).trans (by simp only []; split_ifs <;> omega))⟩)
    rw [rows_at, dif_neg (by omega), dif_neg (by omega), dif_neg h]
    exact mul_zero _
  · rw [rows_place, laid_place]

/-- The inverse root of a row's mean square. -/
def inv (x : FVec Ideal S8192x1024 .f32) (i : Fin 8192) : EReal :=
  Ideal.rsqrt (Ideal.div (∑ k : Fin 1024, x (ix2 i k) * x (ix2 i k)) (Ideal.ofBits .f32 0x44800000#32) + Ideal.ofBits .f32 0x358637BD#32)

section

variable (x : FVec Ideal S8192x1024 .f32) (g : FVec Ideal S1024 .f32) (nx : FVec Ideal S8192x1024 .f32) (D : Fin 8192 → Fin 1024 → EReal)
  (i : Fin 512 → Fin 8192) (v : Vec Ideal S512x1024 .f32) (b : FVec Ideal S512x1024 .f32) (u : Vec Ideal S1x1024 .f32) (q : Vec Ideal S512x1024 .f32)

theorem pay2 (hv : ∀ r l, v (ix2 r l) = x (ix2 (i r) l)) (r : Fin 512) (l : Fin 1024) :
    k0_pay2 (F := Ideal) v (k0_pay8 v) k0_pay9 (ix2 r l) = x (ix2 (i r) l) * inv x (i r) := by
  pointwise [k0_pay2, k0_pay1, k0_pay8, k0_pay9, inv]
  simp only [hv]

/-- A point's rows of the gradient of the activations. -/
theorem pay3 (hv : ∀ r l, v (ix2 r l) = x (ix2 (i r) l)) (hb : ∀ r l, b (ix2 r l) = D (i r) l) (hu : ∀ r l, u (ix2 r l) = g (ix1 l))
    (hq : ∀ r l, q (ix2 r l) = nx (ix2 (i r) l)) (r : Fin 512) (l : Fin 1024) :
    k0_pay3 (F := Ideal) b v (k0_pay8 v) k0_pay9 u q (ix2 r l)
      = inv x (i r) * (D (i r) l * g (ix1 l) - x (ix2 (i r) l) * inv x (i r)
          * Ideal.div (∑ k : Fin 1024, D (i r) k * g (ix1 k) * (x (ix2 (i r) k) * inv x (i r))) (Ideal.ofBits .f32 0x44800000#32))
        + nx (ix2 (i r) l) := by
  pointwise [k0_pay3, k0_pay2, k0_pay1, k0_pay8, k0_pay9, inv]
  simp only [hv, hb, hu, hq]

/-- What a point adds to the scale's gradient. -/
theorem pay5 (hv : ∀ r l, v (ix2 r l) = x (ix2 (i r) l)) (hb : ∀ r l, b (ix2 r l) = D (i r) l) (r : Fin 1) (l : Fin 1024) :
    k0_pay5 (F := Ideal) b v (k0_pay8 v) k0_pay9 u (ix2 r l)
      = u (ix2 r l) + ∑ r : Fin 512, D (i r) l * (x (ix2 (i r) l) * inv x (i r)) := by
  pointwise [k0_pay5, k0_pay2, k0_pay1, k0_pay8, k0_pay9, inv]
  simp only [hv, hb]

end

theorem pay7 (v0 : Vec Ideal S512x256 .bf16) (v2 : Vec Ideal S512x128 .f32)
    (v5 : Vec Ideal S512x128 .f32) (v8 : Vec Ideal S512x256 .bf16) (v10 : Vec Ideal S512x256 .f32) (v13 : Vec Ideal S512x256 .f32)
    (v16 : Vec Ideal S512x1792 .bf16) (v18 : Vec Ideal S512x512 .bf16) (w : Vec Ideal S3584x1024 .bf16) (r : Fin 512) (k : Fin 1024) :
    k0_pay7 (F := Ideal) v0 v2 v5 v8 v10 v13 v16 v18 w (ix2 r k)
      = ∑ l : Fin 3584, k0_pay6 (F := Ideal) v0 v2 v5 v8 v10 v13 v16 v18 (ix2 r l) * w (ix2 l k) := by
  pointwise [k0_pay7]

/-- The gradient of the projection at a point, in the call's layout. -/
theorem laid_block (t : Fin cfg0.N) (r : Fin 512) (l : Fin 3584) :
    k0_pay6 (F := Ideal) (iblk m c 4 t) (iblk m c 5 t) (iblk m c 6 t) (iblk m c 7 t) (iblk m c 8 t) (iblk m c 9 t) (iblk m c 10 t) (iblk m c 11 t) (ix2 r l)
      = laid (argd m c) (row t r) l.val :=
  pay6 (argd m c) (row t) _ _ _ _ _ _ _ _
    (fun r l => (block_4 m c (V_v1 m c) t r l).trans (cut_v1 _ _ _)) (fun r l => (block_5 m c (V_v2 m c) t r l).trans (cut_v2 _ _ _))
    (fun r l => (block_6 m c (V_v3 m c) t r l).trans (cut_v3 _ _ _)) (fun r l => (block_7 m c (V_v5 m c) t r l).trans (cut_v5 _ _ _))
    (fun r l => (block_8 m c (V_v6 m c) t r l).trans (cut_v6 _ _ _)) (fun r l => (block_9 m c (V_v7 m c) t r l).trans (cut_v7 _ _ _))
    (fun r l => (block_10 m c (V_v11 m c) t r l).trans (cut_v11 _ _ _)) (fun r l => (block_11 m c (V_v15 m c) t r l).trans (cut_v15 _ _ _)) r l

/-- The gradient of the normalised activations at a point. -/
theorem back_block (t : Fin cfg0.N) (r : Fin 512) (k : Fin 1024) :
    k0_pay7 (F := Ideal) (iblk m c 4 t) (iblk m c 5 t) (iblk m c 6 t) (iblk m c 7 t) (iblk m c 8 t) (iblk m c 9 t) (iblk m c 10 t) (iblk m c 11 t) (iblk m c 2 t) (ix2 r k)
      = back (argd m c) (argw m c) (row t r) k := by
  refine (pay7 _ _ _ _ _ _ _ _ _ r k).trans ((Finset.sum_congr rfl fun l _ => ?_).trans (back_laid _ _ _ _))
  exact congrArg₂ (· * ·) (laid_block m c t r l) (block_2 m c (V_v22 m c) t l k)

theorem flat_at (g : FVec Ideal S1024 .f32) (r : Fin 1) (l : Fin 1024) : shapeCast S1x1024 g shapeCasts_S1024_S1x1024 (ix2 r l) = g (ix1 l) := by
  pointwise []

/-- The gradient of the activations. -/
def result12 (x : FVec Ideal S8192x1024 .f32) (g : FVec Ideal S1024 .f32) (w : FVec Ideal S3488x1024 .f32) (nx : FVec Ideal S8192x1024 .f32)
    (d : FVec Ideal S8192x3488 .f32) : FVec Ideal S8192x1024 .f32 := fun y =>
  inv x (y 0) * (back d w (y 0) (y 1) * g (ix1 (y 1)) - x (ix2 (y 0) (y 1)) * inv x (y 0)
      * Ideal.div (∑ k : Fin 1024, back d w (y 0) k * g (ix1 k) * (x (ix2 (y 0) k) * inv x (y 0))) (Ideal.ofBits .f32 0x44800000#32))
    + nx (ix2 (y 0) (y 1))

/-- The gradient of the projection, in the call's layout. -/
def result13 (d : FVec Ideal S8192x3488 .f32) : FVec Ideal S8192x3584 .bf16 := fun y => laid d (y 0) (y 1).val

/-- The gradient of the scale. -/
def result14 (x : FVec Ideal S8192x1024 .f32) (w : FVec Ideal S3488x1024 .f32) (d : FVec Ideal S8192x3488 .f32) : FVec Ideal S1x1024 .f32 :=
  fun y => ∑ i : Fin 8192, back d w i (y 1) * (x (ix2 i (y 1)) * inv x i)

/-- The first window's block of a point. -/
theorem point12 (t : Fin cfg0.N) (y : S512x1024.Idx) :
    k0_pay3 (F := Ideal) (k0_pay7 (iblk m c 4 t) (iblk m c 5 t) (iblk m c 6 t) (iblk m c 7 t) (iblk m c 8 t) (iblk m c 9 t) (iblk m c 10 t) (iblk m c 11 t) (iblk m c 2 t))
        (iblk m c 0 t) (k0_pay8 (iblk m c 0 t)) k0_pay9 (iblk m c 1 t) (iblk m c 3 t) y
      = result12 (argx m c) (argg m c) (argw m c) (argn m c) (argd m c) ((win0_12.blk t).view.emb y) := by
  obtain ⟨a, b, rfl⟩ : ∃ a b, y = ix2 a b := ⟨y 0, y 1, ix2_of rfl rfl⟩
  exact (pay3 (argx m c) (argg m c) (argn m c) (back (argd m c) (argw m c)) (row t) _ _ _ _ (block_0 m c (V_main_arg0 m c) t)
    (back_block m c t) (fun r l => (block_1 m c (V_v16 m c) t r l).trans (flat_at _ r l)) (block_3 m c (V_main_arg3 m c) t) a b).trans
    (congrArg (result12 (argx m c) (argg m c) (argw m c) (argn m c) (argd m c)) (emb_12 t a b)).symm

/-- The second window's block of a point. -/
theorem point13 (t : Fin cfg0.N) (y : S512x3584.Idx) :
    k0_pay6 (F := Ideal) (iblk m c 4 t) (iblk m c 5 t) (iblk m c 6 t) (iblk m c 7 t) (iblk m c 8 t) (iblk m c 9 t) (iblk m c 10 t) (iblk m c 11 t) y
      = result13 (argd m c) ((win0_13.blk t).view.emb y) := by
  obtain ⟨a, b, rfl⟩ : ∃ a b, y = ix2 a b := ⟨y 0, y 1, ix2_of rfl rfl⟩
  exact (laid_block m c t a b).trans (congrArg (result13 (argd m c)) (emb_13 t a b)).symm

/-- The call's gradient of the activations. -/
theorem final12 : (dats m 0 c).arrAt 12 cfg0.N = result12 (argx m c) (argg m c) (argw m c) (argn m c) (argd m c) := by
  refine (dats m 0 c).arrAt_eq_of_covers 12 _ (by decide +kernel) fun t _ y => ?_
  blk_simp
  rw [after0_12]
  by_cases h0 : t.val % 16 = 0
  · rw [outsAt0_A m c t h0]
    frame_out
    exact point12 m c t y
  · rw [outsAt0_B m c t h0]
    frame_out
    exact point12 m c t y

/-- The call's gradient of the projection. -/
theorem final13 : (dats m 0 c).arrAt 13 cfg0.N = result13 (argd m c) := by
  refine (dats m 0 c).arrAt_eq_of_covers 13 _ (by decide +kernel) fun t _ y => ?_
  blk_simp
  rw [after0_13]
  by_cases h0 : t.val % 16 = 0
  · rw [outsAt0_A m c t h0]
    frame_out
    exact point13 m c t y
  · rw [outsAt0_B m c t h0]
    frame_out
    exact point13 m c t y

/-- What a point adds to the scale's gradient. -/
def part (t : Fin cfg0.N) (y : S1x1024.Idx) : EReal :=
  ∑ r : Fin 512, back (argd m c) (argw m c) (row t r) (y 1) * (argx m c (ix2 (row t r) (y 1)) * inv (argx m c) (row t r))

theorem add_part (t : Fin cfg0.N) (u : Vec Ideal S1x1024 .f32) (y : S1x1024.Idx) :
    k0_pay5 (F := Ideal) (k0_pay7 (iblk m c 4 t) (iblk m c 5 t) (iblk m c 6 t) (iblk m c 7 t) (iblk m c 8 t) (iblk m c 9 t) (iblk m c 10 t) (iblk m c 11 t) (iblk m c 2 t))
        (iblk m c 0 t) (k0_pay8 (iblk m c 0 t)) k0_pay9 u y = u y + part m c t y := by
  obtain ⟨a, b, rfl⟩ : ∃ a b, y = ix2 a b := ⟨y 0, y 1, ix2_of rfl rfl⟩
  exact pay5 (argx m c) (back (argd m c) (argw m c)) (row t) _ _ _ (block_0 m c (V_main_arg0 m c) t) (back_block m c t) a b

theorem pay4 (y : S1x1024.Idx) : k0_pay4 (F := Ideal) y = (0 : EReal) := by
  obtain ⟨a, b, rfl⟩ : ∃ a b, y = ix2 a b := ⟨y 0, y 1, ix2_of rfl rfl⟩
  pointwise [k0_pay4]

/-- The first point adds to zero. -/
theorem first_step (t : Fin cfg0.N) (h0 : t.val % 16 = 0) (y : S1x1024.Idx) :
    (outsAt0 m c t.val t.isLt).2.2 y = (0 : EReal) + part m c t y := by
  rw [outsAt0_A m c t h0]
  frame_open
  simp (disch := decide) only [↓View.readCov_skip, ↓View.readCov_fill]
  frame_out
  exact (add_part m c t _ y).trans (congrArg (· + part m c t y) (pay4 y))

/-- A later point adds to what the point before left. -/
theorem next_step (t : Fin cfg0.N) (h0 : ¬ t.val % 16 = 0) (y : S1x1024.Idx) : (outsAt0 m c t.val t.isLt).2.2 y
    = (outsAt0 m c (t.val - 1) (Nat.lt_of_le_of_lt (Nat.sub_le _ _) t.isLt)).2.2 y + part m c t y := by
  rw [outsAt0_B m c t h0]
  frame_out
  exact add_part m c t _ y

/-- A sum over the points' rows is a sum over all rows. -/
theorem sum_rows (f : Fin 8192 → EReal) : ∑ t : Fin cfg0.N, ∑ r, f (row t r) = ∑ i, f i := by
  rw [← Fintype.sum_equiv ((Equiv.prodCongr (finCongr N_0) (Equiv.refl _)).trans (finProdFinEquiv (m := 16) (n := 512)))
    (fun x => f (row x.1 x.2)) f
    (fun x => congrArg f (Fin.ext (by
      rw [row_val]
      show _ = x.2.val + 512 * x.1.val
      omega))), Fintype.sum_prod_type]

/-- What the third window holds after the last point. -/
theorem last_point (y : S1x1024.Idx) (t : Fin cfg0.N) (ht : t.val + 1 = cfg0.N) :
    (outsAt0 m c t.val t.isLt).2.2 y = result14 (argx m c) (argw m c) (argd m c) y := by
  refine (Pipeline.eq_sum_fin_of_reset_step_apply_last (M := EReal) (ι := S1x1024.Idx) (fun n h => (outsAt0 m c n h).2.2) 16 (fun _ => 0)
    (fun t j => part m c t j) (fun t h j => first_step m c t h j) (fun t h j => next_step m c t h j) (le_of_eq N_0) t ht y).trans ?_
  exact (zero_add _).trans (sum_rows fun i => back (argd m c) (argw m c) i (y 1) * (argx m c (ix2 i (y 1)) * inv (argx m c) i))

/-- The call's gradient of the scale. -/
theorem final14 : (dats m 0 c).arrAt 14 cfg0.N = result14 (argx m c) (argw m c) (argd m c) := by
  refine (dats m 0 c).arrAt_eq_of_after_last 14 t0_15 (by decide +kernel) _ fun j => ?_
  blk_simp
  rw [after0_14]
  exact last_point m c _ t0_15 rfl

end Cert.Kernel2Ideal.Input

end
-- ==== Proof.Saved.lean ====
/- The host's arrays before the kernel starts: its saved forward values and padded operands, read at an index. -/
module

public import proofs.«01_k».proof.Proof.Gen.KernelIdeal.Frame
public import Idealize.ShloMosaic.Lib.Claim
public import Idealize.ShloMosaic.Lib.Pointwise
public import Idealize.ShloMosaic.Lib.StableHlo.RunRead

@[expose] public section

set_option maxRecDepth 16384

noncomputable section

namespace Cert.KernelIdeal.Saved

open Cert.KernelIdeal.Gen
open Idealize.ShloMosaic Idealize.ShloMosaic.TcCoe Idealize.ShloMosaic.Tactic

variable (q k : FVec Ideal S8192x4x96 .f32) (v : FVec Ideal S8192x4x64 .f32)

/-- The scores, `⊥` where the key comes after the query. -/
def masked : FVec Ideal S4x8192x8192 .f32 :=
  select (broadcastInDim S4x8192x8192 ![1, 2] bcast_S8192x8192_S4x8192x8192_1_2
      (cmpi CmpIPredicate.sle
        (broadcastInDim S8192x8192 ![0, 1] bcast_S1x8192_S8192x8192_0_1
          (broadcastInDim S1x8192 ![1] bcast_S8192_S1x8192_1 (iotaInDim S8192 32 0)))
        (broadcastInDim S8192x8192 ![0, 1] bcast_S8192x1_S8192x8192_0_1
          (broadcastInDim S8192x1 ![0] bcast_S8192_S8192x1_0 (iotaInDim S8192 32 0)))))
    (Host.divf (F := Ideal) (Host.dotGeneral dot_S8192x4x96_S8192x4x96_S4x8192x8192_2_2_0_0_1_1 none q k)
      (broadcastInDim S4x8192x8192 ![] bcast_S_S4x8192x8192 (Host.sqrt (F := Ideal) (constant (F := Ideal) S_ FTy.f32 0x42C00000#32))))
    (broadcastInDim S4x8192x8192 ![] bcast_S_S4x8192x8192 (constant (F := Ideal) S_ FTy.f32 0xFF800000#32))

/-- A row's greatest score. -/
def greatest (S : FVec Ideal S4x8192x8192 .f32) : FVec Ideal S4x8192 .f32 :=
  Host.reduce (FloatOps.maximumf (F := Ideal) (φ := .f32)) S (constant (F := Ideal) S_ FTy.f32 0xFF800000#32) reducesTo_S4x8192x8192_S4x8192_d2 h_S_

/-- The exponentials of the scores less their row's `M`. -/
def weights (S : FVec Ideal S4x8192x8192 .f32) (M : FVec Ideal S4x8192 .f32) : FVec Ideal S4x8192x8192 .f32 :=
  Host.exp (subf S (broadcastInDim S4x8192x8192 ![0, 1, 2] bcast_S4x8192x1_S4x8192x8192_0_1_2
    (broadcastInDim S4x8192x1 ![0, 1] bcast_S4x8192_S4x8192x1_0_1 M)))

/-- A row's sum. -/
def sums (W : FVec Ideal S4x8192x8192 .f32) : FVec Ideal S4x8192 .f32 :=
  Host.reduceAdd W (constant (F := Ideal) S_ FTy.f32 0x00000000#32) reducesTo_S4x8192x8192_S4x8192_d2 h_S_

/-- The weights over their row's sum `L`. -/
def shares (W : FVec Ideal S4x8192x8192 .f32) (L : FVec Ideal S4x8192 .f32) : FVec Ideal S4x8192x8192 .f32 :=
  Host.divf W (broadcastInDim S4x8192x8192 ![0, 1, 2] bcast_S4x8192x1_S4x8192x8192_0_1_2
    (broadcastInDim S4x8192x1 ![0, 1] bcast_S4x8192_S4x8192x1_0_1 L))

abbrev rowMax := greatest (masked q k)
abbrev weight := weights (masked q k) (rowMax q k)
abbrev total := sums (weight q k)
abbrev share := shares (weight q k) (total q k)

/-- The comparison of two places among the 8192. -/
theorem select_le (a b : Fin 8192) (S z : EReal) :
    Scalar.select (IntOp.cmpi .sle (BitVec.ofNat 32 a.val) (BitVec.ofNat 32 b.val)) S z = if a.val ≤ b.val then S else z := by
  have h : ∀ x : Fin 8192, (BitVec.ofNat 32 x.val).toInt = (x.val : ℤ) := fun x => by
    rw [BitVec.toInt_eq_toNat_of_lt (by rw [BitVec.toNat_ofNat]; omega), BitVec.toNat_ofNat]
    omega
  have hle : (BitVec.ofNat 32 a.val).sle (BitVec.ofNat 32 b.val) = decide (a.val ≤ b.val) := by
    rw [BitVec.sle_eq_decide, h a, h b]
    simp
  rw [IntOp.cmpi, hle]
  by_cases h : a.val ≤ b.val <;> simp [h, Scalar.select]

theorem masked_at (h : Fin 4) (i j : Fin 8192) : masked q k (ix3 h i j)
    = if j.val ≤ i.val then Ideal.div (∑ d, q (ix3 i h d) * k (ix3 j h d)) (Ideal.sqrt (Ideal.ofBits .f32 0x42C00000#32))
      else Ideal.ofBits .f32 0xFF800000#32 := by
  pointwise [masked]
  exact select_le j i _ _

theorem greatest_at (S : FVec Ideal S4x8192x8192 .f32) (h : Fin 4) (i : Fin 8192) :
    greatest S (ix2 h i) = Finset.univ.fold max (Ideal.ofBits .f32 0xFF800000#32) fun j => S (ix3 h i j) := by
  pointwise [greatest]

theorem weights_at (S : FVec Ideal S4x8192x8192 .f32) (M : FVec Ideal S4x8192 .f32) (h : Fin 4) (i j : Fin 8192) :
    weights S M (ix3 h i j) = Ideal.exp (S (ix3 h i j) - M (ix2 h i)) := by
  pointwise [weights]

theorem sums_at (W : FVec Ideal S4x8192x8192 .f32) (h : Fin 4) (i : Fin 8192) : sums W (ix2 h i) = ∑ j, W (ix3 h i j) := by
  pointwise [sums]

theorem shares_at (W : FVec Ideal S4x8192x8192 .f32) (L : FVec Ideal S4x8192 .f32) (h : Fin 4) (i j : Fin 8192) :
    shares W L (ix3 h i j) = Ideal.div (W (ix3 h i j)) (L (ix2 h i)) := by
  pointwise [shares]

/-- The logarithms of the rows' sums: what was taken off, and the logarithm of the sum of what was left. -/
def logs (M L : FVec Ideal S4x8192 .f32) : FVec Ideal S4x8192x1 .f32 :=
  addf (broadcastInDim S4x8192x1 ![0, 1] bcast_S4x8192_S4x8192x1_0_1 M)
    (Host.log (broadcastInDim S4x8192x1 ![0, 1] bcast_S4x8192_S4x8192x1_0_1 L))

theorem logs_at (M L : FVec Ideal S4x8192 .f32) (h : Fin 4) (i : Fin 8192) : logs M L (ix3 h i 0) = M (ix2 h i) + Ideal.log (L (ix2 h i)) := by
  pointwise [logs]

/-- The queries over the factor, each head in 128 lanes. -/
def operandq : FVec Ideal S8192x512 .f32 :=
  shapeCast _ (pad S8192x4x128 ![0, 0, 0] ![0, 0, 32] ![0, 0, 0]
    (Host.divf q (broadcastInDim S8192x4x96 ![] bcast_S_S8192x4x96
      (mulf (Host.sqrt (constant S_ FTy.f32 0x42C00000#32)) (Host.log (constant S_ FTy.f32 0x40000000#32)))))
    (sitofp .f32 (constantI S_ 32 0#32)) pads_S8192x4x96_S8192x4x128_000_000_0320 h_S_) shapeCasts_S8192x4x128_S8192x512

/-- The keys, each head in 128 lanes. -/
def operandk : FVec Ideal S8192x512 .f32 :=
  shapeCast _ (pad S8192x4x128 ![0, 0, 0] ![0, 0, 32] ![0, 0, 0] k
    (sitofp .f32 (constantI S_ 32 0#32)) pads_S8192x4x96_S8192x4x128_000_000_0320 h_S_) shapeCasts_S8192x4x128_S8192x512

/-- The values. -/
def operandv : FVec Ideal S8192x256 .f32 := shapeCast _ v shapeCasts_S8192x4x64_S8192x256

/-- The forward result. -/
def savedy (P : FVec Ideal S4x8192x8192 .f32) : FVec Ideal S8192x256 .f32 :=
  shapeCast _ (transpose S8192x4x64 [2, 0, 1] (Host.dotGeneral dot_S8192x4x64_S4x8192x8192_S4x64x8192_0_2_2_1_1_0 none v P)
    transposes_S4x64x8192_S8192x4x64_2_0_1) shapeCasts_S8192x4x64_S8192x256

/-- The logarithms of the rows' sums, a head's in 64 lanes. -/
def lanes (M L : FVec Ideal S4x8192 .f32) : FVec Ideal S8192x4x64 .f32 :=
  broadcastInDim S8192x4x64 ![0, 1, 2] bcast_S8192x4x1_S8192x4x64_0_1_2
    (transpose S8192x4x1 [1, 0, 2] (logs M L) transposes_S4x8192x1_S8192x4x1_1_0_2)

/-- The same, flat. -/
def savedlse (M L : FVec Ideal S4x8192 .f32) : FVec Ideal S8192x256 .f32 := shapeCast _ (lanes M L) shapeCasts_S8192x4x64_S8192x256

theorem sitofp_zero : FloatOps.sitofp (F := Ideal) .f32 (0#32 : BitVec 32) = (0 : EReal) := by
  show (((0#32 : BitVec 32).toInt : ℝ) : EReal) = 0
  simp

theorem operandq_at (i : Fin 8192) (l : Fin 512) : operandq q (ix2 i l)
    = if h : l.val / 128 < 4 ∧ l.val % 128 < 96 then
        Ideal.div (q (ix3 i ⟨l.val / 128, h.1⟩ ⟨l.val % 128, h.2⟩))
          (Ideal.sqrt (Ideal.ofBits .f32 0x42C00000#32) * Ideal.log (Ideal.ofBits .f32 0x40000000#32))
      else 0 := by
  pointwise [operandq]
  rw [sitofp_zero]

theorem operandk_at (i : Fin 8192) (l : Fin 512) : operandk k (ix2 i l)
    = if h : l.val / 128 < 4 ∧ l.val % 128 < 96 then k (ix3 i ⟨l.val / 128, h.1⟩ ⟨l.val % 128, h.2⟩) else 0 := by
  pointwise [operandk]
  rw [sitofp_zero]

theorem operandv_at (i : Fin 8192) (l : Fin 256) :
    operandv v (ix2 i l) = v (ix3 i ⟨l.val / 64, by omega⟩ ⟨l.val % 64, by omega⟩) := by
  pointwise [operandv]

theorem savedy_at (P : FVec Ideal S4x8192x8192 .f32) (i : Fin 8192) (l : Fin 256) : savedy v P (ix2 i l)
    = ∑ j, v (ix3 j ⟨l.val / 64, by omega⟩ ⟨l.val % 64, by omega⟩) * P (ix3 ⟨l.val / 64, by omega⟩ i j) := by
  pointwise [savedy]

theorem lanes_at (M L : FVec Ideal S4x8192 .f32) (i : Fin 8192) (h : Fin 4) (d : Fin 64) :
    lanes M L (ix3 i h d) = logs M L (ix3 h i 0) := by
  pointwise [lanes]

theorem savedlse_at (M L : FVec Ideal S4x8192 .f32) (i : Fin 8192) (l : Fin 256) :
    savedlse M L (ix2 i l) = lanes M L (ix3 i ⟨l.val / 64, by omega⟩ ⟨l.val % 64, by omega⟩) := by
  pointwise [savedlse]

section

variable (m : (ℓ : Loc nD τ sig) → Buf (Elt Ideal) ℓ) (c : Dev nD)

abbrev argq : FVec Ideal S8192x4x96 .f32 := m ((c : Thread nD τ).loc main_arg0)
abbrev argk : FVec Ideal S8192x4x96 .f32 := m ((c : Thread nD τ).loc main_arg1)
abbrev argv : FVec Ideal S8192x4x64 .f32 := m ((c : Thread nD τ).loc main_arg2)
abbrev argdy : FVec Ideal S8192x256 .f32 := m ((c : Thread nD τ).loc main_arg3)

theorem V_v7 : V m c main_v7 = truncf .bf16 (operandq (argq m c)) bitsLt_bf16_f32 := by
  simp only [V, hostOps0, hostOps0_1, hostOps0_2, hostOps0_3, hostOps0_4, hostOps0_5, hostOps0_6, List.flatten_cons, List.flatten_nil, List.append_nil, List.cons_append, List.nil_append]
  after_reads_simp
  rfl

theorem V_v10 : V m c main_v10 = truncf .bf16 (operandk (argk m c)) bitsLt_bf16_f32 := by
  simp only [V, hostOps0, hostOps0_1, hostOps0_2, hostOps0_3, hostOps0_4, hostOps0_5, hostOps0_6, List.flatten_cons, List.flatten_nil, List.append_nil, List.cons_append, List.nil_append]
  after_reads_simp
  rfl

theorem V_v12 : V m c main_v12 = truncf .bf16 (operandv (argv m c)) bitsLt_bf16_f32 := by
  simp only [V, hostOps0, hostOps0_1, hostOps0_2, hostOps0_3, hostOps0_4, hostOps0_5, hostOps0_6, List.flatten_cons, List.flatten_nil, List.append_nil, List.cons_append, List.nil_append]
  after_reads_simp
  rfl

theorem V_v35 : V m c main_v35 = savedy (argv m c) (share (argq m c) (argk m c)) := by
  simp only [V, hostOps0, hostOps0_1, hostOps0_2, hostOps0_3, hostOps0_4, hostOps0_5, hostOps0_6, List.flatten_cons, List.flatten_nil, List.append_nil, List.cons_append, List.nil_append]
  after_reads_simp
  rfl

theorem V_v40 : V m c main_v40 = savedlse (rowMax (argq m c) (argk m c)) (total (argq m c) (argk m c)) := by
  simp only [V, hostOps0, hostOps0_1, hostOps0_2, hostOps0_3, hostOps0_4, hostOps0_5, hostOps0_6, List.flatten_cons, List.flatten_nil, List.append_nil, List.cons_append, List.nil_append]
  after_reads_simp
  rfl

end

end Cert.KernelIdeal.Saved

end
-- ==== Proof.Reference.lean ====
/- The reference's results as named arrays, each read at an index. -/
module

public import proofs.«01_k».proof.Proof.Saved
public import proofs.«01_k».proof.Proof.Gen.ReferenceIdeal.Run

@[expose] public section

set_option maxRecDepth 16384

noncomputable section

namespace Cert.ReferenceIdeal.Grad

open Cert.ReferenceIdeal.Gen Cert.KernelIdeal.Saved
open Idealize.ShloMosaic Idealize.ShloMosaic.TcCoe Idealize.ShloMosaic.Tactic

/-- A row's greatest score, with `⊥`. -/
def floored (M : FVec Ideal S4x8192 .f32) : FVec Ideal S4x8192 .f32 :=
  maximumf (broadcastInDim S4x8192 ![] bcast_S_S4x8192 (constant (F := Ideal) S_ .f32 0xFF800000#32)) M

/-- The result's gradient, a head's lanes apart. -/
def heads (dy : FVec Ideal S8192x256 .f32) : FVec Ideal S4x64x8192 .f32 :=
  transpose S4x64x8192 [1, 2, 0] (shapeCast _ dy shapeCasts_S8192x256_S8192x4x64) transposes_S8192x4x64_S4x64x8192_1_2_0

/-- The shares' gradient. -/
def dshares (D : FVec Ideal S4x64x8192 .f32) (v : FVec Ideal S8192x4x64 .f32) : FVec Ideal S4x8192x8192 .f32 :=
  Host.dotGeneral dot_S4x64x8192_S8192x4x64_S4x8192x8192_1_2_2_0_0_1 none D v

/-- The reciprocals of the sums' squares. -/
def squares (L : FVec Ideal S4x8192 .f32) : FVec Ideal S4x8192x1 .f32 :=
  Host.divf (broadcastInDim S4x8192x1 ![] bcast_S_S4x8192x1 (constant (F := Ideal) S_ .f32 0x3F800000#32))
    (mulf (broadcastInDim S4x8192x1 ![0, 1] bcast_S4x8192_S4x8192x1_0_1 L) (broadcastInDim S4x8192x1 ![0, 1] bcast_S4x8192_S4x8192x1_0_1 L))

/-- The gradient's products with the weights over the sums' squares. -/
def terms (G W : FVec Ideal S4x8192x8192 .f32) (R : FVec Ideal S4x8192x1 .f32) : FVec Ideal S4x8192x8192 .f32 :=
  mulf (mulf G (broadcastInDim S4x8192x8192 ![0, 1, 2] bcast_S4x8192x1_S4x8192x8192_0_1_2 R)) W

/-- A row's sum turned negative: the gradient of the row's sum. -/
def dsums (T : FVec Ideal S4x8192 .f32) : FVec Ideal S4x8192 .f32 :=
  Host.reduceAdd (Host.negf (shapeCast _ T shapeCasts_S4x8192_S4x8192x1)) (constant (F := Ideal) S_ .f32 0x00000000#32) reducesTo_S4x8192x1_S4x8192_d2 h_S_

/-- The weights' gradient. -/
def dweights (G : FVec Ideal S4x8192x8192 .f32) (L N : FVec Ideal S4x8192 .f32) : FVec Ideal S4x8192x8192 .f32 :=
  addf (Host.divf G (broadcastInDim S4x8192x8192 ![0, 1, 2] bcast_S4x8192x1_S4x8192x8192_0_1_2
      (broadcastInDim S4x8192x1 ![0, 1] bcast_S4x8192_S4x8192x1_0_1 L)))
    (broadcastInDim S4x8192x8192 ![0, 1] bcast_S4x8192_S4x8192x8192_0_1 N)

/-- The gradient of the products of queries and keys. -/
def dproducts (A W : FVec Ideal S4x8192x8192 .f32) : FVec Ideal S4x8192x8192 .f32 :=
  Host.divf (select (broadcastInDim S4x8192x8192 ![1, 2] bcast_S8192x8192_S4x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
      (mulf A W) (broadcastInDim S4x8192x8192 ![] bcast_S_S4x8192x8192 (constant (F := Ideal) S_ .f32 0x00000000#32)))
    (broadcastInDim S4x8192x8192 ![] bcast_S_S4x8192x8192 (Host.sqrt (constant (F := Ideal) S_ .f32 0x42C00000#32)))

/-- The queries' gradient. -/
def dqueries (Z : FVec Ideal S4x8192x8192 .f32) (k : FVec Ideal S8192x4x96 .f32) : FVec Ideal S8192x4x96 .f32 :=
  transpose S8192x4x96 [1, 0, 2] (Host.dotGeneral dot_S4x8192x8192_S8192x4x96_S4x8192x96_2_0_1_2_0_1 none Z k) transposes_S4x8192x96_S8192x4x96_1_0_2

/-- The keys' gradient. -/
def dkeys (Z : FVec Ideal S4x8192x8192 .f32) (q : FVec Ideal S8192x4x96 .f32) : FVec Ideal S8192x4x96 .f32 :=
  transpose S8192x4x96 [1, 0, 2] (Host.dotGeneral dot_S4x8192x8192_S8192x4x96_S4x8192x96_1_0_2_2_0_1 none Z q) transposes_S4x8192x96_S8192x4x96_1_0_2

/-- The values' gradient. -/
def dvalues (D : FVec Ideal S4x64x8192 .f32) (P : FVec Ideal S4x8192x8192 .f32) : FVec Ideal S8192x4x64 .f32 :=
  transpose S8192x4x64 [2, 0, 1] (Host.dotGeneral dot_S4x64x8192_S4x8192x8192_S4x64x8192_2_1_1_2_0_0 none D P) transposes_S4x64x8192_S8192x4x64_2_0_1

/-- The queries' gradient laid out as the kernel lays it. -/
def outq (g : FVec Ideal S8192x4x96 .f32) : FVec Ideal S8192x512 .f32 :=
  shapeCast _ (pad S8192x4x128 ![0, 0, 0] ![0, 0, 32] ![0, 0, 0] (mulf g (broadcastInDim S8192x4x96 ![] bcast_S_S8192x4x96
    (mulf (Host.sqrt (constant (F := Ideal) S_ .f32 0x42C00000#32)) (Host.log (constant (F := Ideal) S_ .f32 0x40000000#32)))))
    (sitofp .f32 (constantI S_ 32 0#32)) pads_S8192x4x96_S8192x4x128_000_000_0320 h_S_) shapeCasts_S8192x4x128_S8192x512

/-- The keys' gradient laid out as the kernel lays it. -/
def outk (g : FVec Ideal S8192x4x96 .f32) : FVec Ideal S2x32x256x256 .f32 :=
  transpose S2x32x256x256 [2, 0, 3, 1] (shapeCast S32x256x2x256 (pad S8192x4x128 ![0, 0, 0] ![0, 0, 32] ![0, 0, 0]
    (Host.divf g (broadcastInDim S8192x4x96 ![] bcast_S_S8192x4x96 (Host.log (constant (F := Ideal) S_ .f32 0x40000000#32))))
    (sitofp .f32 (constantI S_ 32 0#32)) pads_S8192x4x96_S8192x4x128_000_000_0320 h_S_) shapeCasts_S8192x4x128_S32x256x2x256)
    transposes_S32x256x2x256_S2x32x256x256_2_0_3_1

/-- The values' gradient laid out as the kernel lays it. -/
def outv (g : FVec Ideal S8192x4x64 .f32) : FVec Ideal S2x32x128x256 .f32 :=
  transpose S2x32x128x256 [2, 0, 3, 1] (shapeCast S32x256x2x128 g shapeCasts_S8192x4x64_S32x256x2x128)
    transposes_S32x256x2x128_S2x32x128x256_2_0_3_1

theorem floored_at (M : FVec Ideal S4x8192 .f32) (h : Fin 4) (i : Fin 8192) :
    floored M (ix2 h i) = max (Ideal.ofBits .f32 0xFF800000#32) (M (ix2 h i)) := by pointwise [floored]

/-- A head's channel among the 256. -/
def channel (h : Fin 4) (d : Fin 64) : Fin 256 := ⟨h.val * 64 + d.val, by omega⟩

theorem heads_at (dy : FVec Ideal S8192x256 .f32) (h : Fin 4) (d : Fin 64) (i : Fin 8192) :
    heads dy (ix3 h d i) = dy (ix2 i (channel h d)) := by pointwise [heads, channel]

theorem dshares_at (D : FVec Ideal S4x64x8192 .f32) (v : FVec Ideal S8192x4x64 .f32) (h : Fin 4) (i j : Fin 8192) :
    dshares D v (ix3 h i j) = ∑ d, D (ix3 h d i) * v (ix3 j h d) := by pointwise [dshares]

theorem squares_at (L : FVec Ideal S4x8192 .f32) (h : Fin 4) (i : Fin 8192) :
    squares L (ix3 h i 0) = Ideal.div (Ideal.ofBits .f32 0x3F800000#32) (L (ix2 h i) * L (ix2 h i)) := by pointwise [squares]

theorem terms_at (G W : FVec Ideal S4x8192x8192 .f32) (R : FVec Ideal S4x8192x1 .f32) (h : Fin 4) (i j : Fin 8192) :
    terms G W R (ix3 h i j) = G (ix3 h i j) * R (ix3 h i 0) * W (ix3 h i j) := by pointwise [terms]

theorem dsums_at (T : FVec Ideal S4x8192 .f32) (h : Fin 4) (i : Fin 8192) : dsums T (ix2 h i) = -T (ix2 h i) := by
  pointwise [dsums]
  exact Fin.sum_univ_one _

theorem dweights_at (G : FVec Ideal S4x8192x8192 .f32) (L N : FVec Ideal S4x8192 .f32) (h : Fin 4) (i j : Fin 8192) :
    dweights G L N (ix3 h i j) = Ideal.div (G (ix3 h i j)) (L (ix2 h i)) + N (ix2 h i) := by pointwise [dweights]

theorem dproducts_at (A W : FVec Ideal S4x8192x8192 .f32) (h : Fin 4) (i j : Fin 8192) : dproducts A W (ix3 h i j)
    = Ideal.div (if j.val ≤ i.val then A (ix3 h i j) * W (ix3 h i j) else Ideal.ofBits .f32 0x00000000#32) (Ideal.sqrt (Ideal.ofBits .f32 0x42C00000#32)) := by
  pointwise [dproducts]
  exact congrArg (Ideal.div · _) (select_le j i _ _)

theorem dqueries_at (Z : FVec Ideal S4x8192x8192 .f32) (k : FVec Ideal S8192x4x96 .f32) (i : Fin 8192) (h : Fin 4) (d : Fin 96) :
    dqueries Z k (ix3 i h d) = ∑ j, Z (ix3 h i j) * k (ix3 j h d) := by pointwise [dqueries]

theorem dkeys_at (Z : FVec Ideal S4x8192x8192 .f32) (q : FVec Ideal S8192x4x96 .f32) (j : Fin 8192) (h : Fin 4) (d : Fin 96) :
    dkeys Z q (ix3 j h d) = ∑ i, Z (ix3 h i j) * q (ix3 i h d) := by pointwise [dkeys]

theorem dvalues_at (D : FVec Ideal S4x64x8192 .f32) (P : FVec Ideal S4x8192x8192 .f32) (j : Fin 8192) (h : Fin 4) (d : Fin 64) :
    dvalues D P (ix3 j h d) = ∑ i, D (ix3 h d i) * P (ix3 h i j) := by pointwise [dvalues]

theorem outq_at (g : FVec Ideal S8192x4x96 .f32) (i : Fin 8192) (l : Fin 512) : outq g (ix2 i l)
    = if h : l.val / 128 < 4 ∧ l.val % 128 < 96 then
        g (ix3 i ⟨l.val / 128, h.1⟩ ⟨l.val % 128, h.2⟩) * (Ideal.sqrt (Ideal.ofBits .f32 0x42C00000#32) * Ideal.log (Ideal.ofBits .f32 0x40000000#32))
      else 0 := by
  pointwise [outq]
  rw [sitofp_zero]

theorem outk_at (g : FVec Ideal S8192x4x96 .f32) (a : Fin 2) (b : Fin 32) (l n : Fin 256) : outk g (ix4 a b l n)
    = if h : l.val % 128 < 96 then
        Ideal.div (g (ix3 ⟨b.val * 256 + n.val, by omega⟩ ⟨a.val * 2 + l.val / 128, by omega⟩ ⟨l.val % 128, h⟩)) (Ideal.log (Ideal.ofBits .f32 0x40000000#32))
      else 0 := by
  pointwise [outk]
  rw [sitofp_zero]
  exact dite_congr (propext ⟨fun h => h.2.2, fun h => ⟨by omega, by omega, h⟩⟩) (fun _ => rfl) fun _ => rfl

theorem outv_at (g : FVec Ideal S8192x4x64 .f32) (a : Fin 2) (b : Fin 32) (l : Fin 128) (n : Fin 256) : outv g (ix4 a b l n)
    = g (ix3 ⟨b.val * 256 + n.val, by omega⟩ ⟨a.val * 2 + l.val / 64, by omega⟩ ⟨l.val % 64, by omega⟩) := by
  pointwise [outv]

section

variable (m : (ℓ : Loc nD τ sig) → Buf (Elt Ideal) ℓ) (c : Dev nD)

abbrev argq : FVec Ideal S8192x4x96 .f32 := m ((c : Thread nD τ).loc main_arg0)
abbrev argk : FVec Ideal S8192x4x96 .f32 := m ((c : Thread nD τ).loc main_arg1)
abbrev argv : FVec Ideal S8192x4x64 .f32 := m ((c : Thread nD τ).loc main_arg2)
abbrev argdy : FVec Ideal S8192x256 .f32 := m ((c : Thread nD τ).loc main_arg3)

variable (q k : FVec Ideal S8192x4x96 .f32) (v : FVec Ideal S8192x4x64 .f32) (dy : FVec Ideal S8192x256 .f32)

/-- The row's greatest scores, the weights, their sums and the gradient of the products, all of the arguments. -/
abbrev most := floored (rowMax q k)
abbrev wts := weights (masked q k) (most q k)
abbrev tot := sums (wts q k)
abbrev dshr := dshares (heads dy) v
abbrev dsum := dsums (sums (terms (dshr v dy) (wts q k) (squares (tot q k))))
abbrev dprod := dproducts (dweights (dshr v dy) (tot q k) (dsum q k v dy)) (wts q k)

theorem res_v72 : Value.res_main_v72 m c = outq (dqueries (dprod (argq m c) (argk m c) (argv m c) (argdy m c)) (argk m c)) := by
  unfold Value.res_main_v72
  rfl

theorem res_v77 : Value.res_main_v77 m c = outk (dkeys (dprod (argq m c) (argk m c) (argv m c) (argdy m c)) (argq m c)) := by
  unfold Value.res_main_v77
  rfl

theorem res_v79 : Value.res_main_v79 m c = outv (dvalues (heads (argdy m c)) (shares (wts (argq m c) (argk m c)) (tot (argq m c) (argk m c)))) := by
  unfold Value.res_main_v79
  rfl

end

end Cert.ReferenceIdeal.Grad

end
-- ==== Proof.Spec.lean ====
/- What the body computes at one point of the grid, as plain sums over the blocks its windows hold: the probabilities
   and score gradients of the point's 512 queries against the 8192 keys, and the three gradients' contributions.
   Everything is over the extended reals; no finiteness is asked. -/
module

public import proofs.«01_k».proof.Proof.Gen.KernelIdeal.Skeleton
public import Idealize.ShloMosaic.Lib.Pointwise

@[expose] public section

noncomputable section

namespace Cert.KernelIdeal.Spec

open Idealize.ShloMosaic

/-- Lane `c` of the 128 lanes that half `e` of a query's or key's 256 lanes holds. -/
def lane (e : Fin 2) (c : Fin 128) : Fin 256 := ⟨128 * e.val + c.val, by omega⟩

/-- The half a lane of 256 lies in. -/
def half (l : Fin 256) : Fin 2 := ⟨l.val / 128, by omega⟩

/-- The half a channel of 128 lies in: a head's values have 64. -/
def side (l : Fin 128) : Fin 2 := ⟨l.val / 64, by omega⟩

/-- Row `n` of block `b` of 256 keys. -/
def key (b : ℕ) (n : Fin 256) : Fin 8192 := Fin.ofNat 8192 (256 * b + n.val)

theorem key_val {b : ℕ} (hb : b < 32) (n : Fin 256) : (key b n).val = 256 * b + n.val := by
  show (256 * b + n.val) % 8192 = _
  omega

section

variable (i : ℕ) (q : Vec Ideal S512x256 .bf16) (k : Vec Ideal S8192x256 .bf16) (v : Vec Ideal S8192x128 .bf16)
  (y lse dy : Vec Ideal S512x128 .f32)

/-- Query `r` against key `j` in half `e`. -/
def score (e : Fin 2) (r : Fin 512) (j : Fin 8192) : EReal :=
  ∑ c : Fin 128, q (ix2 r (lane e c)) * k (ix2 j (lane e c))

/-- The logarithm of the row's sum, in base two, in the lane that key `n` of a block meets. -/
def logsum (e : Fin 2) (r : Fin 512) (n : ℕ) : EReal :=
  lse (ix2 r ⟨64 * e.val + n % 64, by omega⟩) * (((Real.log 2)⁻¹ : ℝ) : EReal)

/-- The result's gradient in the channels of half `e`, zero in the other's. -/
def part (e : Fin 2) (r : Fin 512) (l : Fin 128) : EReal := if side l = e then dy (ix2 r l) else 0

/-- The row's inner product of the result and its gradient, in the channels of half `e`. -/
def delta (e : Fin 2) (r : Fin 512) : EReal := ∑ l : Fin 128, part dy e r l * y (ix2 r l)

/-- The probability's gradient. -/
def dprob (e : Fin 2) (r : Fin 512) (j : Fin 8192) : EReal :=
  ∑ l : Fin 128, part dy e r l * (if side l = e then v (ix2 j l) else 0)

/-- The probability that query `512 i + r` gives key `j`: none to a key after it. -/
def prob (e : Fin 2) (r : Fin 512) (j : Fin 8192) : EReal :=
  Ideal.exp2 ((if j.val ≤ 512 * i + r.val then score q k e r j else ⊥) - logsum lse e r j.val)

/-- The score's gradient. -/
def dscore (e : Fin 2) (r : Fin 512) (j : Fin 8192) : EReal :=
  prob i q k lse e r j * (dprob v dy e r j - delta y dy e r)

/-- What key block `b` adds to lane `l` of the query's gradient, before the last factor. -/
def dqPart (r : Fin 512) (l : Fin 256) (b : ℕ) : EReal :=
  ∑ n : Fin 256, dscore i q k v y lse dy (half l) r (key b n) * k (ix2 (key b n) l)

/-- What the 512 queries add to lane `l` of key `j`'s gradient. -/
def dkPart (l : Fin 256) (j : Fin 8192) : EReal :=
  ∑ r : Fin 512, q (ix2 r l) * dscore i q k v y lse dy (half l) r j

/-- What the 512 queries add to channel `l` of the gradient of value `j`. -/
def dvPart (l : Fin 128) (j : Fin 8192) : EReal :=
  ∑ r : Fin 512, dy (ix2 r l) * prob i q k lse (side l) r j

/-! ## The scratch -/

/-- The gradient of the result, a head's channels at a time. -/
def dob : Vec Ideal S2x512x128 .bf16 := fun x => part dy (x 0) (x 1) (x 2)

/-- The two heads' rows: the logarithm of the sum, then the inner product, over the lanes. -/
def rows : Vec Ideal S4x512x128 .f32 := fun x =>
  if (x 0).val % 2 = 0 then logsum lse ⟨(x 0).val / 2, by have := (x 0).isLt; change _ < 4 at this; omega⟩ (x 1) (x 2).val
  else delta y dy ⟨(x 0).val / 2, by have := (x 0).isLt; change _ < 4 at this; omega⟩ (x 1)

/-- The queries turned. -/
def qt : Vec Ideal S256x512 .bf16 := fun x => q (ix2 (x 1) (x 0))

/-- The result's gradient turned. -/
def dot : Vec Ideal S128x512 .bf16 := fun x => dy (ix2 (x 1) (x 0))

/-! ## The accumulators -/

/-- The query gradient after the key blocks below `b`. -/
def dqAcc (b : ℕ) (X : Vec Ideal S512x256 .f32) : Vec Ideal S512x256 .f32 := fun x =>
  X x + ∑ b' ∈ Finset.range b, dqPart i q k v y lse dy (x 0) (x 1) b'

/-- The key gradient after the key blocks below `b`. -/
def dkAcc (b : ℕ) (X : Vec Ideal S1x32x256x256 .f32) : Vec Ideal S1x32x256x256 .f32 := fun x =>
  X x + if (x 1).val < b then dkPart i q k v y lse dy (x 2) (key (x 1).val (x 3)) else 0

/-- The value gradient after the key blocks below `b`. -/
def dvAcc (b : ℕ) (X : Vec Ideal S1x32x128x256 .f32) : Vec Ideal S1x32x128x256 .f32 := fun x =>
  X x + if (x 1).val < b then dvPart i q k lse dy (x 2) (key (x 1).val (x 3)) else 0

end

end Cert.KernelIdeal.Spec

end
-- ==== Proof.Attention.lean ====
/- Causal attention and its gradient over the reals, and the host's arrays read as these reals where the arguments are
   finite. -/
module

public import proofs.«01_k».proof.Proof.Reference
public import proofs.«01_k».proof.Proof.Spec

@[expose] public section

noncomputable section

namespace Cert.Attention

open Idealize.ShloMosaic
open Cert.KernelIdeal.Saved

/-- The sum of finitely many reals is the same among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The constants -/

theorem ninf : Ideal.ofBits .f32 0xFF800000#32 = ⊥ := by simp [Ideal.ofBits, Ideal.ieee]

theorem pinf : Ideal.ofBits .f32 0x7F800000#32 = ⊤ := by simp [Ideal.ofBits, Ideal.ieee]

theorem width : Ideal.ofBits .f32 0x42C00000#32 = ((96 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem root : Ideal.sqrt (Ideal.ofBits .f32 0x42C00000#32) = ((Real.sqrt 96 : ℝ) : EReal) := by
  rw [width, Ideal.sqrt_coe, if_neg (by norm_num)]

theorem logtwo : Ideal.log (Ideal.ofBits .f32 0x40000000#32) = ((Real.log 2 : ℝ) : EReal) := by
  rw [two, Ideal.log_coe, if_neg (by norm_num)]

theorem root_ne : Real.sqrt 96 ≠ 0 := (Real.sqrt_pos.mpr (by norm_num)).ne'

theorem logtwo_ne : Real.log 2 ≠ 0 := (Real.log_pos (by norm_num)).ne'

theorem div_reals (a : ℝ) {b : ℝ} (h : b ≠ 0) : Ideal.div (a : EReal) (b : EReal) = ((a * (1 / b) : ℝ) : EReal) := by
  rw [Ideal.div_coe h, EReal.coe_mul]

/-! ## Attention over the reals -/

section

variable (q k : Fin 8192 → Fin 4 → Fin 96 → ℝ) (v D : Fin 8192 → Fin 4 → Fin 64 → ℝ) (M : Fin 4 → Fin 8192 → ℝ)

/-- Query `i` against key `j` in head `h`. -/
def score (h : Fin 4) (i j : Fin 8192) : ℝ := (∑ d, q i h d * k j h d) * (1 / Real.sqrt 96)

/-- The weight of key `j`, none where it comes after the query; `M` is any row constant. -/
def wt (h : Fin 4) (i j : Fin 8192) : ℝ := if j.val ≤ i.val then Real.exp (score q k h i j - M h i) else 0

/-- A row's sum. -/
def tot (h : Fin 4) (i : Fin 8192) : ℝ := ∑ j, wt q k M h i j

/-- A key's share of its row. -/
def share (h : Fin 4) (i j : Fin 8192) : ℝ := wt q k M h i j * (1 / tot q k M h i)

/-- The gradient of a share. -/
def dshare (h : Fin 4) (i j : Fin 8192) : ℝ := ∑ d, D i h d * v j h d

/-- The row's inner product of shares and their gradients. -/
def inner (h : Fin 4) (i : Fin 8192) : ℝ := ∑ j, dshare v D h i j * share q k M h i j

/-- The gradient of a score. -/
def dscore (h : Fin 4) (i j : Fin 8192) : ℝ := share q k M h i j * (dshare v D h i j - inner q k v D M h i)

theorem wt_nonneg (h : Fin 4) (i j : Fin 8192) : 0 ≤ wt q k M h i j := by
  unfold wt
  split
  · exact (Real.exp_pos _).le
  · exact le_rfl

theorem tot_pos (h : Fin 4) (i : Fin 8192) : 0 < tot q k M h i := by
  refine lt_of_lt_of_le ?_ (Finset.single_le_sum (fun j _ => wt_nonneg q k M h i j) (Finset.mem_univ i))
  rw [wt, if_pos le_rfl]
  exact Real.exp_pos _

theorem share_after {h : Fin 4} {i j : Fin 8192} (hij : i.val < j.val) : share q k M h i j = 0 := by
  rw [share, wt, if_neg (by omega), zero_mul]

theorem dscore_after {h : Fin 4} {i j : Fin 8192} (hij : i.val < j.val) : dscore q k v D M h i j = 0 := by
  rw [dscore, share_after q k M hij, zero_mul]

/-- The inner product of a row's result and its gradient is the inner product of its shares and theirs. -/
theorem inner_result (h : Fin 4) (i : Fin 8192) :
    ∑ d, D i h d * ∑ j, v j h d * share q k M h i j = inner q k v D M h i := by
  simp only [inner, dshare, Finset.mul_sum, Finset.sum_mul]
  rw [Finset.sum_comm]
  exact Finset.sum_congr rfl fun j _ => Finset.sum_congr rfl fun d _ => by ring

end

/-! ## The host's arrays -/

section

variable {q k : Fin 8192 → Fin 4 → Fin 96 → ℝ} {v D : Fin 8192 → Fin 4 → Fin 64 → ℝ} {M : Fin 4 → Fin 8192 → ℝ}
  {aq ak : FVec Ideal Cert.KernelIdeal.S8192x4x96 .f32} {av : FVec Ideal Cert.KernelIdeal.S8192x4x64 .f32}
  {ady : FVec Ideal Cert.KernelIdeal.S8192x256 .f32}
  (hq : ∀ i h d, aq (ix3 i h d) = ((q i h d : ℝ) : EReal)) (hk : ∀ i h d, ak (ix3 i h d) = ((k i h d : ℝ) : EReal))
  (hv : ∀ i h d, av (ix3 i h d) = ((v i h d : ℝ) : EReal))
  (hD : ∀ (i : Fin 8192) (h : Fin 4) (d : Fin 64), ady (ix2 i (Cert.ReferenceIdeal.Grad.channel h d)) = ((D i h d : ℝ) : EReal))

include hq hk

theorem masked_real (h : Fin 4) (i j : Fin 8192) :
    masked aq ak (ix3 h i j) = if j.val ≤ i.val then ((score q k h i j : ℝ) : EReal) else ⊥ := by
  rw [masked_at, root, ninf]
  simp only [hq, hk, ← EReal.coe_mul, coe_sum, div_reals _ root_ne, score]

/-- The greatest score of a row is a real. -/
theorem rowMax_real : ∃ M : Fin 4 → Fin 8192 → ℝ, ∀ h i, rowMax aq ak (ix2 h i) = ((M h i : ℝ) : EReal) := by
  refine ⟨fun h i => (rowMax aq ak (ix2 h i)).toReal, fun h i => (EReal.coe_toReal ?_ ?_).symm⟩
  · rw [rowMax, greatest_at, ninf]
    refine ne_of_lt ((Finset.fold_max_lt _).mpr ⟨bot_lt_top, fun j _ => ?_⟩)
    rw [masked_real hq hk]
    split
    · exact EReal.coe_lt_top _
    · exact bot_lt_top
  · rw [rowMax, greatest_at, ninf]
    refine ne_of_gt ((Finset.lt_fold_max _).mpr (Or.inr ⟨i, Finset.mem_univ i, ?_⟩))
    rw [masked_real hq hk, if_pos le_rfl]
    exact EReal.bot_lt_coe _

theorem weights_real {X : FVec Ideal Cert.KernelIdeal.S4x8192 .f32} (hX : ∀ h i, X (ix2 h i) = ((M h i : ℝ) : EReal))
    (h : Fin 4) (i j : Fin 8192) : weights (masked aq ak) X (ix3 h i j) = ((wt q k M h i j : ℝ) : EReal) := by
  rw [weights_at, masked_real hq hk, hX, wt]
  split
  · rw [← EReal.coe_sub, Ideal.exp_coe]
  · rw [EReal.bot_sub, Ideal.exp_bot, EReal.coe_zero]

theorem sums_real {X : FVec Ideal Cert.KernelIdeal.S4x8192 .f32} (hX : ∀ h i, X (ix2 h i) = ((M h i : ℝ) : EReal))
    (h : Fin 4) (i : Fin 8192) : sums (weights (masked aq ak) X) (ix2 h i) = ((tot q k M h i : ℝ) : EReal) := by
  simp only [sums_at, weights_real hq hk hX, coe_sum, tot]

theorem shares_real {X : FVec Ideal Cert.KernelIdeal.S4x8192 .f32} (hX : ∀ h i, X (ix2 h i) = ((M h i : ℝ) : EReal))
    (h : Fin 4) (i j : Fin 8192) :
    shares (weights (masked aq ak) X) (sums (weights (masked aq ak) X)) (ix3 h i j) = ((share q k M h i j : ℝ) : EReal) := by
  rw [shares_at, weights_real hq hk hX, sums_real hq hk hX, div_reals _ (tot_pos q k M h i).ne', share]

theorem most_real (hM : ∀ h i, rowMax aq ak (ix2 h i) = ((M h i : ℝ) : EReal)) (h : Fin 4) (i : Fin 8192) :
    Cert.ReferenceIdeal.Grad.most aq ak (ix2 h i) = ((M h i : ℝ) : EReal) := by
  rw [Cert.ReferenceIdeal.Grad.most, Cert.ReferenceIdeal.Grad.floored_at, ninf, hM, max_eq_right bot_le]

omit hq hk in
include hv hD in
theorem dshr_real (h : Fin 4) (i j : Fin 8192) :
    Cert.ReferenceIdeal.Grad.dshr av ady (ix3 h i j) = ((dshare v D h i j : ℝ) : EReal) := by
  simp only [Cert.ReferenceIdeal.Grad.dshr, Cert.ReferenceIdeal.Grad.dshares_at, Cert.ReferenceIdeal.Grad.heads_at, hv, hD,
    ← EReal.coe_mul, coe_sum, dshare]

include hv hD in
theorem dsum_real (hM : ∀ h i, rowMax aq ak (ix2 h i) = ((M h i : ℝ) : EReal)) (h : Fin 4) (i : Fin 8192) :
    Cert.ReferenceIdeal.Grad.dsum aq ak av ady (ix2 h i) = ((-(inner q k v D M h i * (1 / tot q k M h i)) : ℝ) : EReal) := by
  have hL := (tot_pos q k M h i).ne'
  simp only [Cert.ReferenceIdeal.Grad.dsum, Cert.ReferenceIdeal.Grad.dsums_at, sums_at, Cert.ReferenceIdeal.Grad.terms_at,
    Cert.ReferenceIdeal.Grad.squares_at, Cert.ReferenceIdeal.Grad.tot, Cert.ReferenceIdeal.Grad.wts, dshr_real hv hD,
    weights_real hq hk (most_real hq hk hM), sums_real hq hk (most_real hq hk hM), Ideal.ofBits_one_f32]
  simp only [← EReal.coe_one, ← EReal.coe_mul, div_reals _ (mul_ne_zero hL hL), coe_sum, ← EReal.coe_neg]
  simp only [inner, share, Finset.sum_mul]
  refine congrArg (fun x : ℝ => ((-x : ℝ) : EReal)) (Finset.sum_congr rfl fun j _ => ?_)
  field_simp

include hv hD in
theorem dprod_real (hM : ∀ h i, rowMax aq ak (ix2 h i) = ((M h i : ℝ) : EReal)) (h : Fin 4) (i j : Fin 8192) :
    Cert.ReferenceIdeal.Grad.dprod aq ak av ady (ix3 h i j) = ((dscore q k v D M h i j * (1 / Real.sqrt 96) : ℝ) : EReal) := by
  have hL := (tot_pos q k M h i).ne'
  simp only [Cert.ReferenceIdeal.Grad.dprod, Cert.ReferenceIdeal.Grad.dproducts_at, Cert.ReferenceIdeal.Grad.dweights_at,
    dshr_real hv hD, dsum_real hq hk hv hD hM, Cert.ReferenceIdeal.Grad.tot, Cert.ReferenceIdeal.Grad.wts,
    weights_real hq hk (most_real hq hk hM), sums_real hq hk (most_real hq hk hM), root, Ideal.ofBits_zero_f32,
    div_reals _ hL, ← EReal.coe_mul, ← EReal.coe_add]
  have h' : (if j.val ≤ i.val then (((dshare v D h i j * (1 / tot q k M h i) + -(inner q k v D M h i * (1 / tot q k M h i)))
      * wt q k M h i j : ℝ) : EReal) else 0) = ((dscore q k v D M h i j : ℝ) : EReal) := by
    split
    · refine congrArg _ ?_
      rw [dscore, share]
      ring
    · rw [dscore_after q k v D M (by omega), EReal.coe_zero]
  rw [h', div_reals _ root_ne]

end

end Cert.Attention

end
-- ==== Proof.Finite.lean ====
/- The precondition: an argument it holds of has a real at every index. -/
module

public import proofs.«01_k».proof.Proof.Gen.Pre_finite
public import proofs.«01_k».proof.Proof.Attention
public import Idealize.ShloMosaic.Lib.ReduceAll

@[expose] public section

noncomputable section

namespace Cert.Finite

open Idealize.ShloMosaic

/-- A number whose size is below `⊤` is a real. -/
theorem real_of_lt {x : EReal} (h : Ideal.cmp .olt (max x (-x)) (Ideal.ofBits .f32 0x7F800000#32) = 1#1) :
    x = ((x.toReal : ℝ) : EReal) := by
  rw [Attention.pinf] at h
  induction x with
  | bot => simp [Ideal.cmp] at h
  | top => simp [Ideal.cmp] at h
  | coe r => rw [EReal.toReal_coe]

instance : Subsingleton Cert.Pre_finite.S_.Idx := ⟨fun a b => funext fun i => i.elim0⟩

/-- A conjunction of two bits that is one has both. -/
theorem both {a b : BitVec 1} (h : IntOp.andi a b = 1#1) : a = 1#1 ∧ b = 1#1 := by
  revert a b; decide

/-- What the precondition says of the four arguments. -/
theorem reals {a0 a1 : FVec Ideal Cert.Pre_finite.S8192x4x96 .f32} {a2 : FVec Ideal Cert.Pre_finite.S8192x4x64 .f32}
    {a3 : FVec Ideal Cert.Pre_finite.S8192x256 .f32} (h : Cert.Pre_finite.fn (F := Ideal) a0 a1 a2 a3 = fun _ => 1#1) :
    (∀ x, a0 x = (((a0 x : EReal).toReal : ℝ) : EReal)) ∧ (∀ x, a1 x = (((a1 x : EReal).toReal : ℝ) : EReal))
      ∧ (∀ x, a2 x = (((a2 x : EReal).toReal : ℝ) : EReal)) ∧ ∀ x, a3 x = (((a3 x : EReal).toReal : ℝ) : EReal) := by
  have h0 := congrFun h (fun i => i.elim0)
  dsimp only [Cert.Pre_finite.fn, Cert.Pre_finite.fn_part1] at h0
  obtain ⟨h1, e3⟩ := both h0
  obtain ⟨h2, e2⟩ := both h1
  obtain ⟨e0, e1⟩ := both h2
  exact ⟨fun x => real_of_lt (Host.reduce_andi_all _ _ _ _ _ e0 x), fun x => real_of_lt (Host.reduce_andi_all _ _ _ _ _ e1 x),
    fun x => real_of_lt (Host.reduce_andi_all _ _ _ _ _ e2 x), fun x => real_of_lt (Host.reduce_andi_all _ _ _ _ _ e3 x)⟩

end Cert.Finite

end
-- ==== Proof.Chain.lean ====
module

public import proofs.«01_k».proof.Proof.Input
public import proofs.«01_k».proof.Proof.Finite

/-!
# The reference's gradients behind the input projection

The reference differentiates the normalisation as it is written; its gradient of the activations is the call's. A row with an
infinity has no gradient in either; for any other row the inverse root is a positive real, which distributes over any sum.
-/

@[expose] public section

set_option maxRecDepth 16384

noncomputable section

namespace Cert.Reference2Ideal.Input

open Idealize.ShloMosaic Idealize.ShloMosaic.TcCoe Cert.Reference2Ideal.Gen Cert.Reference2Ideal
open Cert.Kernel2Ideal.Input (col col_at laid back inv result12 result13 result14)

variable (m : (ℓ : Loc nD τ sig) → Buf (Elt Ideal) ℓ) (c : Dev nD)

/-- A row's mean square and the constant added to it. -/
def square (x : FVec Ideal S8192x1024 .f32) (i : Fin 8192) : EReal :=
  Ideal.div (∑ k : Fin 1024, x (ix2 i k) * x (ix2 i k)) (Ideal.ofBits .f32 0x44800000#32) + Ideal.ofBits .f32 0x358637BD#32

/-- Its inverse root is the one the call takes. -/
theorem inv_eq (x : FVec Ideal S8192x1024 .f32) (i : Fin 8192) : inv x i = Ideal.rsqrt (square x i) := rfl

/-- The gradient of a row's mean square, as the reference takes it. -/
def slope (x : FVec Ideal S8192x1024 .f32) (g : FVec Ideal S1024 .f32) (B : Fin 1024 → EReal) (i : Fin 8192) : EReal :=
  Ideal.div ((∑ l : Fin 1024, x (ix2 i l) * (B l * g (ix1 l))) * (Ideal.ofBits .f32 0xBF000000#32 * Ideal.div (inv x i) (square x i)))
    (Ideal.ofBits .f32 0x44800000#32)

set_option maxHeartbeats 1000000 in
/-- The reference's gradient of the activations, entry by entry. -/
theorem res12 {x : FVec Ideal S8192x1024 .f32} {g : FVec Ideal S1024 .f32} {w : FVec Ideal S3488x1024 .f32} {nx : FVec Ideal S8192x1024 .f32}
    {d : FVec Ideal S8192x3488 .f32} (hx : m ((c.tc : Thread nD τ).loc main_arg0) = x) (hg : m ((c.tc : Thread nD τ).loc main_arg1) = g)
    (hw : m ((c.tc : Thread nD τ).loc main_arg2) = w) (hn : m ((c.tc : Thread nD τ).loc main_arg3) = nx)
    (hd : m ((c.tc : Thread nD τ).loc main_arg4) = d) (i : Fin 8192) (k : Fin 1024) :
    Cert.Reference2Ideal.Value.res_main_v43 m c (ix2 i k) = back d w i k * g (ix1 k) * inv x i + x (ix2 i k) * slope x g (back d w i) i
      + slope x g (back d w i) i * x (ix2 i k) + nx (ix2 i k) := by
  unfold Cert.Reference2Ideal.Value.res_main_v43
  rw [hx, hg, hw, hn, hd]
  pointwise [back, slope, square, Cert.Kernel2Ideal.Input.inv]
  simp only [Fintype.sum_unique]

/-- The reference's gradient of the scale. -/
theorem res14 (x : FVec Ideal S8192x1024 .f32) (w : FVec Ideal S3488x1024 .f32) (d : FVec Ideal S8192x3488 .f32) (r : Fin 1) (k : Fin 1024) :
    shapeCast S1x1024 (Host.reduceAdd (shapeCast S1x1024 (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x3488_S1024x3488_S8192x1024_1_1_0_0_n_n none d (transpose S1024x3488 [1, 0] w transposes_S3488x1024_S1024x3488_1_0))) (constant S_ .f32 0x00000000#32) reducesTo_S8192x1024_S1024_d0 h_S_) shapeCasts_S1024_S1x1024) (constant S_ .f32 0x00000000#32) reducesTo_S1x1024_S1024_d0 h_S_) shapeCasts_S1024_S1x1024 (ix2 r k) = result14 x w d (ix2 r k) := by
  pointwise [result14, back, Cert.Kernel2Ideal.Input.inv]
  refine (Fintype.sum_unique _).trans (Finset.sum_congr rfl fun i _ => mul_comm _ _)

theorem res13 (d : FVec Ideal S8192x3488 .f32) (i : Fin 8192) (l : Fin 3584) :
    concatenate S8192x3584 1 [⟨S8192x512, extractStridedSlice S8192x512 ![0, 0] d slices_S8192x3488_S8192x512_0_0⟩,
      ⟨S8192x1792, extractStridedSlice S8192x1792 ![0, 1696] d slices_S8192x3488_S8192x1792_0_1696⟩,
      ⟨S8192x1184, extractStridedSlice S8192x1184 ![0, 512] d slices_S8192x3488_S8192x1184_0_512⟩,
      ⟨S8192x96, broadcastInDim S8192x96 ![] bcast_S_S8192x96 (constant S_ .f32 0x00000000#32)⟩]
      concatenates_S8192x512_S8192x1792_S8192x1184_S8192x96_S8192x3584_d1 (ix2 i l) = laid d i l.val := by
  have hl := l.isLt
  pointwise [laid]
  by_cases h : l.val < 512
  · rw [dif_pos h, if_pos h]
    exact col_at d i _ rfl
  · rw [dif_neg h, if_neg h]
    by_cases h2 : l.val < 2304
    · rw [dif_pos (show l.val - 512 < 1792 by omega), if_pos h2]
      exact col_at d i _ (show 1696 + (l.val - 512) = l.val + 1184 by omega)
    · rw [dif_neg (show ¬ l.val - 512 < 1792 by omega), if_neg h2]
      by_cases h3 : l.val < 3488
      · rw [dif_pos (show l.val - 512 - 1792 < 1184 by omega), if_pos h3]
        exact col_at d i _ (show 512 + (l.val - 512 - 1792) = l.val - 1792 by omega)
      · rw [dif_neg (show ¬ l.val - 512 - 1792 < 1184 by omega), if_neg h3]

/-- The constant added to the mean square is a positive real. -/
theorem epsilon : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem half : Ideal.ofBits .f32 0xBF000000#32 = ((-(1 / 2) : ℝ) : EReal) := by
  simp [Ideal.ofBits, Ideal.ieee, -EReal.coe_mul]; norm_num

/-- A square is not negative. -/
theorem square_nonneg (y : EReal) : 0 ≤ y * y := by
  induction y with
  | bot => simp
  | top => simp
  | coe r => rw [← EReal.coe_mul]; exact_mod_cast mul_self_nonneg r

/-- The square of a number that is not real is infinite. -/
theorem square_top {y : EReal} (h : ¬ y = ((y.toReal : ℝ) : EReal)) : y * y = ⊤ := by
  induction y with
  | bot => simp
  | top => simp
  | coe r => exact absurd (by rw [EReal.toReal_coe]) h

/-- A real factor that is not negative goes into a sum. -/
theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A number taken twice. -/
theorem twice (y : EReal) (a : ℝ) : y * (a : EReal) + y * (a : EReal) = y * ((2 * a : ℝ) : EReal) := by
  have h : y * (a : EReal) * ((1 : EReal) + 1) = y * (a : EReal) * 1 + y * (a : EReal) * 1 :=
    EReal.left_distrib_of_nonneg zero_le_one zero_le_one
  rw [mul_one] at h
  rw [← h, mul_assoc]
  refine congrArg (y * ·) ?_
  rw [show ((1 : EReal) + 1) = ((1 + 1 : ℝ) : EReal) by simp, ← EReal.coe_mul]
  exact congrArg _ (by ring)

/-- The two forms of the gradient through the normalisation, where the row is real: nothing is said of the gradients. -/
theorem normal_real (X : Fin 1024 → ℝ) (a : Fin 1024 → EReal) (k : Fin 1024) {v r : ℝ} (hv : 0 < v) (hr : r = (Real.sqrt v)⁻¹) :
    a k * (r : EReal) + (X k : EReal) * ((∑ l, (X l : EReal) * a l) * ((-(1 / 2) * (r * (1 / v)) * (1 / 1024) : ℝ) : EReal))
        + (∑ l, (X l : EReal) * a l) * ((-(1 / 2) * (r * (1 / v)) * (1 / 1024) : ℝ) : EReal) * (X k : EReal)
      = (r : EReal) * (a k - (X k : EReal) * (r : EReal) * ((∑ l, a l * ((X l : EReal) * (r : EReal))) * ((1 / 1024 : ℝ) : EReal))) := by
  have h0 : 0 ≤ r := by rw [hr]; positivity
  have h2 : 1 / v = r * r := by rw [hr, ← mul_inv, Real.mul_self_sqrt hv.le, one_div]
  have hs : ∑ l, a l * ((X l : EReal) * (r : EReal)) = (∑ l, (X l : EReal) * a l) * (r : EReal) := by
    rw [sum_mul_real _ _ h0]
    exact Finset.sum_congr rfl fun l _ => by rw [← mul_assoc, mul_comm (a l)]
  rw [hs, h2]
  generalize ∑ l, (X l : EReal) * a l = t
  have hd : (r : EReal) * (a k + -((X k : EReal) * (r : EReal) * (t * (r : EReal) * ((1 / 1024 : ℝ) : EReal))))
      = (r : EReal) * a k + (r : EReal) * -((X k : EReal) * (r : EReal) * (t * (r : EReal) * ((1 / 1024 : ℝ) : EReal))) :=
    EReal.left_distrib_of_nonneg_of_ne_top (by exact_mod_cast h0) (EReal.coe_ne_top r) _ _
  have hl : (X k : EReal) * (t * ((-(1 / 2) * (r * (r * r)) * (1 / 1024) : ℝ) : EReal)) = t * ((-(1 / 2) * (r * (r * r)) * (1 / 1024) * X k : ℝ) : EReal) := by
    rw [EReal.coe_mul _ (X k), ← mul_assoc t, mul_comm]
  have hr' : (r : EReal) * -((X k : EReal) * (r : EReal) * (t * (r : EReal) * ((1 / 1024 : ℝ) : EReal)))
      = t * ((2 * (-(1 / 2) * (r * (r * r)) * (1 / 1024) * X k) : ℝ) : EReal) := by
    rw [show (2 * (-(1 / 2) * (r * (r * r)) * (1 / 1024) * X k) : ℝ) = -(X k * r * r * (1 / 1024) * r) by ring, EReal.coe_neg, mul_neg, mul_neg]
    refine congrArg Neg.neg ?_
    simp only [EReal.coe_mul]
    ac_rfl
  rw [sub_eq_add_neg, hd, hr', hl, mul_assoc t, ← EReal.coe_mul, add_assoc, twice, mul_comm (a k)]

/-- The reference's gradient of the activations is the call's. -/
theorem meets (x : FVec Ideal S8192x1024 .f32) (g : FVec Ideal S1024 .f32) (w : FVec Ideal S3488x1024 .f32) (nx : FVec Ideal S8192x1024 .f32)
    (d : FVec Ideal S8192x3488 .f32) (i : Fin 8192) (k : Fin 1024) :
    back d w i k * g (ix1 k) * inv x i + x (ix2 i k) * slope x g (back d w i) i + slope x g (back d w i) i * x (ix2 i k) + nx (ix2 i k)
      = result12 x g w nx d (ix2 i k) := by
  obtain ⟨e, he, hε⟩ := epsilon
  show _ = inv x i * (back d w i k * g (ix1 k) - x (ix2 i k) * inv x i
      * Ideal.div (∑ k : Fin 1024, back d w i k * g (ix1 k) * (x (ix2 i k) * inv x i)) (Ideal.ofBits .f32 0x44800000#32)) + nx (ix2 i k)
  refine congrArg (· + nx (ix2 i k)) ?_
  by_cases hreal : ∀ l, x (ix2 i l) = (((x (ix2 i l) : EReal).toReal : ℝ) : EReal)
  · generalize hX : (fun l => (x (ix2 i l) : EReal).toReal) = X at hreal
    have hx : ∀ l, x (ix2 i l) = (X l : EReal) := fun l => by rw [← hX]; exact hreal l
    generalize hv : (∑ l, X l * X l) * (1 / 1024) + e = v
    have hsq : square x i = (v : EReal) := by
      simp only [square, hx, ← EReal.coe_mul, Attention.coe_sum, width, hε]
      rw [Attention.div_reals _ (by norm_num), ← EReal.coe_add, hv]
    have h0 : 0 ≤ ∑ l, X l * X l := Finset.sum_nonneg fun l _ => mul_self_nonneg _
    have hp : 0 < v := by rw [← hv]; positivity
    have hinv : inv x i = (((Real.sqrt v)⁻¹ : ℝ) : EReal) := by
      rw [inv_eq, hsq, Ideal.rsqrt_coe, if_neg (not_lt.mpr hp.le), if_neg hp.ne']
    have hs : slope x g (back d w i) i = (∑ l, (X l : EReal) * (back d w i l * g (ix1 l))) * ((-(1 / 2) * ((Real.sqrt v)⁻¹ * (1 / v)) * (1 / 1024) : ℝ) : EReal) := by
      simp only [slope, hx, hinv, hsq, width, half]
      rw [Attention.div_reals _ hp.ne', ← EReal.coe_mul, Ideal.div_coe (by norm_num), mul_assoc, ← EReal.coe_mul]
    rw [hs, hinv, width, Ideal.div_coe (by norm_num)]
    simp only [hx]
    exact normal_real X (fun l => back d w i l * g (ix1 l)) k hp rfl
  · obtain ⟨l, hl⟩ := not_forall.mp hreal
    have htop : x (ix2 i l) * x (ix2 i l) = (⊤ : EReal) := square_top hl
    have hsum : ∑ k : Fin 1024, x (ix2 i k) * x (ix2 i k) = (⊤ : EReal) := by
      refine top_le_iff.mp (htop ▸ ?_)
      exact Finset.single_le_sum (f := fun k => (x (ix2 i k) * x (ix2 i k) : EReal)) (fun k _ => square_nonneg _) (Finset.mem_univ l)
    have hsq : square x i = ⊤ := by
      unfold square
      rw [hsum, width, hε, Ideal.div_coe (by norm_num), EReal.top_mul_coe_of_pos (by norm_num), EReal.top_add_coe]
    have hinv : inv x i = 0 := by rw [inv_eq, hsq, Ideal.rsqrt_top]
    have hs : slope x g (back d w i) i = 0 := by
      unfold slope
      rw [hinv, hsq, width, Ideal.div_coe (by norm_num)]
      simp [Ideal.div]
    rw [hs, hinv]
    simp

end Cert.Reference2Ideal.Input

end
-- ==== Proof.LayerEndKernel.lean ====
module

public import proofs.«01_k».proof.Proof.LayerEndBlocks
public import proofs.«01_k».proof.Proof.Chain
public import Idealize.ShloMosaic.Lib.Pipeline.ValueKit
public import Idealize.ShloMosaic.Lib.Pipeline.ReadBack
public import Idealize.ShloMosaic.Lib.Claim

/-!
# The call at the layer's end

What a point computes of its rows, and from this the call's two arrays: the gradient of the loss with respect to the layer's
result, and the loss, which is added up over the points.
-/

@[expose] public section

set_option maxRecDepth 16384

noncomputable section

namespace Cert.Kernel5Ideal.LayerEnd

open Idealize.ShloMosaic Idealize.ShloMosaic.TcCoe Idealize.ShloMosaic.Tactic Cert.Kernel5Ideal.Gen Cert.Kernel5Ideal
open Cert.Kernel4Ideal.Forward (ix2_of)
open Cert.Reference5Ideal.LayerEnd
open Cert.Reference2Ideal.Input (sum_mul_real)

variable (m : (ℓ : Loc nD τ sig) → Buf (Elt Ideal) ℓ) (c : Dev nD)

/-- A choice by two small numbers' equality. -/
theorem pick {α : Type} (n k : ℕ) (hn : n < 4294967296) (hk : k < 4294967296) (a b : α) :
    Scalar.select (IntOp.cmpi .eq (BitVec.ofNat 32 n) (BitVec.ofNat 32 k)) a b = if n = k then a else b := by
  by_cases h : n = k
  · subst h
    simp [Scalar.select, IntOp.cmpi]
  · have h2 : BitVec.ofNat 32 n ≠ BitVec.ofNat 32 k := fun e => h (by
      have := congrArg BitVec.toNat e
      rw [BitVec.toNat_ofNat, BitVec.toNat_ofNat] at this
      omega)
    simp [Scalar.select, IntOp.cmpi, h, beq_eq_false_iff_ne.mpr h2]

theorem coord : ∀ t : Fin cfg0.N, (grid0.coords t 0).val = t.val := by decide +kernel

/-- The point's number is small. -/
theorem point_lt (t : Fin cfg0.N) : t.val < 16 := Nat.lt_of_lt_of_eq t.isLt N_0

theorem pay6 (i : grid0.Coords) (v9 v11 : Vec Ideal S8x256 .f32) (r : Fin 8) (l : Fin 256) :
    k0_pay6 (F := Ideal) i v9 v11 (ix2 r l) = if (i 0).val = 0 then 0 else v9 (ix2 r l) * v11 (ix2 r l) := by
  have hi : (i 0).val < 16 := (i 0).isLt
  pointwise [k0_pay6]
  exact pick _ 0 (by omega) (by omega) _ _

theorem pay7 (i : grid0.Coords) (v4 v6 : Vec Ideal S512x256 .f32) (v9 v11 : Vec Ideal S8x256 .f32) (r : Fin 512) (l : Fin 256) :
    k0_pay7 (F := Ideal) i v4 v6 v9 v11 (ix2 r l)
      = if r.val = 0 then k0_pay6 (F := Ideal) i v9 v11 (ix2 (7 : Fin 8) l)
        else k0_pay5 (F := Ideal) v4 v6 (ix2 (⟨(r.val + 512 - 1) % 512, Nat.mod_lt _ (by norm_num)⟩ : Fin 512) l) := by
  have hr := r.isLt
  pointwise [k0_pay7]
  exact pick _ 0 (by omega) (by omega) _ _

theorem pay8 (i : grid0.Coords) (v4 v6 : Vec Ideal S512x256 .f32) (v9 v11 : Vec Ideal S8x256 .f32) (r : Fin 512) (l : Fin 256) :
    k0_pay8 (F := Ideal) i v4 v6 v9 v11 (ix2 r l)
      = if r.val = 1 then k0_pay6 (F := Ideal) i v9 v11 (ix2 (7 : Fin 8) l)
        else k0_pay5 (F := Ideal) v4 v6 (ix2 (⟨(r.val + 512 - 2) % 512, Nat.mod_lt _ (by norm_num)⟩ : Fin 512) l) := by
  have hr := r.isLt
  pointwise [k0_pay8]
  exact pick _ 1 (by omega) (by omega) _ _

theorem pay10 (i : grid0.Coords) (v9 v11 : Vec Ideal S8x256 .f32) (l : Fin 256) :
    k0_pay10 (F := Ideal) i v9 v11 (ix2 (0 : Fin 1) l) = k0_pay6 (F := Ideal) i v9 v11 (ix2 (6 : Fin 8) l) := by
  pointwise [k0_pay10]

theorem pay11 (v8 v25 v37 : FVec Ideal S512x256 .f32) (v40 : FVec Ideal S1x256 .f32) (v43 : Vec Ideal S3x256 .f32) (v55 : Vec Ideal S1x256 .f32)
    (v59 : Vec Ideal S512x256 .f32) (r : Fin 512) (l : Fin 256) :
    k0_pay11 (F := Ideal) v8 v25 v37 k0_pay9 v40 v43 v55 v59 (ix2 r l)
      = v59 (ix2 r l) * (v43 (ix2 (0 : Fin 3) l) * (if r.val = 0 then v40 (ix2 (0 : Fin 1) l) else v37 (ix2 r l)) + v43 (ix2 (1 : Fin 3) l) * v25 (ix2 r l)
          + v43 (ix2 (2 : Fin 3) l) * v8 (ix2 r l) + v55 (ix2 (0 : Fin 1) l)) := by
  have hr := r.isLt
  have e : Scalar.select (IntOp.cmpi .eq (BitVec.ofNat 32 r.val) (BitVec.ofNat 32 0)) (v40 (ix2 (0 : Fin 1) l)) (v37 (ix2 r l)) = _ :=
    pick r.val 0 (by omega) (by omega) _ _
  rw [← e]
  pointwise [k0_pay11, k0_pay9]

theorem pay12 (v : Vec Ideal S512x256 .f32) (r : Fin 512) : k0_pay12 (F := Ideal) v (ix2 r (0 : Fin 1)) = inverse fun l => v (ix2 r l) := by
  pointwise [k0_pay12, inverse]

theorem pay13 (v8 v25 v37 : FVec Ideal S512x256 .f32) (v39 : IVec S512x256 1) (v40 : FVec Ideal S1x256 .f32) (v43 : Vec Ideal S3x256 .f32)
    (v55 : Vec Ideal S1x256 .f32) (v59 : Vec Ideal S512x256 .f32) (r : Fin 512) :
    k0_pay13 (F := Ideal) v8 v25 v37 v39 v40 v43 v55 v59 (ix2 r (0 : Fin 1))
      = inverse fun l => k0_pay11 (F := Ideal) v8 v25 v37 v39 v40 v43 v55 v59 (ix2 r l) := by
  pointwise [k0_pay13, inverse]

theorem pay15 (v61 : Vec Ideal S512x256 .f32) (v62 : FVec Ideal S512x256 .f32) (v63 v64 : Vec Ideal S512x256 .f32) (v72 v80 : FVec Ideal S512x1 .f32)
    (v97 : Vec Ideal S1x1024 .f32) (v108 : Vec Ideal S512x1024 .f32) (v122 : Vec Ideal S1024x1024 .bf16) (r : Fin 512) (n : Fin 1024) :
    k0_pay15 (F := Ideal) v61 v62 v63 v64 v72 v80 (k0_pay14 v63) v97 v108 v122 (ix2 r n)
      = ∑ k : Fin 1024, four (fun l => v61 (ix2 r l) * v72 (ix2 r (0 : Fin 1))) (fun l => v62 (ix2 r l) * v80 (ix2 r (0 : Fin 1)))
            (fun l => v63 (ix2 r l) * inverse fun l => v63 (ix2 r l)) (fun l => v64 (ix2 r l) * inverse fun l => v64 (ix2 r l)) k
          * v97 (ix2 (0 : Fin 1) k)
          * (v108 (ix2 r k) * Ideal.div (Ideal.ofBits .f32 0x3F800000#32) (Ideal.ofBits .f32 0x3F800000#32 + Ideal.exp (-v108 (ix2 r k))))
          * v122 (ix2 k n) := by
  simp only [← zero_sub]
  pointwise [k0_pay15, k0_pay14, four, inverse]

theorem pay1 (x : FVec Ideal S8192x1024 .f32) (z : Fin 8192 → Fin 1024 → EReal) (gp : FVec Ideal S1024 .f32) (target : FVec Ideal S8192x1024 .f32)
    (i : Fin 512 → Fin 8192) (v124 : FVec Ideal S512x1024 .f32) (v125 : Vec Ideal S512x1024 .f32) (v136 : Vec Ideal S1x1024 .f32)
    (v141 : Vec Ideal S512x1024 .f32) (hz : ∀ r n, v124 (ix2 r n) = z (i r) n) (hx : ∀ r n, v125 (ix2 r n) = x (ix2 (i r) n))
    (hg : ∀ r n, v136 (ix2 r n) = gp (ix1 n)) (ht : ∀ r n, v141 (ix2 r n) = target (ix2 (i r) n)) (r : Fin 512) (n : Fin 1024) :
    k0_pay1 (F := Ideal) v124 v125 v136 v141 (ix2 r n) = away x z gp target (i r) n := by
  pointwise [k0_pay1, away]
  simp only [hz, hx, hg, ht]

theorem pay2 (v124 : FVec Ideal S512x1024 .f32) (v125 : Vec Ideal S512x1024 .f32) (v136 : Vec Ideal S1x1024 .f32)
    (v141 : Vec Ideal S512x1024 .f32) (r : Fin 512) (n : Fin 1024) :
    k0_pay2 (F := Ideal) v124 v125 v136 v141 (ix2 r n) = k0_pay1 (F := Ideal) v124 v125 v136 v141 (ix2 r n) * Ideal.ofBits .f32 0x3A800000#32 := by
  pointwise [k0_pay2]

theorem pay3 (v124 : FVec Ideal S512x1024 .f32) (v125 : Vec Ideal S512x1024 .f32) (v136 : Vec Ideal S1x1024 .f32)
    (v141 : Vec Ideal S512x1024 .f32) (u : Vec Ideal S8x128 .f32) (r : Fin 8) (l : Fin 128) :
    k0_pay3 (F := Ideal) v124 v125 v136 v141 u (ix2 r l)
      = u (ix2 r l) + (∑ r : Fin 512, ∑ k : Fin 1024, k0_pay1 (F := Ideal) v124 v125 v136 v141 (ix2 r k) * k0_pay1 (F := Ideal) v124 v125 v136 v141 (ix2 r k))
          * Ideal.ofBits .f32 0x3A000000#32 := by
  pointwise [k0_pay3]

theorem pay4 (y : S8x128.Idx) : k0_pay4 (F := Ideal) y = (0 : EReal) := by
  obtain ⟨a, b, rfl⟩ : ∃ a b, y = ix2 a b := ⟨y 0, y 1, ix2_of rfl rfl⟩
  pointwise [k0_pay4]

theorem pay5 (v4 v6 : Vec Ideal S512x256 .f32) (r : Fin 512) (l : Fin 256) :
    k0_pay5 (F := Ideal) v4 v6 (ix2 r l) = v4 (ix2 r l) * v6 (ix2 r l) := by
  pointwise [k0_pay5]

/-- The product the convolution is of, at any row. -/
theorem ordered_inner (h : FVec Ideal S8192x3488 .f32) (i : Fin 8192) (l : Fin 256) :
    ordered h (ix2 i (⟨1280 + l.val, by have := l.isLt; omega⟩ : Fin 2304)) * ordered h (ix2 i (⟨1536 + l.val, by have := l.isLt; omega⟩ : Fin 2304))
      = inner h i l := by
  have hl := l.isLt
  exact congrArg₂ (· * ·)
    (ordered_next h i _ _ (show 1024 ≤ 1280 + l.val by omega) (show 1280 + l.val < 2208 by omega) (show 768 + l.val + 512 = 1280 + l.val by omega))
    (ordered_next h i _ _ (show 1024 ≤ 1536 + l.val by omega) (show 1536 + l.val < 2208 by omega) (show 1024 + l.val + 512 = 1536 + l.val by omega))

/-- The product the convolution is of, at a point's row. -/
theorem inner_block (t : Fin cfg0.N) (r : Fin 512) (l : Fin 256) :
    k0_pay5 (F := Ideal) (iblk m c 6 t) (iblk m c 7 t) (ix2 r l) = before (argh m c) 0 (row t r) l := by
  rw [before_zero, ← ordered_inner]
  exact (pay5 _ _ r l).trans (congrArg₂ (· * ·) (block_6 m c (V_v3 m c) t r l) (block_7 m c (V_v3 m c) t r l))

/-- The same at the rows before a point's; the first point has none. -/
theorem halo_block (t : Fin cfg0.N) (r : Fin 8) (l : Fin 256) :
    k0_pay6 (F := Ideal) (grid0.coords t) (iblk m c 8 t) (iblk m c 9 t) (ix2 r l) = before (argh m c) (8 - r.val) (row t 0) l := by
  have hr := r.isLt
  have e : (row t 0).val = t.val * 512 := rfl
  refine (pay6 _ _ _ r l).trans ?_
  rw [coord]
  by_cases h0 : t.val = 0
  · rw [if_pos h0]
    unfold before
    rw [if_neg (by omega)]
  · rw [if_neg h0]
    refine (congrArg₂ (fun a b : EReal => a * b) (block_8 m c (V_v3 m c) t r l) (block_9 m c (V_v3 m c) t r l)).trans ?_
    rw [ordered_inner, ← before_zero]
    exact before_eq _ _ _ _ _ _ (by rw [halo_val, e]; omega)

/-- The same one row before. -/
theorem one_block (t : Fin cfg0.N) (r : Fin 512) (l : Fin 256) :
    k0_pay7 (F := Ideal) (grid0.coords t) (iblk m c 6 t) (iblk m c 7 t) (iblk m c 8 t) (iblk m c 9 t) (ix2 r l) = before (argh m c) 1 (row t r) l := by
  have hr := r.isLt
  refine (pay7 _ _ _ _ _ r l).trans ?_
  by_cases h0 : r.val = 0
  · rw [if_pos h0]
    exact (halo_block m c t 7 l).trans (before_eq _ _ _ _ _ _ (by rw [row_val, row_val, h0]; rfl))
  · rw [if_neg h0]
    exact (inner_block m c t _ l).trans (before_eq _ _ _ _ _ _ (by rw [row_val, row_val]; simp only []; omega))

/-- The same two rows before. -/
theorem two_block (t : Fin cfg0.N) (r : Fin 512) (l : Fin 256) :
    (if r.val = 0 then k0_pay10 (F := Ideal) (grid0.coords t) (iblk m c 8 t) (iblk m c 9 t) (ix2 (0 : Fin 1) l)
      else k0_pay8 (F := Ideal) (grid0.coords t) (iblk m c 6 t) (iblk m c 7 t) (iblk m c 8 t) (iblk m c 9 t) (ix2 r l)) = before (argh m c) 2 (row t r) l := by
  have hr := r.isLt
  by_cases h0 : r.val = 0
  · rw [if_pos h0]
    exact ((pay10 _ _ _ l).trans (halo_block m c t 6 l)).trans (before_eq _ _ _ _ _ _ (by rw [row_val, row_val, h0]; rfl))
  rw [if_neg h0]
  refine (pay8 _ _ _ _ _ r l).trans ?_
  by_cases h1 : r.val = 1
  · rw [if_pos h1]
    exact (halo_block m c t 7 l).trans (before_eq _ _ _ _ _ _ (by rw [row_val, row_val, h1]; rfl))
  · rw [if_neg h1]
    exact (inner_block m c t _ l).trans (before_eq _ _ _ _ _ _ (by rw [row_val, row_val]; simp only []; omega))

/-- The gated convolution a point computes. -/
abbrev convb (t : Fin cfg0.N) : FVec Ideal S512x256 .f32 :=
  k0_pay11 (F := Ideal) (k0_pay5 (iblk m c 6 t) (iblk m c 7 t)) (k0_pay7 (grid0.coords t) (iblk m c 6 t) (iblk m c 7 t) (iblk m c 8 t) (iblk m c 9 t))
    (k0_pay8 (grid0.coords t) (iblk m c 6 t) (iblk m c 7 t) (iblk m c 8 t) (iblk m c 9 t)) k0_pay9
    (k0_pay10 (grid0.coords t) (iblk m c 8 t) (iblk m c 9 t)) (iblk m c 10 t) (iblk m c 11 t) (iblk m c 5 t)

theorem flat_256 (g : FVec Ideal S256 .f32) (r : Fin 1) (l : Fin 256) : shapeCast S1x256 g shapeCasts_S256_S1x256 (ix2 r l) = g (ix1 l) := by
  pointwise []
theorem flat_1024 (g : FVec Ideal S1024 .f32) (r : Fin 1) (l : Fin 1024) : shapeCast S1x1024 g shapeCasts_S1024_S1x1024 (ix2 r l) = g (ix1 l) := by
  pointwise []

theorem conv_block (t : Fin cfg0.N) (r : Fin 512) (l : Fin 256) :
    convb m c t (ix2 r l) = gated (argh m c) (argw m c) (argb m c) (row t r) l := by
  have hl := l.isLt
  refine (pay11 _ _ _ _ _ _ _ r l).trans ?_
  rw [two_block m c t r l, one_block m c t r l, inner_block m c t r l]
  have h5 := (block_5 m c (V_v3 m c) t r l).trans (ordered_next (argh m c) (row t r) _ ⟨512 + l.val, by omega⟩
    (show 1024 ≤ 1024 + l.val by omega) (show 1024 + l.val < 2208 by omega) (show 512 + l.val + 512 = 1024 + l.val by omega))
  have hb := (block_11 m c (V_v4 m c) t 0 l).trans (flat_256 _ _ _)
  have w0 := block_10 m c (V_main_arg5 m c) t 0 l
  have w1 := block_10 m c (V_main_arg5 m c) t 1 l
  have w2 := block_10 m c (V_main_arg5 m c) t 2 l
  unfold gated
  rw [h5, hb, w0, w1, w2]

/-- The product with the matrix a point computes. -/
abbrev prodb (t : Fin cfg0.N) : FVec Ideal S512x1024 .f32 :=
  k0_pay15 (F := Ideal) (iblk m c 1 t) (convb m c t) (iblk m c 2 t) (iblk m c 3 t) (k0_pay12 (iblk m c 1 t))
    (k0_pay13 (k0_pay5 (iblk m c 6 t) (iblk m c 7 t)) (k0_pay7 (grid0.coords t) (iblk m c 6 t) (iblk m c 7 t) (iblk m c 8 t) (iblk m c 9 t))
      (k0_pay8 (grid0.coords t) (iblk m c 6 t) (iblk m c 7 t) (iblk m c 8 t) (iblk m c 9 t)) k0_pay9
      (k0_pay10 (grid0.coords t) (iblk m c 8 t) (iblk m c 9 t)) (iblk m c 10 t) (iblk m c 11 t) (iblk m c 5 t))
    (k0_pay14 (iblk m c 2 t)) (iblk m c 12 t) (X0_4 m c t) (iblk m c 13 t)

theorem prod_block (t : Fin cfg0.N) (r : Fin 512) (n : Fin 1024) : prodb m c t (ix2 r n)
    = product (argh m c) (arga m c) (gated (argh m c) (argw m c) (argb m c)) (argc m c) (argd m c) (argg m c) (argo m c) (row t r) n := by
  refine (pay15 _ _ _ _ _ _ _ _ _ r n).trans ?_
  unfold product groups gate
  have ha := fun l => block_1 m c (V_main_arg2 m c) t r l
  have hb := fun l => conv_block m c t r l
  have hc := fun l => block_2 m c (V_main_arg3 m c) t r l
  have hd := fun l => block_3 m c (V_main_arg4 m c) t r l
  have hg := fun k => (block_12 m c (V_v5 m c) t 0 k).trans (flat_1024 _ _ _)
  have ho := fun k => block_13 m c (V_v6 m c) t k n
  have hh := fun k : Fin 1024 => (block_4 m c (V_v3 m c) t r k).trans (ordered_first _ _ _ k.isLt)
  rw [pay12, pay13]
  refine Finset.sum_congr rfl fun k _ => ?_
  refine congrArg₂ (· * ·) (congrArg₂ (· * ·) (congrArg₂ (· * ·) ?_ (hg k)) ?_) (ho k)
  · simp only [ha, hb, hc, hd]
  · rw [hh k]

/-- The layer's result less the target, of the run's arguments. -/
abbrev gap : Fin 8192 → Fin 1024 → EReal :=
  difference (argx m c) (argh m c) (arga m c) (argc m c) (argd m c) (argw m c) (argb m c) (argg m c) (argo m c) (argp m c) (argt m c)

theorem gap_block (t : Fin cfg0.N) (r : Fin 512) (n : Fin 1024) :
    k0_pay1 (F := Ideal) (prodb m c t) (iblk m c 0 t) (iblk m c 14 t) (iblk m c 15 t) (ix2 r n) = gap m c (row t r) n :=
  pay1 (argx m c) _ (argp m c) (argt m c) (row t) _ _ _ _ (prod_block m c t) (block_0 m c (V_main_arg0 m c) t)
    (fun r n => (block_14 m c (V_v7 m c) t _ n).trans (flat_1024 _ _ _)) (block_15 m c (V_main_arg10 m c) t) r n

/-- The gradient of the loss. -/
def result16 (D : Fin 8192 → Fin 1024 → EReal) : FVec Ideal S8192x1024 .f32 := fun y => D (y 0) (y 1) * Ideal.ofBits .f32 0x3A800000#32

/-- The loss, at every entry of the call's array. -/
def result17 (D : Fin 8192 → Fin 1024 → EReal) : FVec Ideal S8x128 .f32 :=
  fun _ => ∑ i : Fin 8192, (∑ k : Fin 1024, D i k * D i k) * Ideal.ofBits .f32 0x3A000000#32

theorem point16 (t : Fin cfg0.N) (y : S512x1024.Idx) :
    k0_pay2 (F := Ideal) (prodb m c t) (iblk m c 0 t) (iblk m c 14 t) (iblk m c 15 t) y = result16 (gap m c) ((win0_16.blk t).view.emb y) := by
  obtain ⟨a, b, rfl⟩ : ∃ a b, y = ix2 a b := ⟨y 0, y 1, ix2_of rfl rfl⟩
  exact ((pay2 _ _ _ _ a b).trans (congrArg (· * Ideal.ofBits .f32 0x3A800000#32) (gap_block m c t a b))).trans
    (congrArg (result16 (gap m c)) (emb_16 t a b)).symm

/-- The call's gradient of the loss. -/
theorem final16 : (dats m 0 c).arrAt 16 cfg0.N = result16 (gap m c) := by
  refine (dats m 0 c).arrAt_eq_of_covers 16 _ (by decide +kernel) fun t _ y => ?_
  blk_simp
  rw [after0_16]
  by_cases h0 : t.val % 16 = 0
  · rw [outsAt0_A m c t h0]
    frame_out
    exact point16 m c t y
  · rw [outsAt0_B m c t h0]
    frame_out
    exact point16 m c t y

/-- What a point adds to the loss. -/
def part (t : Fin cfg0.N) : EReal :=
  (∑ r : Fin 512, ∑ k : Fin 1024, gap m c (row t r) k * gap m c (row t r) k) * Ideal.ofBits .f32 0x3A000000#32

theorem add_part (t : Fin cfg0.N) (u : Vec Ideal S8x128 .f32) (y : S8x128.Idx) :
    k0_pay3 (F := Ideal) (prodb m c t) (iblk m c 0 t) (iblk m c 14 t) (iblk m c 15 t) u y = u y + part m c t := by
  obtain ⟨a, b, rfl⟩ : ∃ a b, y = ix2 a b := ⟨y 0, y 1, ix2_of rfl rfl⟩
  refine (pay3 _ _ _ _ u a b).trans (congrArg (fun s => u (ix2 a b) + s * Ideal.ofBits .f32 0x3A000000#32) ?_)
  exact Finset.sum_congr rfl fun r _ => Finset.sum_congr rfl fun k _ => congrArg₂ (· * ·) (gap_block m c t r k) (gap_block m c t r k)

/-- The first point adds to zero. -/
theorem first_step (t : Fin cfg0.N) (h0 : t.val % 16 = 0) (y : S8x128.Idx) :
    (outsAt0 m c t.val t.isLt).2 y = (0 : EReal) + part m c t := by
  rw [outsAt0_A m c t h0]
  frame_open
  simp (disch := decide) only [↓View.readCov_skip, ↓View.readCov_fill]
  frame_out
  exact (add_part m c t _ y).trans (congrArg (· + part m c t) (pay4 y))

/-- A later point adds to what the point before left. -/
theorem next_step (t : Fin cfg0.N) (h0 : ¬ t.val % 16 = 0) (y : S8x128.Idx) : (outsAt0 m c t.val t.isLt).2 y
    = (outsAt0 m c (t.val - 1) (Nat.lt_of_le_of_lt (Nat.sub_le _ _) t.isLt)).2 y + part m c t := by
  rw [outsAt0_B m c t h0]
  frame_out
  exact add_part m c t _ y

/-- A sum over the points' rows is a sum over all rows. -/
theorem sum_rows (f : Fin 8192 → EReal) : ∑ t : Fin cfg0.N, ∑ r, f (row t r) = ∑ i, f i := by
  rw [← Fintype.sum_equiv ((Equiv.prodCongr (finCongr N_0) (Equiv.refl _)).trans (finProdFinEquiv (m := 16) (n := 512)))
    (fun x => f (row x.1 x.2)) f
    (fun x => congrArg f (Fin.ext (by
      rw [row_val]
      show _ = x.2.val + 512 * x.1.val
      omega))), Fintype.sum_prod_type]

/-- The points' parts together are the loss. -/
theorem all_parts : ∑ t : Fin cfg0.N, part m c t = ∑ i : Fin 8192, (∑ k : Fin 1024, gap m c i k * gap m c i k) * Ideal.ofBits .f32 0x3A000000#32 := by
  rw [← sum_rows]
  refine Finset.sum_congr rfl fun t _ => ?_
  unfold part
  rw [half_share, sum_mul_real _ _ (by norm_num)]

/-- What the second window holds after the last point. -/
theorem last_point (y : S8x128.Idx) (t : Fin cfg0.N) (ht : t.val + 1 = cfg0.N) :
    (outsAt0 m c t.val t.isLt).2 y = result17 (gap m c) y := by
  refine (Pipeline.eq_sum_fin_of_reset_step_apply_last (M := EReal) (ι := S8x128.Idx) (fun n h => (outsAt0 m c n h).2) 16 (fun _ => 0)
    (fun t _ => part m c t) (fun t h j => first_step m c t h j) (fun t h j => next_step m c t h j) (le_of_eq N_0) t ht y).trans ?_
  exact (zero_add _).trans (all_parts m c)

/-- The call's loss. -/
theorem final17 : (dats m 0 c).arrAt 17 cfg0.N = result17 (gap m c) := by
  refine (dats m 0 c).arrAt_eq_of_after_last 17 t0_15 (by decide +kernel) _ fun j => ?_
  blk_simp
  rw [after0_17]
  exact last_point m c _ t0_15 rfl

end Cert.Kernel5Ideal.LayerEnd

end
-- ==== Proof.LayerEndReference.lean ====
module

public import proofs.«01_k».proof.Proof.LayerEnd
public import proofs.«01_k».proof.Proof.Gen.Reference5Ideal.Run
public import proofs.«01_k».proof.Proof.Chain
public import Idealize.ShloMosaic.Lib.Claim
public import Idealize.ShloMosaic.Lib.StableHlo.RunRead

/-!
# The reference's loss and its gradient

The reference's operations, read entry by entry; the loss is half the sum of the rows' mean squares.
-/

@[expose] public section

set_option maxRecDepth 16384

noncomputable section

namespace Cert.Reference5Ideal.LayerEnd

open Idealize.ShloMosaic Idealize.ShloMosaic.TcCoe Cert.Reference5Ideal.Gen Cert.Reference5Ideal Cert.Reference5Ideal.Value
open Cert.Reference2Ideal.Input (sum_mul_real width square_nonneg)

/-- A group normalised and scaled, as the reference computes it. -/
def scaled (y : FVec Ideal S8192x256 .f32) (g : FVec Ideal S256 .f32) : FVec Ideal S8192x256 .f32 :=
  mulf (mulf y (broadcastInDim S8192x256 ![0, 1] bcast_S8192x1_S8192x256_0_1 (Host.rsqrt (addf
      (Host.divf (broadcastInDim S8192x1 ![0] bcast_S8192_S8192x1_0
          (Host.reduceAdd (mulf y y) (constant S_ .f32 0x00000000#32) reducesTo_S8192x256_S8192_d1 h_S_))
        (broadcastInDim S8192x1 ![] bcast_S_S8192x1 (constant S_ .f32 0x43800000#32)))
      (broadcastInDim S8192x1 ![] bcast_S_S8192x1 (constant S_ .f32 0x358637BD#32))))))
    (broadcastInDim S8192x256 ![0, 1] bcast_S1x256_S8192x256_0_1 (broadcastInDim S1x256 ![1] bcast_S256_S1x256_1 g))

theorem scaled_at (y : FVec Ideal S8192x256 .f32) (g : FVec Ideal S256 .f32) (i : Fin 8192) (l : Fin 256) :
    scaled y g (ix2 i l) = y (ix2 i l) * (inverse fun l => y (ix2 i l)) * g (ix1 l) := by
  pointwise [scaled, inverse]

/-- The convolution's argument with two rows of zeros before it. -/
def padded (h : FVec Ideal S8192x3488 .f32) : FVec Ideal S8194x256 .f32 :=
  concatenate S8194x256 0 [⟨S2x256, broadcastInDim S2x256 ![] bcast_S_S2x256 (constant S_ .f32 0x00000000#32)⟩,
    ⟨S8192x256, mulf (extractStridedSlice S8192x256 ![0, 768] h slices_S8192x3488_S8192x256_0_768)
      (extractStridedSlice S8192x256 ![0, 1024] h slices_S8192x3488_S8192x256_0_1024)⟩] concatenates_S2x256_S8192x256_S8194x256_d0

theorem padded_at (h : FVec Ideal S8192x3488 .f32) (j : Fin 8194) (n : ℕ) (i : Fin 8192) (l : Fin 256) (e : j.val + n = i.val + 2) :
    padded h (ix2 j l) = before h n i l := by
  have hj := j.isLt
  have hi := i.isLt
  pointwise [padded]
  unfold before
  by_cases hn : n ≤ i.val
  · rw [if_pos hn, dif_neg (show ¬ j.val < 2 by omega)]
    unfold inner
    have e2 : (⟨j.val - 2, by omega⟩ : Fin 8192) = ⟨i.val - n, Nat.lt_of_le_of_lt (Nat.sub_le _ _) i.isLt⟩ := Fin.ext (show j.val - 2 = i.val - n by omega)
    rw [← e2]
  · rw [if_neg hn, dif_pos (show j.val < 2 by omega)]

/-- A row of the convolution's weights over all rows. -/
def spread (r : FVec Ideal S1x256 .f32) : FVec Ideal S8192x256 .f32 :=
  broadcastInDim S8192x256 ![0, 1] bcast_S1x256_S8192x256_0_1 (broadcastInDim S1x256 ![1] bcast_S256_S1x256_1 (shapeCast S256 r shapeCasts_S1x256_S256))

theorem spread_at (r : FVec Ideal S1x256 .f32) (i : Fin 8192) (l : Fin 256) : spread r (ix2 i l) = r (ix2 (0 : Fin 1) l) := by
  pointwise [spread]

/-- The gated convolution, as the reference computes it. -/
def convolved (h : FVec Ideal S8192x3488 .f32) (cw : FVec Ideal S3x256 .f32) (cb : FVec Ideal S256 .f32) : FVec Ideal S8192x256 .f32 :=
  mulf (extractStridedSlice S8192x256 ![0, 512] h slices_S8192x3488_S8192x256_0_512)
    (addf (addf (addf (mulf (spread (extractStridedSlice S1x256 ![0, 0] cw slices_S3x256_S1x256_0_0))
            (extractStridedSlice S8192x256 ![0, 0] (padded h) slices_S8194x256_S8192x256_0_0))
          (mulf (spread (extractStridedSlice S1x256 ![1, 0] cw slices_S3x256_S1x256_1_0))
            (extractStridedSlice S8192x256 ![1, 0] (padded h) slices_S8194x256_S8192x256_1_0)))
        (mulf (spread (extractStridedSlice S1x256 ![2, 0] cw slices_S3x256_S1x256_2_0))
          (extractStridedSlice S8192x256 ![2, 0] (padded h) slices_S8194x256_S8192x256_2_0)))
      (broadcastInDim S8192x256 ![0, 1] bcast_S1x256_S8192x256_0_1 (broadcastInDim S1x256 ![1] bcast_S256_S1x256_1 cb)))

theorem convolved_at (h : FVec Ideal S8192x3488 .f32) (cw : FVec Ideal S3x256 .f32) (cb : FVec Ideal S256 .f32) (i : Fin 8192) (l : Fin 256) :
    convolved h cw cb (ix2 i l) = gated h cw cb i l := by
  unfold gated
  rw [← padded_at h (⟨0 + i.val, by have := i.isLt; omega⟩ : Fin 8194) 2 i l (by simp), ← padded_at h (⟨1 + i.val, by have := i.isLt; omega⟩ : Fin 8194) 1 i l (by simp; omega),
    ← padded_at h (⟨2 + i.val, by have := i.isLt; omega⟩ : Fin 8194) 0 i l (by simp; omega)]
  pointwise [convolved, spread]

/-- The four groups of a layer, normalised and scaled. -/
def together (ya yb yc yd : FVec Ideal S8192x256 .f32) (gg : FVec Ideal S1024 .f32) : FVec Ideal S8192x1024 .f32 :=
  concatenate S8192x1024 1 [⟨S8192x256, scaled ya (extractStridedSlice S256 ![0] gg slices_S1024_S256_0)⟩,
    ⟨S8192x256, scaled yb (extractStridedSlice S256 ![256] gg slices_S1024_S256_256)⟩,
    ⟨S8192x256, scaled yc (extractStridedSlice S256 ![512] gg slices_S1024_S256_512)⟩,
    ⟨S8192x256, scaled yd (extractStridedSlice S256 ![768] gg slices_S1024_S256_768)⟩]
    concatenates_S8192x256_S8192x256_S8192x256_S8192x256_S8192x1024_d1

theorem together_at (ya yb yc yd : FVec Ideal S8192x256 .f32) (gg : FVec Ideal S1024 .f32) (i : Fin 8192) (k : Fin 1024) :
    together ya yb yc yd gg (ix2 i k) = groups ya (fun i l => yb (ix2 i l)) yc yd i k * gg (ix1 k) := by
  have hk := k.isLt
  unfold groups four together
  generalize hA : scaled ya _ = A
  generalize hB : scaled yb _ = B
  generalize hC : scaled yc _ = C
  generalize hD : scaled yd _ = D
  pointwise []
  by_cases h : k.val < 256
  · rw [dif_pos h, dif_pos h, ← hA, scaled_at]
    pointwise []
  rw [dif_neg h, dif_neg h]
  by_cases h2 : k.val - 256 < 256
  · rw [dif_pos h2, dif_pos h2, ← hB, scaled_at]
    pointwise []
    exact congrArg (fun n : Fin 1024 => _ * gg (ix1 n)) (Fin.ext (show 256 + (k.val - 256) = k.val by omega))
  rw [dif_neg h2, dif_neg h2]
  by_cases h3 : k.val - 256 - 256 < 256
  · rw [dif_pos h3, dif_pos h3, ← hC, scaled_at]
    pointwise []
    exact congrArg (fun n : Fin 1024 => _ * gg (ix1 n)) (Fin.ext (show 512 + (k.val - 256 - 256) = k.val by omega))
  rw [dif_neg h3, dif_neg h3, ← hD, scaled_at]
  pointwise []
  exact congrArg (fun n : Fin 1024 => _ * gg (ix1 n)) (Fin.ext (show 768 + (k.val - 256 - 256 - 256) = k.val by omega))

/-- The gate times its sigmoid, as the reference computes it. -/
def opened (h : FVec Ideal S8192x3488 .f32) : FVec Ideal S8192x1024 .f32 :=
  mulf (extractStridedSlice S8192x1024 ![0, 2464] h slices_S8192x3488_S8192x1024_0_2464)
    (Host.divf (broadcastInDim S8192x1024 ![] bcast_S_S8192x1024 (constant S_ .f32 0x3F800000#32))
      (addf (broadcastInDim S8192x1024 ![] bcast_S_S8192x1024 (constant S_ .f32 0x3F800000#32))
        (Host.exp (negf (extractStridedSlice S8192x1024 ![0, 2464] h slices_S8192x3488_S8192x1024_0_2464)))))

theorem opened_at (h : FVec Ideal S8192x3488 .f32) (i : Fin 8192) (k : Fin 1024) : opened h (ix2 i k) = gate h i k := by
  pointwise [opened, gate]

/-- The product with the matrix, as the reference computes it. -/
def multiplied (a : FVec Ideal S8192x1024 .f32) (b : FVec Ideal S8192x1024 .f32) (w : FVec Ideal S1024x1024 .f32) : FVec Ideal S8192x1024 .f32 :=
  Host.dotGeneral dot_S8192x1024_S1024x1024_S8192x1024_1_0_0_1_n_n none (mulf a b) w

theorem multiplied_at (a : FVec Ideal S8192x1024 .f32) (b : FVec Ideal S8192x1024 .f32) (w : FVec Ideal S1024x1024 .f32) (i : Fin 8192) (n : Fin 1024) :
    multiplied a b w (ix2 i n) = ∑ k : Fin 1024, a (ix2 i k) * b (ix2 i k) * w (ix2 k n) := by
  pointwise [multiplied]

/-- The layer's result less the target, of the product. -/
def ended (x : FVec Ideal S8192x1024 .f32) (z : FVec Ideal S8192x1024 .f32) (gp : FVec Ideal S1024 .f32) (target : FVec Ideal S8192x1024 .f32) :
    FVec Ideal S8192x1024 .f32 :=
  subf (addf x (mulf (mulf z (broadcastInDim S8192x1024 ![0, 1] bcast_S8192x1_S8192x1024_0_1 (Host.rsqrt (addf
      (Host.divf (broadcastInDim S8192x1 ![0] bcast_S8192_S8192x1_0
          (Host.reduceAdd (mulf z z) (constant S_ .f32 0x00000000#32) reducesTo_S8192x1024_S8192_d1 h_S_))
        (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 gp)))) target

theorem ended_at (x : FVec Ideal S8192x1024 .f32) (z : FVec Ideal S8192x1024 .f32) (gp : FVec Ideal S1024 .f32) (target : FVec Ideal S8192x1024 .f32)
    (i : Fin 8192) (n : Fin 1024) : ended x z gp target (ix2 i n) = away x (fun i n => z (ix2 i n)) gp target i n := by
  pointwise [ended, away]

/-- The layer's result less the target, as the reference computes it. -/
def distance (x : FVec Ideal S8192x1024 .f32) (h : FVec Ideal S8192x3488 .f32) (ya yc yd : FVec Ideal S8192x256 .f32) (cw : FVec Ideal S3x256 .f32)
    (cb : FVec Ideal S256 .f32) (gg : FVec Ideal S1024 .f32) (w : FVec Ideal S1024x1024 .f32) (gp : FVec Ideal S1024 .f32)
    (target : FVec Ideal S8192x1024 .f32) : FVec Ideal S8192x1024 .f32 :=
  ended x (multiplied (together ya (convolved h cw cb) yc yd gg) (opened h) w) gp target

theorem distance_at (x : FVec Ideal S8192x1024 .f32) (h : FVec Ideal S8192x3488 .f32) (ya yc yd : FVec Ideal S8192x256 .f32) (cw : FVec Ideal S3x256 .f32)
    (cb : FVec Ideal S256 .f32) (gg : FVec Ideal S1024 .f32) (w : FVec Ideal S1024x1024 .f32) (gp : FVec Ideal S1024 .f32)
    (target : FVec Ideal S8192x1024 .f32) (i : Fin 8192) (n : Fin 1024) :
    distance x h ya yc yd cw cb gg w gp target (ix2 i n) = difference x h ya yc yd cw cb gg w gp target i n := by
  unfold distance difference
  rw [ended_at]
  refine congrArg (fun z => away x z gp target i n) (funext fun i => funext fun n => ?_)
  rw [multiplied_at]
  unfold product
  refine Finset.sum_congr rfl fun k _ => ?_
  rw [together_at, opened_at, show (fun i l => convolved h cw cb (ix2 i l)) = gated h cw cb from
    funext fun i => funext fun l => convolved_at h cw cb i l]

/-- The gradient of the loss, of the distance. -/
def slope (d : FVec Ideal S8192x1024 .f32) : FVec Ideal S8192x1024 .f32 :=
  mulf (broadcastInDim S8192x1024 ![0] bcast_S8192_S8192x1024_0 (Host.divf (broadcastInDim S8192 ![] bcast_S_S8192
      (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) d)

theorem one_half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem share : Ideal.ofBits .f32 0x3A800000#32 = ((1 / 1024 : ℝ) : EReal) := by
  simp [Ideal.ofBits, Ideal.ieee, -EReal.coe_mul]; norm_num

theorem slope_at (d : FVec Ideal S8192x1024 .f32) (i : Fin 8192) (n : Fin 1024) :
    slope d (ix2 i n) = d (ix2 i n) * Ideal.ofBits .f32 0x3A800000#32 := by
  pointwise [slope]
  rw [one_half, two, share, width, Ideal.div_coe (by norm_num), mul_comm (d _), ← mul_assoc, ← EReal.coe_mul]
  refine congrArg (fun r : ℝ => (r : EReal) * d (ix2 i n)) ?_
  norm_num

/-- The loss, of the distance, at every entry of the call's array. -/
def total (d : FVec Ideal S8192x1024 .f32) : FVec Ideal S8x128 .f32 :=
  broadcastInDim S8x128 ![] bcast_S_S8x128 (mulf (constant S_ .f32 0x3F000000#32) (Host.reduceAdd (Host.divf
      (Host.reduceAdd (mulf d d) (constant S_ .f32 0x00000000#32) reducesTo_S8192x1024_S8192_d1 h_S_)
      (broadcastInDim S8192 ![] bcast_S_S8192 (constant S_ .f32 0x44800000#32))) (constant S_ .f32 0x00000000#32) reducesTo_S8192_S_d0 h_S_))

theorem total_at (d : FVec Ideal S8192x1024 .f32) (r : Fin 8) (l : Fin 128) :
    total d (ix2 r l) = ∑ i : Fin 8192, (∑ k : Fin 1024, d (ix2 i k) * d (ix2 i k)) * Ideal.ofBits .f32 0x3A000000#32 := by
  pointwise [total]
  rw [one_half, half_share, width, mul_comm, sum_mul_real _ _ (by norm_num)]
  refine Finset.sum_congr rfl fun i _ => ?_
  rw [Ideal.div_coe (by norm_num), mul_assoc, ← EReal.coe_mul]
  refine congrArg (fun r : ℝ => (∑ k : Fin 1024, d (ix2 i k) * d (ix2 i k)) * (r : EReal)) ?_
  norm_num

variable (m : (ℓ : Loc nD τ sig) → Buf (Elt Ideal) ℓ) (c : Dev nD)

/-- The distance of the run's arguments. -/
def far : FVec Ideal S8192x1024 .f32 :=
  distance (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

theorem out0_eq : res_out0 m c = slope (far m c) := rfl

theorem out1_eq : res_out1 m c = total (far m c) := rfl

end Cert.Reference5Ideal.LayerEnd

end
-- ==== Proof.LayerResultBlocks.lean ====
module

public import proofs.«01_k».proof.Proof.LayerEndKernel
public import proofs.«01_k».proof.Proof.Input
public import proofs.«01_k».proof.Proof.Gen.Kernel6Ideal.Value

/-!
# The blocks of the call without the loss

They are those of the call with the loss, less the target's.
-/

@[expose] public section

set_option maxRecDepth 16384

noncomputable section

namespace Cert.Kernel6Ideal.LayerResult

open Idealize.ShloMosaic Idealize.ShloMosaic.TcCoe Idealize.ShloMosaic.Tactic Cert.Kernel6Ideal.Gen Cert.Kernel6Ideal
open Cert.Kernel4Ideal.Forward (ix2_of)
open Cert.Kernel5Ideal.LayerEnd (ordered)

variable (m : (ℓ : Loc nD τ sig) → Buf (Elt Ideal) ℓ) (c : Dev nD)

/-- The activations. -/
abbrev argx : FVec Ideal S8192x1024 .f32 := m ((c : Thread nD τ).loc main_arg0)
/-- The projection. -/
abbrev argh : FVec Ideal S8192x3488 .f32 := m ((c : Thread nD τ).loc main_arg1)
/-- The first attention's output. -/
abbrev arga : FVec Ideal S8192x256 .f32 := m ((c : Thread nD τ).loc main_arg2)
/-- The second attention's output. -/
abbrev argc : FVec Ideal S8192x256 .f32 := m ((c : Thread nD τ).loc main_arg3)
/-- The third attention's output. -/
abbrev argd : FVec Ideal S8192x256 .f32 := m ((c : Thread nD τ).loc main_arg4)
/-- The convolution's weights. -/
abbrev argw : FVec Ideal S3x256 .f32 := m ((c : Thread nD τ).loc main_arg5)
/-- The convolution's constant. -/
abbrev argb : FVec Ideal S256 .f32 := m ((c : Thread nD τ).loc main_arg6)
/-- The scale of the groups. -/
abbrev argg : FVec Ideal S1024 .f32 := m ((c : Thread nD τ).loc main_arg7)
/-- The matrix. -/
abbrev argo : FVec Ideal S1024x1024 .f32 := m ((c : Thread nD τ).loc main_arg8)
/-- The scale of the product. -/
abbrev argp : FVec Ideal S1024 .f32 := m ((c : Thread nD τ).loc main_arg9)

theorem V_v3 : V m c main_v3 = ordered (argh m c) := by
  simp only [V, hostOps0]
  after_reads_simp
  rfl
theorem V_v4 : V m c main_v4 = shapeCast S1x256 (argb m c) shapeCasts_S256_S1x256 := by
  simp only [V, hostOps0]
  after_reads_simp
  rfl
theorem V_v5 : V m c main_v5 = shapeCast S1x1024 (argg m c) shapeCasts_S1024_S1x1024 := by
  simp only [V, hostOps0]
  after_reads_simp
  rfl
theorem V_v6 : V m c main_v6 = truncf .bf16 (argo m c) bitsLt_bf16_f32 := by
  simp only [V, hostOps0]
  after_reads_simp
theorem V_v7 : V m c main_v7 = shapeCast S1x1024 (argp m c) shapeCasts_S1024_S1x1024 := by
  simp only [V, hostOps0]
  after_reads_simp
  rfl

/-- Row `r` of the block of point `t`. -/
def row (t : Fin cfg0.N) (r : Fin 512) : Fin 8192 :=
  ⟨t.val * 512 + r.val, by have h := Nat.lt_of_lt_of_eq t.isLt N_0; have hr := r.isLt; omega⟩

theorem row_val (t : Fin cfg0.N) (r : Fin 512) : (row t r).val = t.val * 512 + r.val := rfl

/-- Row `r` of the eight rows before the block of point `t`; the first point takes the first eight. -/
def halo (t : Fin cfg0.N) (r : Fin 8) : Fin 8192 :=
  ⟨(64 * t.val - 1) * 8 + r.val, by have h := Nat.lt_of_lt_of_eq t.isLt N_0; have hr := r.isLt; omega⟩

theorem halo_val (t : Fin cfg0.N) (r : Fin 8) : (halo t r).val = (64 * t.val - 1) * 8 + r.val := rfl

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_5 : ∀ t : Fin cfg0.N, win0_5.index t = ![t.val, 4] := by decide +kernel
theorem index_6 : ∀ t : Fin cfg0.N, win0_6.index t = ![t.val, 5] := by decide +kernel
theorem index_7 : ∀ t : Fin cfg0.N, win0_7.index t = ![t.val, 6] := by decide +kernel
theorem index_8 : ∀ t : Fin cfg0.N, win0_8.index t = ![64 * t.val - 1, 5] := by decide +kernel
theorem index_9 : ∀ t : Fin cfg0.N, win0_9.index t = ![64 * t.val - 1, 6] := by decide +kernel
theorem index_10 : ∀ t : Fin cfg0.N, win0_10.index t = ![0, 0] := by decide +kernel
theorem index_11 : ∀ t : Fin cfg0.N, win0_11.index t = ![0, 0] := by decide +kernel
theorem index_12 : ∀ t : Fin cfg0.N, win0_12.index t = ![0, 0] := by decide +kernel
theorem index_13 : ∀ t : Fin cfg0.N, win0_13.index t = ![0, 0] := by decide +kernel
theorem index_14 : ∀ t : Fin cfg0.N, win0_14.index t = ![0, 0] := by decide +kernel
theorem index_15 : ∀ t : Fin cfg0.N, win0_15.index t = ![t.val, 0] := by decide +kernel
theorem index_4 : ∀ t : Fin cfg0.N, win0_4.index t = ![t.val, 0] := by decide +kernel

theorem emb_0 (t : Fin cfg0.N) (r : Fin 512) (l : Fin 1024) : ((win0_0.blk t).view.emb (ix2 r l) : S8192x1024.Idx) = ix2 (row t r) l := by
  refine ix2_of ?_ ?_
  · rw [row_val]
    blk_simp [index_0]
  · blk_simp [index_0]
theorem emb_1 (t : Fin cfg0.N) (r : Fin 512) (l : Fin 256) : ((win0_1.blk t).view.emb (ix2 r l) : S8192x256.Idx) = ix2 (row t r) l := by
  refine ix2_of ?_ ?_
  · rw [row_val]
    blk_simp [index_1]
  · blk_simp [index_1]
theorem emb_2 (t : Fin cfg0.N) (r : Fin 512) (l : Fin 256) : ((win0_2.blk t).view.emb (ix2 r l) : S8192x256.Idx) = ix2 (row t r) l := by
  refine ix2_of ?_ ?_
  · rw [row_val]
    blk_simp [index_2]
  · blk_simp [index_2]
theorem emb_3 (t : Fin cfg0.N) (r : Fin 512) (l : Fin 256) : ((win0_3.blk t).view.emb (ix2 r l) : S8192x256.Idx) = ix2 (row t r) l := by
  refine ix2_of ?_ ?_
  · rw [row_val]
    blk_simp [index_3]
  · blk_simp [index_3]
theorem emb_5 (t : Fin cfg0.N) (r : Fin 512) (l : Fin 256) : ((win0_5.blk t).view.emb (ix2 r l) : S8192x2304.Idx) = ix2 (row t r) (⟨1024 + l.val, by have := l.isLt; omega⟩ : Fin 2304) := by
  refine ix2_of ?_ ?_
  · rw [row_val]
    blk_simp [index_5]
  · blk_simp [index_5]
theorem emb_6 (t : Fin cfg0.N) (r : Fin 512) (l : Fin 256) : ((win0_6.blk t).view.emb (ix2 r l) : S8192x2304.Idx) = ix2 (row t r) (⟨1280 + l.val, by have := l.isLt; omega⟩ : Fin 2304) := by
  refine ix2_of ?_ ?_
  · rw [row_val]
    blk_simp [index_6]
  · blk_simp [index_6]
theorem emb_7 (t : Fin cfg0.N) (r : Fin 512) (l : Fin 256) : ((win0_7.blk t).view.emb (ix2 r l) : S8192x2304.Idx) = ix2 (row t r) (⟨1536 + l.val, by have := l.isLt; omega⟩ : Fin 2304) := by
  refine ix2_of ?_ ?_
  · rw [row_val]
    blk_simp [index_7]
  · blk_simp [index_7]
theorem emb_8 (t : Fin cfg0.N) (r : Fin 8) (l : Fin 256) : ((win0_8.blk t).view.emb (ix2 r l) : S8192x2304.Idx) = ix2 (halo t r) (⟨1280 + l.val, by have := l.isLt; omega⟩ : Fin 2304) := by
  refine ix2_of ?_ ?_
  · rw [halo_val]
    blk_simp [index_8]
  · blk_simp [index_8]
theorem emb_9 (t : Fin cfg0.N) (r : Fin 8) (l : Fin 256) : ((win0_9.blk t).view.emb (ix2 r l) : S8192x2304.Idx) = ix2 (halo t r) (⟨1536 + l.val, by have := l.isLt; omega⟩ : Fin 2304) := by
  refine ix2_of ?_ ?_
  · rw [halo_val]
    blk_simp [index_9]
  · blk_simp [index_9]
theorem emb_10 (t : Fin cfg0.N) (r : Fin 3) (l : Fin 256) : ((win0_10.blk t).view.emb (ix2 r l) : S3x256.Idx) = ix2 r l := by
  refine ix2_of ?_ ?_
  · blk_simp [index_10]
  · blk_simp [index_10]
theorem emb_11 (t : Fin cfg0.N) (r : Fin 1) (l : Fin 256) : ((win0_11.blk t).view.emb (ix2 r l) : S1x256.Idx) = ix2 r l := by
  refine ix2_of ?_ ?_
  · blk_simp [index_11]
  · blk_simp [index_11]
theorem emb_12 (t : Fin cfg0.N) (r : Fin 1) (l : Fin 1024) : ((win0_12.blk t).view.emb (ix2 r l) : S1x1024.Idx) = ix2 r l := by
  refine ix2_of ?_ ?_
  · blk_simp [index_12]
  · blk_simp [index_12]
theorem emb_13 (t : Fin cfg0.N) (r : Fin 1024) (l : Fin 1024) : ((win0_13.blk t).view.emb (ix2 r l) : S1024x1024.Idx) = ix2 r l := by
  refine ix2_of ?_ ?_
  · blk_simp [index_13]
  · blk_simp [index_13]
theorem emb_14 (t : Fin cfg0.N) (r : Fin 1) (l : Fin 1024) : ((win0_14.blk t).view.emb (ix2 r l) : S1x1024.Idx) = ix2 r l := by
  refine ix2_of ?_ ?_
  · blk_simp [index_14]
  · blk_simp [index_14]
theorem emb_15 (t : Fin cfg0.N) (r : Fin 512) (l : Fin 1024) : ((win0_15.blk t).view.emb (ix2 r l) : S8192x1024.Idx) = ix2 (row t r) l := by
  refine ix2_of ?_ ?_
  · rw [row_val]
    blk_simp [index_15]
  · blk_simp [index_15]

theorem read_0 (X : (b : Ref sig .tc) → Buf (Elt Ideal) ((c : Thread nD τ).loc b)) (t : Fin cfg0.N) (r : Fin 512) (l : Fin 1024) :
    (((cfg0.win 0).blk t).view.read (Elt Ideal) (X (Pipeline.arrRef spec0 0)) : Vec Ideal S512x1024 .f32) (ix2 r l)
      = (X main_arg0 : FVec Ideal S8192x1024 .f32) (ix2 (row t r) l) :=
  congrArg (X main_arg0) (emb_0 t r l)
theorem read_1 (X : (b : Ref sig .tc) → Buf (Elt Ideal) ((c : Thread nD τ).loc b)) (t : Fin cfg0.N) (r : Fin 512) (l : Fin 256) :
    (((cfg0.win 1).blk t).view.read (Elt Ideal) (X (Pipeline.arrRef spec0 1)) : Vec Ideal S512x256 .f32) (ix2 r l)
      = (X main_arg2 : FVec Ideal S8192x256 .f32) (ix2 (row t r) l) :=
  congrArg (X main_arg2) (emb_1 t r l)
theorem read_2 (X : (b : Ref sig .tc) → Buf (Elt Ideal) ((c : Thread nD τ).loc b)) (t : Fin cfg0.N) (r : Fin 512) (l : Fin 256) :
    (((cfg0.win 2).blk t).view.read (Elt Ideal) (X (Pipeline.arrRef spec0 2)) : Vec Ideal S512x256 .f32) (ix2 r l)
      = (X main_arg3 : FVec Ideal S8192x256 .f32) (ix2 (row t r) l) :=
  congrArg (X main_arg3) (emb_2 t r l)
theorem read_3 (X : (b : Ref sig .tc) → Buf (Elt Ideal) ((c : Thread nD τ).loc b)) (t : Fin cfg0.N) (r : Fin 512) (l : Fin 256) :
    (((cfg0.win 3).blk t).view.read (Elt Ideal) (X (Pipeline.arrRef spec0 3)) : Vec Ideal S512x256 .f32) (ix2 r l)
      = (X main_arg4 : FVec Ideal S8192x256 .f32) (ix2 (row t r) l) :=
  congrArg (X main_arg4) (emb_3 t r l)
theorem read_5 (X : (b : Ref sig .tc) → Buf (Elt Ideal) ((c : Thread nD τ).loc b)) (t : Fin cfg0.N) (r : Fin 512) (l : Fin 256) :
    (((cfg0.win 5).blk t).view.read (Elt Ideal) (X (Pipeline.arrRef spec0 5)) : Vec Ideal S512x256 .f32) (ix2 r l)
      = (X main_v3 : FVec Ideal S8192x2304 .f32) (ix2 (row t r) (⟨1024 + l.val, by have := l.isLt; omega⟩ : Fin 2304)) :=
  congrArg (X main_v3) (emb_5 t r l)
theorem read_6 (X : (b : Ref sig .tc) → Buf (Elt Ideal) ((c : Thread nD τ).loc b)) (t : Fin cfg0.N) (r : Fin 512) (l : Fin 256) :
    (((cfg0.win 6).blk t).view.read (Elt Ideal) (X (Pipeline.arrRef spec0 6)) : Vec Ideal S512x256 .f32) (ix2 r l)
      = (X main_v3 : FVec Ideal S8192x2304 .f32) (ix2 (row t r) (⟨1280 + l.val, by have := l.isLt; omega⟩ : Fin 2304)) :=
  congrArg (X main_v3) (emb_6 t r l)
theorem read_7 (X : (b : Ref sig .tc) → Buf (Elt Ideal) ((c : Thread nD τ).loc b)) (t : Fin cfg0.N) (r : Fin 512) (l : Fin 256) :
    (((cfg0.win 7).blk t).view.read (Elt Ideal) (X (Pipeline.arrRef spec0 7)) : Vec Ideal S512x256 .f32) (ix2 r l)
      = (X main_v3 : FVec Ideal S8192x2304 .f32) (ix2 (row t r) (⟨1536 + l.val, by have := l.isLt; omega⟩ : Fin 2304)) :=
  congrArg (X main_v3) (emb_7 t r l)
theorem read_8 (X : (b : Ref sig .tc) → Buf (Elt Ideal) ((c : Thread nD τ).loc b)) (t : Fin cfg0.N) (r : Fin 8) (l : Fin 256) :
    (((cfg0.win 8).blk t).view.read (Elt Ideal) (X (Pipeline.arrRef spec0 8)) : Vec Ideal S8x256 .f32) (ix2 r l)
      = (X main_v3 : FVec Ideal S8192x2304 .f32) (ix2 (halo t r) (⟨1280 + l.val, by have := l.isLt; omega⟩ : Fin 2304)) :=
  congrArg (X main_v3) (emb_8 t r l)
theorem read_9 (X : (b : Ref sig .tc) → Buf (Elt Ideal) ((c : Thread nD τ).loc b)) (t : Fin cfg0.N) (r : Fin 8) (l : Fin 256) :
    (((cfg0.win 9).blk t).view.read (Elt Ideal) (X (Pipeline.arrRef spec0 9)) : Vec Ideal S8x256 .f32) (ix2 r l)
      = (X main_v3 : FVec Ideal S8192x2304 .f32) (ix2 (halo t r) (⟨1536 + l.val, by have := l.isLt; omega⟩ : Fin 2304)) :=
  congrArg (X main_v3) (emb_9 t r l)
theorem read_10 (X : (b : Ref sig .tc) → Buf (Elt Ideal) ((c : Thread nD τ).loc b)) (t : Fin cfg0.N) (r : Fin 3) (l : Fin 256) :
    (((cfg0.win 10).blk t).view.read (Elt Ideal) (X (Pipeline.arrRef spec0 10)) : Vec Ideal S3x256 .f32) (ix2 r l)
      = (X main_arg5 : FVec Ideal S3x256 .f32) (ix2 r l) :=
  congrArg (X main_arg5) (emb_10 t r l)
theorem read_11 (X : (b : Ref sig .tc) → Buf (Elt Ideal) ((c : Thread nD τ).loc b)) (t : Fin cfg0.N) (r : Fin 1) (l : Fin 256) :
    (((cfg0.win 11).blk t).view.read (Elt Ideal) (X (Pipeline.arrRef spec0 11)) : Vec Ideal S1x256 .f32) (ix2 r l)
      = (X main_v4 : FVec Ideal S1x256 .f32) (ix2 r l) :=
  congrArg (X main_v4) (emb_11 t r l)
theorem read_12 (X : (b : Ref sig .tc) → Buf (Elt Ideal) ((c : Thread nD τ).loc b)) (t : Fin cfg0.N) (r : Fin 1) (l : Fin 1024) :
    (((cfg0.win 12).blk t).view.read (Elt Ideal) (X (Pipeline.arrRef spec0 12)) : Vec Ideal S1x1024 .f32) (ix2 r l)
      = (X main_v5 : FVec Ideal S1x1024 .f32) (ix2 r l) :=
  congrArg (X main_v5) (emb_12 t r l)
theorem read_13 (X : (b : Ref sig .tc) → Buf (Elt Ideal) ((c : Thread nD τ).loc b)) (t : Fin cfg0.N) (r : Fin 1024) (l : Fin 1024) :
    (((cfg0.win 13).blk t).view.read (Elt Ideal) (X (Pipeline.arrRef spec0 13)) : Vec Ideal S1024x1024 .bf16) (ix2 r l)
      = (X main_v6 : FVec Ideal S1024x1024 .bf16) (ix2 r l) :=
  congrArg (X main_v6) (emb_13 t r l)
theorem read_14 (X : (b : Ref sig .tc) → Buf (Elt Ideal) ((c : Thread nD τ).loc b)) (t : Fin cfg0.N) (r : Fin 1) (l : Fin 1024) :
    (((cfg0.win 14).blk t).view.read (Elt Ideal) (X (Pipeline.arrRef spec0 14)) : Vec Ideal S1x1024 .f32) (ix2 r l)
      = (X main_v7 : FVec Ideal S1x1024 .f32) (ix2 r l) :=
  congrArg (X main_v7) (emb_14 t r l)

theorem block_0 {A : FVec Ideal S8192x1024 .f32} (hA : V m c main_arg0 = A) (t : Fin cfg0.N) (r : Fin 512) (l : Fin 1024) :
    (iblk m c 0 t : Vec Ideal S512x1024 .f32) (ix2 r l) = A (ix2 (row t r) l) := by
  subst hA
  unfold iblk
  exact read_0 c (V m c) t r l
theorem block_1 {A : FVec Ideal S8192x256 .f32} (hA : V m c main_arg2 = A) (t : Fin cfg0.N) (r : Fin 512) (l : Fin 256) :
    (iblk m c 1 t : Vec Ideal S512x256 .f32) (ix2 r l) = A (ix2 (row t r) l) := by
  subst hA
  unfold iblk
  exact read_1 c (V m c) t r l
theorem block_2 {A : FVec Ideal S8192x256 .f32} (hA : V m c main_arg3 = A) (t : Fin cfg0.N) (r : Fin 512) (l : Fin 256) :
    (iblk m c 2 t : Vec Ideal S512x256 .f32) (ix2 r l) = A (ix2 (row t r) l) := by
  subst hA
  unfold iblk
  exact read_2 c (V m c) t r l
theorem block_3 {A : FVec Ideal S8192x256 .f32} (hA : V m c main_arg4 = A) (t : Fin cfg0.N) (r : Fin 512) (l : Fin 256) :
    (iblk m c 3 t : Vec Ideal S512x256 .f32) (ix2 r l) = A (ix2 (row t r) l) := by
  subst hA
  unfold iblk
  exact read_3 c (V m c) t r l
theorem block_5 {A : FVec Ideal S8192x2304 .f32} (hA : V m c main_v3 = A) (t : Fin cfg0.N) (r : Fin 512) (l : Fin 256) :
    (iblk m c 5 t : Vec Ideal S512x256 .f32) (ix2 r l) = A (ix2 (row t r) (⟨1024 + l.val, by have := l.isLt; omega⟩ : Fin 2304)) := by
  subst hA
  unfold iblk
  exact read_5 c (V m c) t r l
theorem block_6 {A : FVec Ideal S8192x2304 .f32} (hA : V m c main_v3 = A) (t : Fin cfg0.N) (r : Fin 512) (l : Fin 256) :
    (iblk m c 6 t : Vec Ideal S512x256 .f32) (ix2 r l) = A (ix2 (row t r) (⟨1280 + l.val, by have := l.isLt; omega⟩ : Fin 2304)) := by
  subst hA
  unfold iblk
  exact read_6 c (V m c) t r l
theorem block_7 {A : FVec Ideal S8192x2304 .f32} (hA : V m c main_v3 = A) (t : Fin cfg0.N) (r : Fin 512) (l : Fin 256) :
    (iblk m c 7 t : Vec Ideal S512x256 .f32) (ix2 r l) = A (ix2 (row t r) (⟨1536 + l.val, by have := l.isLt; omega⟩ : Fin 2304)) := by
  subst hA
  unfold iblk
  exact read_7 c (V m c) t r l
theorem block_8 {A : FVec Ideal S8192x2304 .f32} (hA : V m c main_v3 = A) (t : Fin cfg0.N) (r : Fin 8) (l : Fin 256) :
    (iblk m c 8 t : Vec Ideal S8x256 .f32) (ix2 r l) = A (ix2 (halo t r) (⟨1280 + l.val, by have := l.isLt; omega⟩ : Fin 2304)) := by
  subst hA
  unfold iblk
  exact read_8 c (V m c) t r l
theorem block_9 {A : FVec Ideal S8192x2304 .f32} (hA : V m c main_v3 = A) (t : Fin cfg0.N) (r : Fin 8) (l : Fin 256) :
    (iblk m c 9 t : Vec Ideal S8x256 .f32) (ix2 r l) = A (ix2 (halo t r) (⟨1536 + l.val, by have := l.isLt; omega⟩ : Fin 2304)) := by
  subst hA
  unfold iblk
  exact read_9 c (V m c) t r l
theorem block_10 {A : FVec Ideal S3x256 .f32} (hA : V m c main_arg5 = A) (t : Fin cfg0.N) (r : Fin 3) (l : Fin 256) :
    (iblk m c 10 t : Vec Ideal S3x256 .f32) (ix2 r l) = A (ix2 r l) := by
  subst hA
  unfold iblk
  exact read_10 c (V m c) t r l
theorem block_11 {A : FVec Ideal S1x256 .f32} (hA : V m c main_v4 = A) (t : Fin cfg0.N) (r : Fin 1) (l : Fin 256) :
    (iblk m c 11 t : Vec Ideal S1x256 .f32) (ix2 r l) = A (ix2 r l) := by
  subst hA
  unfold iblk
  exact read_11 c (V m c) t r l
theorem block_12 {A : FVec Ideal S1x1024 .f32} (hA : V m c main_v5 = A) (t : Fin cfg0.N) (r : Fin 1) (l : Fin 1024) :
    (iblk m c 12 t : Vec Ideal S1x1024 .f32) (ix2 r l) = A (ix2 r l) := by
  subst hA
  unfold iblk
  exact read_12 c (V m c) t r l
theorem block_13 {A : FVec Ideal S1024x1024 .bf16} (hA : V m c main_v6 = A) (t : Fin cfg0.N) (r : Fin 1024) (l : Fin 1024) :
    (iblk m c 13 t : Vec Ideal S1024x1024 .bf16) (ix2 r l) = A (ix2 r l) := by
  subst hA
  unfold iblk
  exact read_13 c (V m c) t r l
theorem block_14 {A : FVec Ideal S1x1024 .f32} (hA : V m c main_v7 = A) (t : Fin cfg0.N) (r : Fin 1) (l : Fin 1024) :
    (iblk m c 14 t : Vec Ideal S1x1024 .f32) (ix2 r l) = A (ix2 r l) := by
  subst hA
  unfold iblk
  exact read_14 c (V m c) t r l

theorem emb_4 (t : Fin cfg0.N) (y : (win0_4.xblock (grid0.coords t)).Idx) (r : Fin 512) (l : Fin 1024) (h0 : (y 0).val = r.val) (h1 : (y 1).val = l.val) :
    ((win0_4.blk t).view.emb y : S8192x2304.Idx) = ix2 (row t r) (⟨l.val, by have := l.isLt; omega⟩ : Fin 2304) := by
  refine ix2_of ?_ ?_
  · rw [row_val]
    blk_simp [index_4, h0]
  · blk_simp [index_4, h1]

/-- The gate's block, which the array's end never cuts. -/
theorem block_4 {A : FVec Ideal S8192x2304 .f32} (hA : V m c main_v3 = A) (t : Fin cfg0.N) (r : Fin 512) (l : Fin 1024) :
    (X0_4 m c t : Vec Ideal S512x1024 .f32) (ix2 r l) = A (ix2 (row t r) (⟨l.val, by have := l.isLt; omega⟩ : Fin 2304)) := by
  subst hA
  unfold X0_4 Pipeline.Window.fill
  rw [dif_pos (moved0_4 t _)]
  unfold iblk
  exact congrArg (V m c main_v3) (emb_4 t _ r l rfl rfl)

end Cert.Kernel6Ideal.LayerResult

end
-- ==== Proof.LayerResult.lean ====
module

public import proofs.«01_k».proof.Proof.LayerEnd

/-!
# A layer's result, entry by entry
-/

@[expose] public section

set_option maxRecDepth 16384

noncomputable section

namespace Cert.Reference6Ideal.LayerResult

open Idealize.ShloMosaic Cert.Reference5Ideal Cert.Reference5Ideal.LayerEnd

/-- The layer's result, of the product `z`. -/
def reached (x : FVec Ideal S8192x1024 .f32) (z : Fin 8192 → Fin 1024 → EReal) (gp : FVec Ideal S1024 .f32) (i : Fin 8192) (n : Fin 1024) : EReal :=
  x (ix2 i n) + z i n * Ideal.rsqrt (Ideal.div (∑ k : Fin 1024, z i k * z i k) (Ideal.ofBits .f32 0x44800000#32) + Ideal.ofBits .f32 0x358637BD#32)
    * gp (ix1 n)

/-- The layer's result. -/
def result (x : FVec Ideal S8192x1024 .f32) (h : FVec Ideal S8192x3488 .f32) (ya yc yd : FVec Ideal S8192x256 .f32) (cw : FVec Ideal S3x256 .f32)
    (cb : FVec Ideal S256 .f32) (gg : FVec Ideal S1024 .f32) (w : FVec Ideal S1024x1024 .f32) (gp : FVec Ideal S1024 .f32) :
    Fin 8192 → Fin 1024 → EReal :=
  reached x (product h ya (gated h cw cb) yc yd gg w) gp

end Cert.Reference6Ideal.LayerResult

end
-- ==== Proof.LayerResultKernel.lean ====
module

public import proofs.«01_k».proof.Proof.LayerResultBlocks
public import proofs.«01_k».proof.Proof.LayerResult
public import Idealize.ShloMosaic.Lib.Pipeline.ValueKit
public import Idealize.ShloMosaic.Lib.Pipeline.ReadBack
public import Idealize.ShloMosaic.Lib.Claim

/-!
# The call without the loss

What a point computes of its rows, and from this the call's array: the layer's result.
-/

@[expose] public section

set_option maxRecDepth 16384

noncomputable section

namespace Cert.Kernel6Ideal.LayerResult

open Idealize.ShloMosaic Idealize.ShloMosaic.TcCoe Idealize.ShloMosaic.Tactic Cert.Kernel6Ideal.Gen Cert.Kernel6Ideal
open Cert.Kernel4Ideal.Forward (ix2_of)
open Cert.Reference5Ideal.LayerEnd
open Cert.Reference6Ideal.LayerResult (reached)
open Cert.Kernel5Ideal.LayerEnd (pick ordered ordered_first ordered_next ordered_inner flat_256 flat_1024)

variable (m : (ℓ : Loc nD τ sig) → Buf (Elt Ideal) ℓ) (c : Dev nD)

theorem coord : ∀ t : Fin cfg0.N, (grid0.coords t 0).val = t.val := by decide +kernel

theorem pay2 (v1 v3 : Vec Ideal S512x256 .f32) (r : Fin 512) (l : Fin 256) :
    k0_pay2 (F := Ideal) v1 v3 (ix2 r l) = v1 (ix2 r l) * v3 (ix2 r l) := by
  pointwise [k0_pay2]

theorem pay3 (i : grid0.Coords) (v6 v8 : Vec Ideal S8x256 .f32) (r : Fin 8) (l : Fin 256) :
    k0_pay3 (F := Ideal) i v6 v8 (ix2 r l) = if (i 0).val = 0 then 0 else v6 (ix2 r l) * v8 (ix2 r l) := by
  have hi : (i 0).val < 16 := (i 0).isLt
  pointwise [k0_pay3]
  exact pick _ 0 (by omega) (by omega) _ _

theorem pay4 (i : grid0.Coords) (v1 v3 : Vec Ideal S512x256 .f32) (v6 v8 : Vec Ideal S8x256 .f32) (r : Fin 512) (l : Fin 256) :
    k0_pay4 (F := Ideal) i v1 v3 v6 v8 (ix2 r l)
      = if r.val = 0 then k0_pay3 (F := Ideal) i v6 v8 (ix2 (7 : Fin 8) l)
        else k0_pay2 (F := Ideal) v1 v3 (ix2 (⟨(r.val + 512 - 1) % 512, Nat.mod_lt _ (by norm_num)⟩ : Fin 512) l) := by
  have hr := r.isLt
  pointwise [k0_pay4]
  exact pick _ 0 (by omega) (by omega) _ _

theorem pay5 (i : grid0.Coords) (v1 v3 : Vec Ideal S512x256 .f32) (v6 v8 : Vec Ideal S8x256 .f32) (r : Fin 512) (l : Fin 256) :
    k0_pay5 (F := Ideal) i v1 v3 v6 v8 (ix2 r l)
      = if r.val = 0 then k0_pay3 (F := Ideal) i v6 v8 (ix2 (6 : Fin 8) l)
        else if r.val = 1 then k0_pay3 (F := Ideal) i v6 v8 (ix2 (7 : Fin 8) l)
        else k0_pay2 (F := Ideal) v1 v3 (ix2 (⟨(r.val + 512 - 2) % 512, Nat.mod_lt _ (by norm_num)⟩ : Fin 512) l) := by
  have hr := r.isLt
  pointwise [k0_pay5]
  refine (pick r.val 0 (by omega) (by omega) _ _).trans ?_
  refine congrArg (fun s => if r.val = 0 then _ else s) ?_
  exact pick r.val 1 (by omega) (by omega) _ _

theorem pay7 (v5 v22 v39 : FVec Ideal S512x256 .f32) (v40 : Vec Ideal S3x256 .f32) (v52 : Vec Ideal S1x256 .f32)
    (v56 : Vec Ideal S512x256 .f32) (r : Fin 512) (l : Fin 256) :
    k0_pay7 (F := Ideal) v5 v22 v39 v40 (k0_pay6 v40) v52 v56 (ix2 r l)
      = v56 (ix2 r l) * (v40 (ix2 (0 : Fin 3) l) * v39 (ix2 r l) + v40 (ix2 (1 : Fin 3) l) * v22 (ix2 r l)
          + v40 (ix2 (2 : Fin 3) l) * v5 (ix2 r l) + v52 (ix2 (0 : Fin 1) l)) := by
  pointwise [k0_pay7, k0_pay6]

theorem pay8 (v : Vec Ideal S512x256 .f32) (r : Fin 512) : k0_pay8 (F := Ideal) v (ix2 r (0 : Fin 1)) = inverse fun l => v (ix2 r l) := by
  pointwise [k0_pay8, inverse]

theorem pay9 (v5 v22 v39 : FVec Ideal S512x256 .f32) (v40 : Vec Ideal S3x256 .f32) (v41 : FVec Ideal S1x256 .f32) (v52 : Vec Ideal S1x256 .f32)
    (v56 : Vec Ideal S512x256 .f32) (r : Fin 512) :
    k0_pay9 (F := Ideal) v5 v22 v39 v40 v41 v52 v56 (ix2 r (0 : Fin 1))
      = inverse fun l => k0_pay7 (F := Ideal) v5 v22 v39 v40 v41 v52 v56 (ix2 r l) := by
  pointwise [k0_pay9, inverse]

theorem pay11 (v58 : Vec Ideal S512x256 .f32) (v59 : FVec Ideal S512x256 .f32) (v60 v61 : Vec Ideal S512x256 .f32) (v69 v77 : FVec Ideal S512x1 .f32)
    (v94 : Vec Ideal S1x1024 .f32) (v105 : Vec Ideal S512x1024 .f32) (v119 : Vec Ideal S1024x1024 .bf16) (r : Fin 512) (n : Fin 1024) :
    k0_pay11 (F := Ideal) v58 v59 v60 v61 v69 v77 (k0_pay10 v60) (Scalar.ofBits .f32 0x358637BD#32) v94 v105 v119 (ix2 r n)
      = ∑ k : Fin 1024, four (fun l => v58 (ix2 r l) * v69 (ix2 r (0 : Fin 1))) (fun l => v59 (ix2 r l) * v77 (ix2 r (0 : Fin 1)))
            (fun l => v60 (ix2 r l) * inverse fun l => v60 (ix2 r l)) (fun l => v61 (ix2 r l) * inverse fun l => v61 (ix2 r l)) k
          * v94 (ix2 (0 : Fin 1) k)
          * (v105 (ix2 r k) * Ideal.div (Ideal.ofBits .f32 0x3F800000#32) (Ideal.ofBits .f32 0x3F800000#32 + Ideal.exp (-v105 (ix2 r k))))
          * v119 (ix2 k n) := by
  simp only [← zero_sub]
  pointwise [k0_pay11, k0_pay10, four, inverse]

theorem pay12 (v58 : Vec Ideal S512x256 .f32) (v59 : FVec Ideal S512x256 .f32) (v60 v61 : Vec Ideal S512x256 .f32) (v69 v77 v82 : FVec Ideal S512x1 .f32)
    (e : Ideal .f32) (v94 : Vec Ideal S1x1024 .f32) (v105 : Vec Ideal S512x1024 .f32) (v119 : Vec Ideal S1024x1024 .bf16) (r : Fin 512) :
    k0_pay12 (F := Ideal) v58 v59 v60 v61 v69 v77 v82 e v94 v105 v119 (ix2 r (0 : Fin 1))
      = ∑ k : Fin 1024, k0_pay11 (F := Ideal) v58 v59 v60 v61 v69 v77 v82 e v94 v105 v119 (ix2 r k)
          * k0_pay11 (F := Ideal) v58 v59 v60 v61 v69 v77 v82 e v94 v105 v119 (ix2 r k) := by
  pointwise [k0_pay12]

theorem pay1 (x : FVec Ideal S8192x1024 .f32) (z : Fin 8192 → Fin 1024 → EReal) (gp : FVec Ideal S1024 .f32)
    (i : Fin 512 → Fin 8192) (v121 : FVec Ideal S512x1024 .f32) (v122 : Vec Ideal S512x1024 .f32) (v125 : FVec Ideal S512x1 .f32)
    (v133 : Vec Ideal S1x1024 .f32) (hz : ∀ r n, v121 (ix2 r n) = z (i r) n)
    (hs : ∀ r, v125 (ix2 r (0 : Fin 1)) = ∑ k : Fin 1024, v121 (ix2 r k) * v121 (ix2 r k)) (hx : ∀ r n, v122 (ix2 r n) = x (ix2 (i r) n))
    (hg : ∀ r n, v133 (ix2 r n) = gp (ix1 n)) (r : Fin 512) (n : Fin 1024) :
    k0_pay1 (F := Ideal) v121 v122 v125 (Scalar.ofBits .f32 0x44800000#32) v133 (ix2 r n) = reached x z gp (i r) n := by
  pointwise [k0_pay1, reached]
  simp only [hz, hx, hg, hs]

/-- The product the convolution is of, at a point's row. -/
theorem inner_block (t : Fin cfg0.N) (r : Fin 512) (l : Fin 256) :
    k0_pay2 (F := Ideal) (iblk m c 6 t) (iblk m c 7 t) (ix2 r l) = before (argh m c) 0 (row t r) l := by
  rw [before_zero, ← ordered_inner]
  exact (pay2 _ _ r l).trans (congrArg₂ (· * ·) (block_6 m c (V_v3 m c) t r l) (block_7 m c (V_v3 m c) t r l))

/-- The same at the rows before a point's; the first point has none. -/
theorem halo_block (t : Fin cfg0.N) (r : Fin 8) (l : Fin 256) :
    k0_pay3 (F := Ideal) (grid0.coords t) (iblk m c 8 t) (iblk m c 9 t) (ix2 r l) = before (argh m c) (8 - r.val) (row t 0) l := by
  have hr := r.isLt
  have e : (row t 0).val = t.val * 512 := rfl
  refine (pay3 _ _ _ r l).trans ?_
  rw [coord]
  by_cases h0 : t.val = 0
  · rw [if_pos h0]
    unfold before
    rw [if_neg (by omega)]
  · rw [if_neg h0]
    refine (congrArg₂ (fun a b : EReal => a * b) (block_8 m c (V_v3 m c) t r l) (block_9 m c (V_v3 m c) t r l)).trans ?_
    rw [ordered_inner, ← before_zero]
    exact before_eq _ _ _ _ _ _ (by rw [halo_val, e]; omega)

/-- The same one row before. -/
theorem one_block (t : Fin cfg0.N) (r : Fin 512) (l : Fin 256) :
    k0_pay4 (F := Ideal) (grid0.coords t) (iblk m c 6 t) (iblk m c 7 t) (iblk m c 8 t) (iblk m c 9 t) (ix2 r l) = before (argh m c) 1 (row t r) l := by
  have hr := r.isLt
  refine (pay4 _ _ _ _ _ r l).trans ?_
  by_cases h0 : r.val = 0
  · rw [if_pos h0]
    exact (halo_block m c t 7 l).trans (before_eq _ _ _ _ _ _ (by rw [row_val, row_val, h0]; rfl))
  · rw [if_neg h0]
    exact (inner_block m c t _ l).trans (before_eq _ _ _ _ _ _ (by rw [row_val, row_val]; simp only []; omega))

/-- The same two rows before. -/
theorem two_block (t : Fin cfg0.N) (r : Fin 512) (l : Fin 256) :
    k0_pay5 (F := Ideal) (grid0.coords t) (iblk m c 6 t) (iblk m c 7 t) (iblk m c 8 t) (iblk m c 9 t) (ix2 r l) = before (argh m c) 2 (row t r) l := by
  have hr := r.isLt
  refine (pay5 _ _ _ _ _ r l).trans ?_
  by_cases h0 : r.val = 0
  · rw [if_pos h0]
    exact (halo_block m c t 6 l).trans (before_eq _ _ _ _ _ _ (by rw [row_val, row_val, h0]; rfl))
  rw [if_neg h0]
  by_cases h1 : r.val = 1
  · rw [if_pos h1]
    exact (halo_block m c t 7 l).trans (before_eq _ _ _ _ _ _ (by rw [row_val, row_val, h1]; rfl))
  · rw [if_neg h1]
    exact (inner_block m c t _ l).trans (before_eq _ _ _ _ _ _ (by rw [row_val, row_val]; simp only []; omega))

/-- The gated convolution a point computes. -/
abbrev convb (t : Fin cfg0.N) : FVec Ideal S512x256 .f32 :=
  k0_pay7 (F := Ideal) (k0_pay2 (iblk m c 6 t) (iblk m c 7 t)) (k0_pay4 (grid0.coords t) (iblk m c 6 t) (iblk m c 7 t) (iblk m c 8 t) (iblk m c 9 t))
    (k0_pay5 (grid0.coords t) (iblk m c 6 t) (iblk m c 7 t) (iblk m c 8 t) (iblk m c 9 t)) (iblk m c 10 t) (k0_pay6 (iblk m c 10 t)) (iblk m c 11 t)
    (iblk m c 5 t)

theorem conv_block (t : Fin cfg0.N) (r : Fin 512) (l : Fin 256) :
    convb m c t (ix2 r l) = gated (argh m c) (argw m c) (argb m c) (row t r) l := by
  have hl := l.isLt
  refine (pay7 _ _ _ _ _ _ r l).trans ?_
  rw [two_block m c t r l, one_block m c t r l, inner_block m c t r l]
  have h5 := (block_5 m c (V_v3 m c) t r l).trans (ordered_next (argh m c) (row t r) _ ⟨512 + l.val, by omega⟩
    (show 1024 ≤ 1024 + l.val by omega) (show 1024 + l.val < 2208 by omega) (show 512 + l.val + 512 = 1024 + l.val by omega))
  have hb := (block_11 m c (V_v4 m c) t 0 l).trans (flat_256 _ _ _)
  have w0 := block_10 m c (V_main_arg5 m c) t 0 l
  have w1 := block_10 m c (V_main_arg5 m c) t 1 l
  have w2 := block_10 m c (V_main_arg5 m c) t 2 l
  unfold gated
  rw [h5, hb, w0, w1, w2]

/-- The inverse root of the convolution's mean square, at a point's rows. -/
abbrev convs (t : Fin cfg0.N) : FVec Ideal S512x1 .f32 :=
  k0_pay9 (F := Ideal) (k0_pay2 (iblk m c 6 t) (iblk m c 7 t)) (k0_pay4 (grid0.coords t) (iblk m c 6 t) (iblk m c 7 t) (iblk m c 8 t) (iblk m c 9 t))
    (k0_pay5 (grid0.coords t) (iblk m c 6 t) (iblk m c 7 t) (iblk m c 8 t) (iblk m c 9 t)) (iblk m c 10 t) (k0_pay6 (iblk m c 10 t)) (iblk m c 11 t)
    (iblk m c 5 t)

/-- The product with the matrix a point computes. -/
abbrev prodb (t : Fin cfg0.N) : FVec Ideal S512x1024 .f32 :=
  k0_pay11 (F := Ideal) (iblk m c 1 t) (convb m c t) (iblk m c 2 t) (iblk m c 3 t) (k0_pay8 (iblk m c 1 t)) (convs m c t) (k0_pay10 (iblk m c 2 t))
    (Scalar.ofBits .f32 0x358637BD#32) (iblk m c 12 t) (X0_4 m c t) (iblk m c 13 t)

/-- The sums of the squares of its rows. -/
abbrev prods (t : Fin cfg0.N) : FVec Ideal S512x1 .f32 :=
  k0_pay12 (F := Ideal) (iblk m c 1 t) (convb m c t) (iblk m c 2 t) (iblk m c 3 t) (k0_pay8 (iblk m c 1 t)) (convs m c t) (k0_pay10 (iblk m c 2 t))
    (Scalar.ofBits .f32 0x358637BD#32) (iblk m c 12 t) (X0_4 m c t) (iblk m c 13 t)

theorem prod_block (t : Fin cfg0.N) (r : Fin 512) (n : Fin 1024) : prodb m c t (ix2 r n)
    = product (argh m c) (arga m c) (gated (argh m c) (argw m c) (argb m c)) (argc m c) (argd m c) (argg m c) (argo m c) (row t r) n := by
  refine (pay11 _ _ _ _ _ _ _ _ _ r n).trans ?_
  unfold product groups gate
  have ha := fun l => block_1 m c (V_main_arg2 m c) t r l
  have hb := fun l => conv_block m c t r l
  have hc := fun l => block_2 m c (V_main_arg3 m c) t r l
  have hd := fun l => block_3 m c (V_main_arg4 m c) t r l
  have hg := fun k => (block_12 m c (V_v5 m c) t 0 k).trans (flat_1024 _ _ _)
  have ho := fun k => block_13 m c (V_v6 m c) t k n
  have hh := fun k : Fin 1024 => (block_4 m c (V_v3 m c) t r k).trans (ordered_first _ _ _ k.isLt)
  have hv : convs m c t (ix2 r (0 : Fin 1)) = inverse fun l => convb m c t (ix2 r l) := pay9 _ _ _ _ _ _ _ r
  rw [pay8, hv]
  refine Finset.sum_congr rfl fun k _ => ?_
  refine congrArg₂ (· * ·) (congrArg₂ (· * ·) (congrArg₂ (· * ·) ?_ (hg k)) ?_) (ho k)
  · simp only [ha, hb, hc, hd]
  · rw [hh k]

/-- The layer's result, of the run's arguments. -/
abbrev gone : Fin 8192 → Fin 1024 → EReal :=
  Cert.Reference6Ideal.LayerResult.result (argx m c) (argh m c) (arga m c) (argc m c) (argd m c) (argw m c) (argb m c) (argg m c) (argo m c) (argp m c)

theorem gone_block (t : Fin cfg0.N) (r : Fin 512) (n : Fin 1024) :
    k0_pay1 (F := Ideal) (prodb m c t) (iblk m c 0 t) (prods m c t) (Scalar.ofBits .f32 0x44800000#32) (iblk m c 14 t) (ix2 r n) = gone m c (row t r) n :=
  pay1 (argx m c) _ (argp m c) (row t) _ _ _ _ (prod_block m c t) (fun r => pay12 _ _ _ _ _ _ _ _ _ _ _ r) (block_0 m c (V_main_arg0 m c) t)
    (fun r n => (block_14 m c (V_v7 m c) t _ n).trans (flat_1024 _ _ _)) r n

/-- The call's array. -/
def result15 (D : Fin 8192 → Fin 1024 → EReal) : FVec Ideal S8192x1024 .f32 := fun y => D (y 0) (y 1)

theorem point15 (t : Fin cfg0.N) (y : S512x1024.Idx) :
    k0_pay1 (F := Ideal) (prodb m c t) (iblk m c 0 t) (prods m c t) (Scalar.ofBits .f32 0x44800000#32) (iblk m c 14 t) y
      = result15 (gone m c) ((win0_15.blk t).view.emb y) := by
  obtain ⟨a, b, rfl⟩ : ∃ a b, y = ix2 a b := ⟨y 0, y 1, ix2_of rfl rfl⟩
  exact (gone_block m c t a b).trans (congrArg (result15 (gone m c)) (emb_15 t a b)).symm

/-- The call's result is the layer's. -/
theorem final15 : (dats m 0 c).arrAt 15 cfg0.N = result15 (gone m c) := by
  refine (dats m 0 c).arrAt_eq_of_covers 15 _ (by decide +kernel) fun t _ y => ?_
  blk_simp
  rw [after0_15]
  unfold outsAt0
  frame_out
  exact point15 m c t y

end Cert.Kernel6Ideal.LayerResult

end
-- ==== Proof.LayerResultReference.lean ====
module

public import proofs.«01_k».proof.Proof.LayerResult
public import proofs.«01_k».proof.Proof.LayerEndReference
public import proofs.«01_k».proof.Proof.Gen.Reference6Ideal.Run
public import Idealize.ShloMosaic.Lib.Claim
public import Idealize.ShloMosaic.Lib.StableHlo.RunRead

/-!
# The reference's result of a layer

It is computed by the operations that come before the loss in the fifth reference.
-/

@[expose] public section

set_option maxRecDepth 16384

noncomputable section

namespace Cert.Reference6Ideal.LayerResult

open Idealize.ShloMosaic Idealize.ShloMosaic.TcCoe Cert.Reference6Ideal.Gen Cert.Reference6Ideal Cert.Reference6Ideal.Value
open Cert.Reference5Ideal.LayerEnd (product gated multiplied multiplied_at together together_at convolved convolved_at opened opened_at)

/-- The product normalised, scaled and added to the activations, as the reference computes it. -/
def closed (x : FVec Ideal S8192x1024 .f32) (z : FVec Ideal S8192x1024 .f32) (gp : FVec Ideal S1024 .f32) : FVec Ideal S8192x1024 .f32 :=
  addf x (mulf (mulf z (broadcastInDim S8192x1024 ![0, 1] bcast_S8192x1_S8192x1024_0_1 (Host.rsqrt (addf
      (Host.divf (broadcastInDim S8192x1 ![0] bcast_S8192_S8192x1_0
          (Host.reduceAdd (mulf z z) (constant S_ .f32 0x00000000#32) reducesTo_S8192x1024_S8192_d1 h_S_))
        (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 gp)))

theorem closed_at (x : FVec Ideal S8192x1024 .f32) (z : FVec Ideal S8192x1024 .f32) (gp : FVec Ideal S1024 .f32)
    (i : Fin 8192) (n : Fin 1024) : closed x z gp (ix2 i n) = reached x (fun i n => z (ix2 i n)) gp i n := by
  pointwise [closed, reached]

/-- The layer's result, as the reference computes it. -/
def computed (x : FVec Ideal S8192x1024 .f32) (h : FVec Ideal S8192x3488 .f32) (ya yc yd : FVec Ideal S8192x256 .f32) (cw : FVec Ideal S3x256 .f32)
    (cb : FVec Ideal S256 .f32) (gg : FVec Ideal S1024 .f32) (w : FVec Ideal S1024x1024 .f32) (gp : FVec Ideal S1024 .f32) :
    FVec Ideal S8192x1024 .f32 :=
  closed x (multiplied (together ya (convolved h cw cb) yc yd gg) (opened h) w) gp

theorem computed_at (x : FVec Ideal S8192x1024 .f32) (h : FVec Ideal S8192x3488 .f32) (ya yc yd : FVec Ideal S8192x256 .f32) (cw : FVec Ideal S3x256 .f32)
    (cb : FVec Ideal S256 .f32) (gg : FVec Ideal S1024 .f32) (w : FVec Ideal S1024x1024 .f32) (gp : FVec Ideal S1024 .f32)
    (i : Fin 8192) (n : Fin 1024) :
    computed x h ya yc yd cw cb gg w gp (ix2 i n) = result x h ya yc yd cw cb gg w gp i n := by
  unfold computed result
  rw [closed_at]
  refine congrArg (fun z => reached x z gp i n) (funext fun i => funext fun n => ?_)
  rw [multiplied_at]
  unfold product
  refine Finset.sum_congr rfl fun k _ => ?_
  rw [together_at, opened_at, show (fun i l => convolved h cw cb (ix2 i l)) = gated h cw cb from
    funext fun i => funext fun l => convolved_at h cw cb i l]

variable (m : (ℓ : Loc nD τ sig) → Buf (Elt Ideal) ℓ) (c : Dev nD)

/-- The layer's result of the run's arguments. -/
def ran : FVec Ideal S8192x1024 .f32 :=
  computed (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem out0_eq : res_out0 m c = ran m c := rfl

end Cert.Reference6Ideal.LayerResult

end
-- ==== Proof.KernelFrame.lean ====
/- The kernel's run as printed, at any values: it leaves its arguments as they were and no semaphore raised.
   Nothing is said here of what it leaves in its results; the idealized kernel's results are in Run.lean. -/
module

public import proofs.«01_k».proof.Proof.Gen.Kernel.Frame
public import proofs.«01_k».proof.Proof.Gen.Kernel.Loops
public import Idealize.ShloMosaic.Lib.Claim
public import Idealize.ShloMosaic.Lib.Exec

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first of a row of query blocks: the body clears the two accumulators there. -/
abbrev first (i : grid0.Coords) : Prop :=
  Scalar.cmpi .ne (Scalar.extui (Scalar.cmpi .eq (BitVec.ofNat 32 (i 1).val) 0#32)) 0#32 = 1#1

section Body

variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S1x32x256x256 .f32) (harg9 : arg9.IsWhole)
  (arg10 : Memref sig .tc .vmem S1x32x128x256 .f32) (harg10 : arg10.IsWhole)
  (arg11 : Memref sig .tc .vmem S2x512x128 .bf16) (harg11 : arg11.IsWhole)
  (arg12 : Memref sig .tc .vmem S4x512x128 .f32) (harg12 : arg12.IsWhole)
  (arg13 : Memref sig .tc .vmem S256x512 .bf16) (harg13 : arg13.IsWhole)
  (arg14 : Memref sig .tc .vmem S128x512 .bf16) (harg14 : arg14.IsWhole)

set_option maxHeartbeats 2000000 in
/-- The body on whole buffers: the inputs stay, the outputs and the scratch end at some contents. -/
theorem body_runs (x0 : Vec F S512x256 .bf16) (x1 : Vec F S8192x256 .bf16) (x2 : Vec F S8192x128 .bf16) (x3 : Vec F S512x128 .f32) (x4 : Vec F S512x128 .f32) (x5 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  by_cases hc : first i
  all_goals
    simp only [cc0_mla_bwd_eq_skeleton]; unfold cc0_mla_bwd_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Body

/-! ## The launch -/

/-- The output windows, of which nothing is said. -/
def outs : Fin 9 → Bool := fun w => w.val == 6 || w.val == 7 || w.val == 8

/-- The pipeline's data: each input's buffer keeps its block; the outputs are left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

/-- The scratch buffers at some contents, and the generator's register. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

set_option maxHeartbeats 2400000 in
/-- The body at a point, from its windows' buffers and the scratch. -/
theorem body_at (c : Dev nD) (t : Fin cfg0.N) :
    (iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare d)
      ∗ (∃ d, owns (c : Thread nD τ) (win0_7.stage (cfg0.slots t 7)) fullShare d)
      ∗ (∃ d, owns (c : Thread nD τ) (win0_8.stage (cfg0.slots t 8)) fullShare d)) : sProp 𝕄)
    ⊢ wp frame (wpE (defs₀ (F := F)) Variants.none c none) Set.univ (bodyAt0 t) (fun _ =>
      iprop((dats m 0 c).Φ t.succ ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ (∃ d, owns (c : Thread nD τ) (win0_6.stage (cfg0.slots t 6)) fullShare d)
      ∗ (∃ d, owns (c : Thread nD τ) (win0_7.stage (cfg0.slots t 7)) fullShare d)
      ∗ (∃ d, owns (c : Thread nD τ) (win0_8.stage (cfg0.slots t 8)) fullShare d))) := by
  unfold bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c (grid0.coords t) _ _ _ _ _ _ _ _ _ _ _ _ _ _ _ _ _ _ _ _ _ _ _ _ _ _  (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outs := fun t => by
  rw [bigSep_W0, bigSep_W0, defs_row]
  exact triple_restated (body_at m c t) rfl .rfl fun _ => .rfl

set_option backward.isDefEq.respectTransparency.types false in
theorem runs : θ_run defs (onTc (τ := τ) (main (F := F))) (s₀ m ρ)
    (fun r => (Pipeline.RDat.FramePost (cfgs 0) (fun c => (dats m 0 c).toRForget outs) (V m)) r ∧ r.2.sem = fun _ => 0) :=
  Pipeline.θ_run_frame_forget (Q' := _) cfgs (dats m) (0 : Fin 1) launch0 defs₀ Variants.none outs m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run leaves the arguments as they were and every semaphore at zero. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 5 rfl).trans ((A_eq m c 5).trans (V_main_arg3 m c))⟩, h.2⟩) (runs m ρ)

end Cert.Kernel.Gen

end
-- ==== Proof.Reads.lean ====
/- The body's arithmetic read at one index and named by the sums of `Spec`: a block's probabilities and score gradients,
   and what one product adds to each of the three gradients. -/
module

public import proofs.«01_k».proof.Proof.Spec

@[expose] public section

set_option maxRecDepth 16384

noncomputable section

namespace Cert.KernelIdeal.Reads

open Idealize.ShloMosaic Cert.KernelIdeal.Gen Cert.KernelIdeal.Spec

section

variable (i : ℕ) (q : Vec Ideal S512x256 .bf16) (k : Vec Ideal S8192x256 .bf16) (v : Vec Ideal S8192x128 .bf16)
  (y lse dy : Vec Ideal S512x128 .f32)

theorem logsum_mod (e : Fin 2) (r : Fin 512) {m n : ℕ} (h : m % 64 = n % 64) :
    logsum lse e r m = logsum lse e r n := by
  unfold logsum; simp only [h]

/-- A block of keys before the queries' own: every key counts. -/
theorem prob_read {e : Fin 2} {b : ℕ} (hb : 2 * b + 2 ≤ 4 * i) (hi : i < 16)
    {A : Vec Ideal S512x128 .bf16} {B : Vec Ideal S256x128 .bf16} {s : Vec Ideal S1x512x128 .f32}
    (hA : ∀ r c, A (ix2 r c) = q (ix2 r (lane e c))) (hB : ∀ n c, B (ix2 n c) = k (ix2 (key b n) (lane e c)))
    (hs : ∀ r l, s (ix3 0 r l) = logsum lse e r l.val) (r : Fin 512) (n : Fin 256) :
    k0_pay15 (k0_pay1 A B) s (ix2 r n) = prob i q k lse e r (key b n) := by
  have hk : (key b n).val = 256 * b + n.val := key_val (by omega) n
  have hp : k0_pay15 (k0_pay1 A B) s (ix2 r n) = Ideal.exp2 (∑ c : Fin 128, A (ix2 r c) * B (ix2 n c)
      - if h : n.val < 128 then s (ix3 0 r ⟨n.val, h⟩) else s (ix3 0 r ⟨n.val - 128, by omega⟩)) := by
    pointwise [k0_pay15, k0_pay13, k0_pay1]
    rfl
  rw [hp]
  unfold prob score
  rw [if_pos (by rw [hk]; omega)]
  congr 2
  · exact Finset.sum_congr rfl fun c _ => by rw [hA, hB]
  · split
    · rw [hs]; exact logsum_mod lse e r (by rw [hk]; simp only []; omega)
    · rw [hs]; exact logsum_mod lse e r (by rw [hk]; simp only []; omega)

/-- The lanes that the vector of channels selects. -/
theorem channel {e : Fin 2} (l : Fin 128) (z : EReal) :
    Scalar.select (IntOp.cmpi .eq (BitVec.ofNat 32 (l.val / 64)) (BitVec.ofNat 32 e.val)) z
      (((0#32 : BitVec 32).toInt : ℝ) : EReal) = if side l = e then z else 0 := by
  have : (BitVec.ofNat 32 (l.val / 64) = BitVec.ofNat 32 e.val) ↔ side l = e := by
    rw [← BitVec.toNat_inj, BitVec.toNat_ofNat, BitVec.toNat_ofNat, Fin.ext_iff]
    have := l.isLt; have := e.isLt
    show _ ↔ l.val / 64 = e.val
    omega
  by_cases h : side l = e
  · rw [if_pos h, IntOp.cmpi, this.mpr h]; simp [Scalar.select]
  · have h' : ¬ BitVec.ofNat 32 (l.val / 64) = BitVec.ofNat 32 e.val := fun hh => h (this.mp hh)
    rw [if_neg h, IntOp.cmpi, beq_false_of_ne h']; simp [Scalar.select]

/-- The channels of one half of a block of values, against the result's gradient. -/
theorem dprob_read {e : Fin 2} {b : ℕ} {v27 : IVec S1x128 32}
    (h27 : ∀ l : Fin 128, v27 (ix2 0 l) = BitVec.ofNat 32 (l.val / 64))
    {A : Vec Ideal S1x512x128 .bf16} {B : Vec Ideal S256x128 .bf16}
    (hA : ∀ r l, A (ix3 0 r l) = part dy e r l) (hB : ∀ n l, B (ix2 n l) = v (ix2 (key b n) l))
    (r : Fin 512) (n : Fin 256) :
    k0_pay6 v27 (k0_pay4 A) (broadcast S1x128 (BitVec.ofNat 32 e.val)) B (ix2 r n) = dprob v dy e r (key b n) := by
  have hp : k0_pay6 v27 (k0_pay4 A) (broadcast S1x128 (BitVec.ofNat 32 e.val)) B (ix2 r n)
      = ∑ l : Fin 128, A (ix3 0 r l) * Scalar.select (IntOp.cmpi .eq (v27 (ix2 0 l)) (BitVec.ofNat 32 e.val))
          (B (ix2 n l)) (((0#32 : BitVec 32).toInt : ℝ) : EReal) := by
    pointwise [k0_pay6, k0_pay4]
  rw [hp]
  unfold dprob
  refine Finset.sum_congr rfl fun l _ => ?_
  rw [hA, hB, h27, channel]

/-- A block's score gradients, from its probabilities and their gradients. -/
theorem dscore_read {e : Fin 2} {b : ℕ} {S D : FVec Ideal S512x256 .f32} {s t : Vec Ideal S1x512x128 .f32}
    (hP : ∀ r n, k0_pay15 S s (ix2 r n) = prob i q k lse e r (key b n))
    (hD : ∀ r n, D (ix2 r n) = dprob v dy e r (key b n))
    (ht : ∀ r l, t (ix3 0 r l) = delta y dy e r) (r : Fin 512) (n : Fin 256) :
    k0_pay14 S D s t (ix2 r n) = dscore i q k v y lse dy e r (key b n) := by
  have hp : k0_pay14 S D s t (ix2 r n) = k0_pay15 S s (ix2 r n) * (D (ix2 r n)
      - if h : n.val < 128 then t (ix3 0 r ⟨n.val, h⟩) else t (ix3 0 r ⟨n.val - 128, by omega⟩)) := by
    pointwise [k0_pay14, k0_pay15]
  rw [hp, hP, hD]
  unfold dscore
  congr 2
  split <;> rw [ht]

/-- One product onto a head's channels of a block of the value gradient. -/
theorem dv_piece {e : Fin 2} {b : ℕ} {P : FVec Ideal S512x256 .bf16} {O : Vec Ideal S1x1x64x256 .f32}
    {D : Vec Ideal S64x512 .bf16}
    (hP : ∀ r n, P (ix2 r n) = prob i q k lse e r (key b n))
    (hD : ∀ (c : Fin 64) r, D (ix2 c r) = dy (ix2 r ⟨64 * e.val + c.val, by omega⟩))
    (c : Fin 64) (n : Fin 256) :
    k0_pay25 P O D (ix4 0 0 c n)
      = O (ix4 0 0 c n) + dvPart i q k lse dy ⟨64 * e.val + c.val, by omega⟩ (key b n) := by
  have hp : k0_pay25 P O D (ix4 0 0 c n) = O (ix4 0 0 c n) + ∑ r : Fin 512, D (ix2 c r) * P (ix2 r n) := by
    pointwise [k0_pay25]
  rw [hp]
  unfold dvPart
  congr 1
  refine Finset.sum_congr rfl fun r _ => ?_
  have : side ⟨64 * e.val + c.val, by omega⟩ = e := Fin.ext (by show (64 * e.val + c.val) / 64 = _; omega)
  rw [hP, hD, this]

theorem half_lane (e : Fin 2) (c : Fin 128) : half (lane e c) = e :=
  Fin.ext (by show (128 * e.val + c.val) / 128 = _; omega)

/-- One product onto a half's lanes of a block of the key gradient. -/
theorem dk_piece {e : Fin 2} {b : ℕ} {DS : FVec Ideal S512x256 .bf16} {O : Vec Ideal S1x1x128x256 .f32}
    {Q : Vec Ideal S128x512 .bf16}
    (hDS : ∀ r n, DS (ix2 r n) = dscore i q k v y lse dy e r (key b n))
    (hQ : ∀ c r, Q (ix2 c r) = q (ix2 r (lane e c)))
    (c : Fin 128) (n : Fin 256) :
    k0_pay32 DS O Q (ix4 0 0 c n) = O (ix4 0 0 c n) + dkPart i q k v y lse dy (lane e c) (key b n) := by
  have hp : k0_pay32 DS O Q (ix4 0 0 c n) = O (ix4 0 0 c n) + ∑ r : Fin 512, Q (ix2 c r) * DS (ix2 r n) := by
    pointwise [k0_pay32]
  rw [hp]
  unfold dkPart
  rw [half_lane]
  congr 1
  exact Finset.sum_congr rfl fun r _ => by rw [hDS, hQ]

/-- Two products onto a half's lanes of the query gradient. -/
theorem dq_piece {e : Fin 2} {b b' : ℕ} {D D' : FVec Ideal S512x256 .bf16} {O : Vec Ideal S512x128 .f32}
    {K K' : Vec Ideal S256x128 .bf16}
    (hD : ∀ r n, D (ix2 r n) = dscore i q k v y lse dy e r (key b n))
    (hD' : ∀ r n, D' (ix2 r n) = dscore i q k v y lse dy e r (key b' n))
    (hK : ∀ n c, K (ix2 n c) = k (ix2 (key b n) (lane e c)))
    (hK' : ∀ n c, K' (ix2 n c) = k (ix2 (key b' n) (lane e c)))
    (r : Fin 512) (c : Fin 128) :
    k0_pay125 D D' O K K' (ix2 r c) = O (ix2 r c) + dqPart i q k v y lse dy r (lane e c) b
      + dqPart i q k v y lse dy r (lane e c) b' := by
  have hp : k0_pay125 D D' O K K' (ix2 r c) = O (ix2 r c) + ∑ n : Fin 256, D (ix2 r n) * K (ix2 n c)
      + ∑ n : Fin 256, D' (ix2 r n) * K' (ix2 n c) := by
    pointwise [k0_pay125]
  rw [hp]
  unfold dqPart
  rw [half_lane]
  congr 1
  · congr 1
    exact Finset.sum_congr rfl fun n _ => by rw [hD, hK]
  · exact Finset.sum_congr rfl fun n _ => by rw [hD', hK']

/-! ## The queries' own blocks -/

/-- The comparison of a key's place with a query's. -/
theorem le_word {a b : ℕ} (ha : a < 1024) (hb : b < 1024) (S z : EReal) :
    Scalar.select (IntOp.cmpi .sle (BitVec.ofNat 32 a) (BitVec.ofNat 32 b)) S z = if a ≤ b then S else z := by
  have hle : (BitVec.ofNat 32 a).sle (BitVec.ofNat 32 b) = decide (a ≤ b) := by
    rw [BitVec.sle_eq_decide]
    have h : ∀ x, x < 1024 → (BitVec.ofNat 32 x).toInt = (x : ℤ) := fun x hx => by
      rw [BitVec.toInt_eq_toNat_of_lt (by rw [BitVec.toNat_ofNat]; omega), BitVec.toNat_ofNat]
      omega
    rw [h a ha, h b hb]
    simp
  rw [IntOp.cmpi, hle]
  by_cases h : a ≤ b <;> simp [h, Scalar.select]

theorem mask_value : Named.named (F := Ideal) κ "mask" (φ := .f32) 0xF149F2CA#32 = (⊥ : EReal) :=
  IdealRules.named_const.ideal_named_scalar _ _ _ _ rfl

/-- The first of the two blocks, against all the queries. -/
theorem prob_own {e : Fin 2} (hi : i < 16) {v28 v29 : IVec S512x256 32}
    (h28 : ∀ (r : Fin 512) (n : Fin 256), v28 (ix2 r n) = BitVec.ofNat 32 r.val)
    (h29 : ∀ (r : Fin 512) (n : Fin 256), v29 (ix2 r n) = BitVec.ofNat 32 n.val)
    {A : Vec Ideal S512x128 .bf16} {B : Vec Ideal S256x128 .bf16} {s : Vec Ideal S1x512x128 .f32}
    (hA : ∀ r c, A (ix2 r c) = q (ix2 r (lane e c)))
    (hB : ∀ n c, B (ix2 n c) = k (ix2 (key (2 * i) n) (lane e c)))
    (hs : ∀ r l, s (ix3 0 r l) = logsum lse e r l.val) (r : Fin 512) (n : Fin 256) :
    k0_pay100 v28 v29 (k0_pay1 A B) s (ix2 r n) = prob i q k lse e r (key (2 * i) n) := by
  have hk : (key (2 * i) n).val = 256 * (2 * i) + n.val := key_val (by omega) n
  have hp : k0_pay100 v28 v29 (k0_pay1 A B) s (ix2 r n)
      = Ideal.exp2 (Scalar.select (IntOp.cmpi .sle (v29 (ix2 r n) + 0#32) (v28 (ix2 r n)))
            (∑ c : Fin 128, A (ix2 r c) * B (ix2 n c)) (Named.named (F := Ideal) κ "mask" (φ := .f32) 0xF149F2CA#32)
          - if h : n.val < 128 then s (ix3 0 r ⟨n.val, h⟩) else s (ix3 0 r ⟨n.val - 128, by omega⟩)) := by
    pointwise [k0_pay100, k0_pay98, k0_pay1]
    rfl
  rw [hp, h28, h29, mask_value, BitVec.add_zero, le_word (by omega) (by omega)]
  unfold prob score
  congr 2
  · rw [hk]
    refine if_congr (by omega) ?_ rfl
    exact Finset.sum_congr rfl fun c _ => by rw [hA, hB]
  · split
    · rw [hs]; exact logsum_mod lse e r (by rw [hk]; simp only []; omega)
    · rw [hs]; exact logsum_mod lse e r (by rw [hk]; simp only []; omega)

/-- One of the later 256 of the 512 queries. -/
def late (r : Fin 256) : Fin 512 := ⟨256 + r.val, by omega⟩

/-- The second of the two blocks, against the later queries. -/
theorem prob_late {e : Fin 2} (hi : i < 16) {v28 v29 : IVec S512x256 32}
    (h28 : ∀ (r : Fin 512) (n : Fin 256), v28 (ix2 r n) = BitVec.ofNat 32 r.val)
    (h29 : ∀ (r : Fin 512) (n : Fin 256), v29 (ix2 r n) = BitVec.ofNat 32 n.val)
    {A : Vec Ideal S256x128 .bf16} {B : Vec Ideal S256x128 .bf16} {s : Vec Ideal S1x256x128 .f32}
    (hA : ∀ r c, A (ix2 r c) = q (ix2 (late r) (lane e c)))
    (hB : ∀ n c, B (ix2 n c) = k (ix2 (key (2 * i + 1) n) (lane e c)))
    (hs : ∀ r l, s (ix3 0 r l) = logsum lse e (late r) l.val) (r : Fin 256) (n : Fin 256) :
    k0_pay107 v28 v29 (k0_pay93 A B) s (ix2 r n) = prob i q k lse e (late r) (key (2 * i + 1) n) := by
  have hk : (key (2 * i + 1) n).val = 256 * (2 * i + 1) + n.val := key_val (by omega) n
  have hp : k0_pay107 v28 v29 (k0_pay93 A B) s (ix2 r n)
      = Ideal.exp2 (Scalar.select (IntOp.cmpi .sle (v29 (ix2 (late r) n) + 256#32) (v28 (ix2 (late r) n)))
            (∑ c : Fin 128, A (ix2 r c) * B (ix2 n c)) (Named.named (F := Ideal) κ "mask" (φ := .f32) 0xF149F2CA#32)
          - if h : n.val < 128 then s (ix3 0 r ⟨n.val, h⟩) else s (ix3 0 r ⟨n.val - 128, by omega⟩)) := by
    pointwise [k0_pay107, k0_pay105, k0_pay93]
    rfl
  have hl : (late r).val = 256 + r.val := rfl
  rw [hp, h28, h29, mask_value,
    show BitVec.ofNat 32 n.val + 256#32 = BitVec.ofNat 32 (n.val + 256) from (BitVec.ofNat_add _ _).symm,
    le_word (by omega) (by omega)]
  unfold prob score
  congr 2
  · rw [hk]
    refine if_congr (by omega) ?_ rfl
    exact Finset.sum_congr rfl fun c _ => by rw [hA, hB]
  · split
    · rw [hs]; exact logsum_mod lse e (late r) (by rw [hk]; simp only []; omega)
    · rw [hs]; exact logsum_mod lse e (late r) (by rw [hk]; simp only []; omega)

/-- The earlier queries give the second block nothing. -/
theorem prob_early {e : Fin 2} {j : Fin 8192} {r : Fin 512} (h : 512 * i + r.val < j.val) :
    prob i q k lse e r j = 0 := by
  unfold prob
  rw [if_neg (by omega), EReal.bot_sub, Ideal.exp2_bot]

theorem dscore_early {e : Fin 2} {j : Fin 8192} {r : Fin 512} (h : 512 * i + r.val < j.val) :
    dscore i q k v y lse dy e r j = 0 := by
  unfold dscore
  rw [prob_early i q k lse h, zero_mul]

/-- A sum over the queries of a function that is zero at the earlier ones. -/
theorem sum_late (f : Fin 512 → EReal) (h : ∀ r : Fin 512, r.val < 256 → f r = 0) :
    ∑ r, f r = ∑ r : Fin 256, f (late r) := by
  rw [Fin.sum_univ_add (a := 256) (b := 256) f]
  rw [Finset.sum_eq_zero (fun r _ => h _ (by simp [Fin.castAdd])), zero_add]
  rfl

theorem dprob_late {e : Fin 2} {b : ℕ} {v27 : IVec S1x128 32}
    (h27 : ∀ l : Fin 128, v27 (ix2 0 l) = BitVec.ofNat 32 (l.val / 64))
    {A : Vec Ideal S1x256x128 .bf16} {B : Vec Ideal S256x128 .bf16}
    (hA : ∀ r l, A (ix3 0 r l) = part dy e (late r) l) (hB : ∀ n l, B (ix2 n l) = v (ix2 (key b n) l))
    (r : Fin 256) (n : Fin 256) :
    k0_pay97 v27 (k0_pay96 A) (BitVec.ofNat 32 e.val) B (ix2 r n) = dprob v dy e (late r) (key b n) := by
  have hp : k0_pay97 v27 (k0_pay96 A) (BitVec.ofNat 32 e.val) B (ix2 r n)
      = ∑ l : Fin 128, A (ix3 0 r l) * Scalar.select (IntOp.cmpi .eq (v27 (ix2 0 l)) (BitVec.ofNat 32 e.val))
          (B (ix2 n l)) (((0#32 : BitVec 32).toInt : ℝ) : EReal) := by
    pointwise [k0_pay97, k0_pay96]
  rw [hp]
  unfold dprob
  refine Finset.sum_congr rfl fun l _ => ?_
  rw [hA, hB, h27, channel]

theorem dscore_own {e : Fin 2} {b : ℕ} {v28 v29 : IVec S512x256 32} {S D : FVec Ideal S512x256 .f32}
    {s t : Vec Ideal S1x512x128 .f32}
    (hP : ∀ r n, k0_pay100 v28 v29 S s (ix2 r n) = prob i q k lse e r (key b n))
    (hD : ∀ r n, D (ix2 r n) = dprob v dy e r (key b n))
    (ht : ∀ r l, t (ix3 0 r l) = delta y dy e r) (r : Fin 512) (n : Fin 256) :
    k0_pay99 v28 v29 S D s t (ix2 r n) = dscore i q k v y lse dy e r (key b n) := by
  have hp : k0_pay99 v28 v29 S D s t (ix2 r n) = k0_pay100 v28 v29 S s (ix2 r n) * (D (ix2 r n)
      - if h : n.val < 128 then t (ix3 0 r ⟨n.val, h⟩) else t (ix3 0 r ⟨n.val - 128, by omega⟩)) := by
    pointwise [k0_pay99, k0_pay100]
  rw [hp, hP, hD]
  unfold dscore
  congr 2
  split <;> rw [ht]

theorem dscore_late {e : Fin 2} {b : ℕ} {v28 v29 : IVec S512x256 32} {S D : FVec Ideal S256x256 .f32}
    {s t : Vec Ideal S1x256x128 .f32}
    (hP : ∀ r n, k0_pay107 v28 v29 S s (ix2 r n) = prob i q k lse e (late r) (key b n))
    (hD : ∀ r n, D (ix2 r n) = dprob v dy e (late r) (key b n))
    (ht : ∀ r l, t (ix3 0 r l) = delta y dy e (late r)) (r : Fin 256) (n : Fin 256) :
    k0_pay106 v28 v29 S D s t (ix2 r n) = dscore i q k v y lse dy e (late r) (key b n) := by
  have hp : k0_pay106 v28 v29 S D s t (ix2 r n) = k0_pay107 v28 v29 S s (ix2 r n) * (D (ix2 r n)
      - if h : n.val < 128 then t (ix3 0 r ⟨n.val, h⟩) else t (ix3 0 r ⟨n.val - 128, by omega⟩)) := by
    pointwise [k0_pay106, k0_pay107]
  rw [hp, hP, hD]
  unfold dscore
  congr 2
  split <;> rw [ht]

theorem dv_late {e : Fin 2} (hi : i < 16) {P : FVec Ideal S256x256 .bf16} {O : Vec Ideal S1x1x64x256 .f32}
    {D : Vec Ideal S64x256 .bf16}
    (hP : ∀ r n, P (ix2 r n) = prob i q k lse e (late r) (key (2 * i + 1) n))
    (hD : ∀ (c : Fin 64) r, D (ix2 c r) = dy (ix2 (late r) ⟨64 * e.val + c.val, by omega⟩))
    (c : Fin 64) (n : Fin 256) :
    k0_pay113 P O D (ix4 0 0 c n)
      = O (ix4 0 0 c n) + dvPart i q k lse dy ⟨64 * e.val + c.val, by omega⟩ (key (2 * i + 1) n) := by
  have hk : (key (2 * i + 1) n).val = 256 * (2 * i + 1) + n.val := key_val (by omega) n
  have hp : k0_pay113 P O D (ix4 0 0 c n) = O (ix4 0 0 c n) + ∑ r : Fin 256, D (ix2 c r) * P (ix2 r n) := by
    pointwise [k0_pay113]
  rw [hp]
  unfold dvPart
  rw [sum_late _ fun r hr => by rw [prob_early i q k lse (by omega), mul_zero]]
  congr 1
  refine Finset.sum_congr rfl fun r _ => ?_
  have : side ⟨64 * e.val + c.val, by omega⟩ = e := Fin.ext (by show (64 * e.val + c.val) / 64 = _; omega)
  rw [hP, hD, this]

theorem dk_late {e : Fin 2} (hi : i < 16) {DS : FVec Ideal S256x256 .bf16} {O : Vec Ideal S1x1x128x256 .f32}
    {Q : Vec Ideal S128x256 .bf16}
    (hDS : ∀ r n, DS (ix2 r n) = dscore i q k v y lse dy e (late r) (key (2 * i + 1) n))
    (hQ : ∀ c r, Q (ix2 c r) = q (ix2 (late r) (lane e c)))
    (c : Fin 128) (n : Fin 256) :
    k0_pay117 DS O Q (ix4 0 0 c n)
      = O (ix4 0 0 c n) + dkPart i q k v y lse dy (lane e c) (key (2 * i + 1) n) := by
  have hk : (key (2 * i + 1) n).val = 256 * (2 * i + 1) + n.val := key_val (by omega) n
  have hp : k0_pay117 DS O Q (ix4 0 0 c n) = O (ix4 0 0 c n) + ∑ r : Fin 256, Q (ix2 c r) * DS (ix2 r n) := by
    pointwise [k0_pay117]
  rw [hp]
  unfold dkPart
  rw [sum_late _ fun r hr => by rw [dscore_early i q k v y lse dy (by omega), mul_zero], half_lane]
  congr 1
  exact Finset.sum_congr rfl fun r _ => by rw [hDS, hQ]

/-- One product onto a half's lanes of the query gradient. -/
theorem dq_own {e : Fin 2} {b : ℕ} {D : FVec Ideal S512x256 .bf16} {O : Vec Ideal S512x128 .f32}
    {K : Vec Ideal S256x128 .bf16}
    (hD : ∀ r n, D (ix2 r n) = dscore i q k v y lse dy e r (key b n))
    (hK : ∀ n c, K (ix2 n c) = k (ix2 (key b n) (lane e c)))
    (r : Fin 512) (c : Fin 128) :
    k0_pay119 D O K (ix2 r c) = O (ix2 r c) + dqPart i q k v y lse dy r (lane e c) b := by
  have hp : k0_pay119 D O K (ix2 r c) = O (ix2 r c) + ∑ n : Fin 256, D (ix2 r n) * K (ix2 n c) := by
    pointwise [k0_pay119]
  rw [hp]
  unfold dqPart
  rw [half_lane]
  congr 1
  exact Finset.sum_congr rfl fun n _ => by rw [hD, hK]

theorem dq_late {e : Fin 2} {b : ℕ} {D : FVec Ideal S256x256 .bf16} {O : Vec Ideal S256x128 .f32}
    {K : Vec Ideal S256x128 .bf16}
    (hD : ∀ r n, D (ix2 r n) = dscore i q k v y lse dy e (late r) (key b n))
    (hK : ∀ n c, K (ix2 n c) = k (ix2 (key b n) (lane e c)))
    (r : Fin 256) (c : Fin 128) :
    k0_pay123 D O K (ix2 r c) = O (ix2 r c) + dqPart i q k v y lse dy (late r) (lane e c) b := by
  have hp : k0_pay123 D O K (ix2 r c) = O (ix2 r c) + ∑ n : Fin 256, D (ix2 r n) * K (ix2 n c) := by
    pointwise [k0_pay123]
  rw [hp]
  unfold dqPart
  rw [half_lane]
  congr 1
  exact Finset.sum_congr rfl fun n _ => by rw [hD, hK]

/-- The earlier queries' gradients get nothing from the second block. -/
theorem dqPart_early (hi : i < 16) {r : Fin 512} (hr : r.val < 256) (l : Fin 256) :
    dqPart i q k v y lse dy r l (2 * i + 1) = 0 :=
  Finset.sum_eq_zero fun n _ => by
    have hk : (key (2 * i + 1) n).val = 256 * (2 * i + 1) + n.val := key_val (by omega) n
    rw [dscore_early i q k v y lse dy (by omega), zero_mul]

end

end Cert.KernelIdeal.Reads

end
-- ==== Proof.Loads.lean ====
/- What the body's loads read of the blocks and the scratch, and what its stores leave of the three gradients, by the
   place of the rectangle. -/
module

public import proofs.«01_k».proof.Proof.Reads
public import Idealize.ShloMosaic.Lib.WritesUnit

@[expose] public section

set_option maxRecDepth 16384

noncomputable section

namespace Cert.KernelIdeal.Loads

open Idealize.ShloMosaic Cert.KernelIdeal.Gen Cert.KernelIdeal.Spec Cert.KernelIdeal.Reads

/-- A load at a rectangle of unit strides, at one index. -/
theorem at_unit {sp : Space} {s : Shape} {e : EltTy} {w : View sig .tc sp s e} {f : w.ty.Contents (Elt Ideal)}
    {X : Vec Ideal s e} (hf : w.read (Elt Ideal) f = X) {off off' size : Fin s.rank → ℕ}
    {inb : ∀ a, off a + size a ≤ s.size a} (heq : off = off') (x : (Rect.unit off size inb).shape.Idx) (y : s.Idx)
    (h : ∀ a, (y a).val = off' a + (x a).val) : w.readAt (Elt Ideal) (Rect.unit off size inb).toLoadRect f x = X y := by
  subst heq hf
  rw [View.readAt_apply]
  congr 1
  refine funext fun a => Fin.ext ?_
  rw [h a]
  exact congrArg (off a + ·) (Nat.one_mul _)

variable {i : ℕ} {q : Vec Ideal S512x256 .bf16} {k : Vec Ideal S8192x256 .bf16} {v : Vec Ideal S8192x128 .bf16}
  {y lse dy : Vec Ideal S512x128 .f32}

/-! ## Loads -/

theorem q_at {w : View sig .tc .vmem S512x256 .bf16} {f : w.ty.Contents (Elt Ideal)} (hf : w.read (Elt Ideal) f = q)
    {off : Fin 2 → ℕ} {inb : ∀ a, off a + S512x128.size a ≤ S512x256.size a} (e : Fin 2) (heq : off = ![0, 128 * e.val])
    (r : Fin 512) (c : Fin 128) :
    w.readAt (Elt Ideal) (Rect.unit (s := S512x256) off S512x128.size inb).toLoadRect f (ix2 r c) = q (ix2 r (lane e c)) :=
  at_unit hf heq _ _ (Fin.forall_fin_two.2 ⟨(Nat.zero_add _).symm, rfl⟩)

theorem dq_at {w : View sig .tc .vmem S512x256 .f32} {f : w.ty.Contents (Elt Ideal)} {X : Vec Ideal S512x256 .f32}
    (hf : w.read (Elt Ideal) f = X) {off : Fin 2 → ℕ} {inb : ∀ a, off a + S512x128.size a ≤ S512x256.size a} (e : Fin 2)
    (heq : off = ![0, 128 * e.val]) (r : Fin 512) (c : Fin 128) :
    w.readAt (Elt Ideal) (Rect.unit (s := S512x256) off S512x128.size inb).toLoadRect f (ix2 r c) = X (ix2 r (lane e c)) :=
  at_unit hf heq _ _ (Fin.forall_fin_two.2 ⟨(Nat.zero_add _).symm, rfl⟩)

theorem q_late {w : View sig .tc .vmem S512x256 .bf16} {f : w.ty.Contents (Elt Ideal)} (hf : w.read (Elt Ideal) f = q)
    {off : Fin 2 → ℕ} {inb : ∀ a, off a + S256x128.size a ≤ S512x256.size a} (e : Fin 2)
    (heq : off = ![256, 128 * e.val]) (r : Fin 256) (c : Fin 128) :
    w.readAt (Elt Ideal) (Rect.unit (s := S512x256) off S256x128.size inb).toLoadRect f (ix2 r c)
      = q (ix2 (late r) (lane e c)) :=
  at_unit hf heq _ _ (Fin.forall_fin_two.2 ⟨rfl, rfl⟩)

theorem k_at {w : View sig .tc .vmem S8192x256 .bf16} {f : w.ty.Contents (Elt Ideal)} (hf : w.read (Elt Ideal) f = k)
    {off : Fin 2 → ℕ} {inb : ∀ a, off a + S256x128.size a ≤ S8192x256.size a} (e : Fin 2) {b : ℕ} (hb : b < 32)
    (heq : off = ![256 * b, 128 * e.val]) (n : Fin 256) (c : Fin 128) :
    w.readAt (Elt Ideal) (Rect.unit (s := S8192x256) off S256x128.size inb).toLoadRect f (ix2 n c)
      = k (ix2 (key b n) (lane e c)) :=
  at_unit hf heq _ _ (Fin.forall_fin_two.2 ⟨key_val hb n, rfl⟩)

theorem v_at {w : View sig .tc .vmem S8192x128 .bf16} {f : w.ty.Contents (Elt Ideal)} (hf : w.read (Elt Ideal) f = v)
    {off : Fin 2 → ℕ} {inb : ∀ a, off a + S256x128.size a ≤ S8192x128.size a} {b : ℕ} (hb : b < 32)
    (heq : off = ![256 * b, 0]) (n : Fin 256) (l : Fin 128) :
    w.readAt (Elt Ideal) (Rect.unit (s := S8192x128) off S256x128.size inb).toLoadRect f (ix2 n l)
      = v (ix2 (key b n) l) :=
  at_unit hf heq _ _ (Fin.forall_fin_two.2 ⟨key_val hb n, (Nat.zero_add _).symm⟩)

theorem three {p : Fin 3 → Prop} (h0 : p 0) (h1 : p 1) (h2 : p 2) : ∀ a, p a := fun a => by
  fin_cases a <;> assumption

theorem four {p : Fin 4 → Prop} (h0 : p 0) (h1 : p 1) (h2 : p 2) (h3 : p 3) : ∀ a, p a := fun a => by
  fin_cases a <;> assumption

theorem dob_at {w : View sig .tc .vmem S2x512x128 .bf16} {f : w.ty.Contents (Elt Ideal)}
    (hf : w.read (Elt Ideal) f = dob dy) {off : Fin 3 → ℕ} {inb : ∀ a, off a + S1x512x128.size a ≤ S2x512x128.size a}
    (e : Fin 2) (heq : off = ![e.val, 0, 0]) (r : Fin 512) (l : Fin 128) :
    w.readAt (Elt Ideal) (Rect.unit (s := S2x512x128) off S1x512x128.size inb).toLoadRect f (ix3 0 r l) = part dy e r l :=
  at_unit hf heq _ (ix3 e r l) (three rfl (Nat.zero_add _).symm (Nat.zero_add _).symm)

theorem dob_late {w : View sig .tc .vmem S2x512x128 .bf16} {f : w.ty.Contents (Elt Ideal)}
    (hf : w.read (Elt Ideal) f = dob dy) {off : Fin 3 → ℕ} {inb : ∀ a, off a + S1x256x128.size a ≤ S2x512x128.size a}
    (e : Fin 2) (heq : off = ![e.val, 256, 0]) (r : Fin 256) (l : Fin 128) :
    w.readAt (Elt Ideal) (Rect.unit (s := S2x512x128) off S1x256x128.size inb).toLoadRect f (ix3 0 r l)
      = part dy e (late r) l :=
  at_unit hf heq _ (ix3 e (late r) l) (three rfl rfl (Nat.zero_add _).symm)

/-- The row of the rows' scratch that holds a half's logarithms, or its inner products. -/
def rowOf (e : Fin 2) (o : ℕ) (ho : o < 2) : Fin 4 := ⟨2 * e.val + o, by omega⟩

theorem rows_even (e : Fin 2) (r : Fin 512) (l : Fin 128) :
    rows y lse dy (ix3 (rowOf e 0 (by omega)) r l) = logsum lse e r l.val := by
  have h : (2 * e.val + 0) % 2 = 0 := by omega
  have h' : ∀ hh, (⟨(2 * e.val + 0) / 2, hh⟩ : Fin 2) = e := fun _ => Fin.ext (by show (2 * e.val + 0) / 2 = _; omega)
  unfold rows
  refine (if_pos h).trans ?_
  exact congrArg (fun e' => logsum lse e' r l.val) (h' _)

theorem rows_odd (e : Fin 2) (r : Fin 512) (l : Fin 128) :
    rows y lse dy (ix3 (rowOf e 1 (by omega)) r l) = delta y dy e r := by
  have h : ¬ (2 * e.val + 1) % 2 = 0 := by omega
  have h' : ∀ hh, (⟨(2 * e.val + 1) / 2, hh⟩ : Fin 2) = e := fun _ => Fin.ext (by show (2 * e.val + 1) / 2 = _; omega)
  unfold rows
  refine (if_neg h).trans ?_
  exact congrArg (fun e' => delta y dy e' r) (h' _)

theorem log_at {w : View sig .tc .vmem S4x512x128 .f32} {f : w.ty.Contents (Elt Ideal)}
    (hf : w.read (Elt Ideal) f = rows y lse dy) {off : Fin 3 → ℕ}
    {inb : ∀ a, off a + S1x512x128.size a ≤ S4x512x128.size a}
    (e : Fin 2) (heq : off = ![2 * e.val, 0, 0]) (r : Fin 512) (l : Fin 128) :
    w.readAt (Elt Ideal) (Rect.unit (s := S4x512x128) off S1x512x128.size inb).toLoadRect f (ix3 0 r l)
      = logsum lse e r l.val := by
    rw [← rows_even (y := y) (dy := dy) e r l]
    exact at_unit hf heq _ (ix3 (rowOf e 0 (by omega)) r l) (three rfl (Nat.zero_add _).symm (Nat.zero_add _).symm)

theorem delta_at {w : View sig .tc .vmem S4x512x128 .f32} {f : w.ty.Contents (Elt Ideal)}
    (hf : w.read (Elt Ideal) f = rows y lse dy) {off : Fin 3 → ℕ}
    {inb : ∀ a, off a + S1x512x128.size a ≤ S4x512x128.size a}
    (e : Fin 2) (heq : off = ![2 * e.val + 1, 0, 0]) (r : Fin 512) (l : Fin 128) :
    w.readAt (Elt Ideal) (Rect.unit (s := S4x512x128) off S1x512x128.size inb).toLoadRect f (ix3 0 r l)
      = delta y dy e r := by
    rw [← rows_odd (lse := lse) (y := y) (dy := dy) e r l]
    exact at_unit hf heq _ (ix3 (rowOf e 1 (by omega)) r l) (three rfl (Nat.zero_add _).symm (Nat.zero_add _).symm)

theorem log_late {w : View sig .tc .vmem S4x512x128 .f32} {f : w.ty.Contents (Elt Ideal)}
    (hf : w.read (Elt Ideal) f = rows y lse dy) {off : Fin 3 → ℕ}
    {inb : ∀ a, off a + S1x256x128.size a ≤ S4x512x128.size a}
    (e : Fin 2) (heq : off = ![2 * e.val, 256, 0]) (r : Fin 256) (l : Fin 128) :
    w.readAt (Elt Ideal) (Rect.unit (s := S4x512x128) off S1x256x128.size inb).toLoadRect f (ix3 0 r l)
      = logsum lse e (late r) l.val := by
    rw [← rows_even (y := y) (dy := dy) e (late r) l]
    exact at_unit hf heq _ (ix3 (rowOf e 0 (by omega)) (late r) l) (three rfl rfl (Nat.zero_add _).symm)

theorem delta_late {w : View sig .tc .vmem S4x512x128 .f32} {f : w.ty.Contents (Elt Ideal)}
    (hf : w.read (Elt Ideal) f = rows y lse dy) {off : Fin 3 → ℕ}
    {inb : ∀ a, off a + S1x256x128.size a ≤ S4x512x128.size a}
    (e : Fin 2) (heq : off = ![2 * e.val + 1, 256, 0]) (r : Fin 256) (l : Fin 128) :
    w.readAt (Elt Ideal) (Rect.unit (s := S4x512x128) off S1x256x128.size inb).toLoadRect f (ix3 0 r l)
      = delta y dy e (late r) := by
    rw [← rows_odd (lse := lse) (y := y) (dy := dy) e (late r) l]
    exact at_unit hf heq _ (ix3 (rowOf e 1 (by omega)) (late r) l) (three rfl rfl (Nat.zero_add _).symm)

theorem qt_at {w : View sig .tc .vmem S256x512 .bf16} {f : w.ty.Contents (Elt Ideal)} (hf : w.read (Elt Ideal) f = qt q)
    {off : Fin 2 → ℕ} {inb : ∀ a, off a + S128x512.size a ≤ S256x512.size a} (e : Fin 2) (heq : off = ![128 * e.val, 0])
    (c : Fin 128) (r : Fin 512) :
    w.readAt (Elt Ideal) (Rect.unit (s := S256x512) off S128x512.size inb).toLoadRect f (ix2 c r) = q (ix2 r (lane e c)) :=
  at_unit hf heq _ (ix2 (lane e c) r) (Fin.forall_fin_two.2 ⟨rfl, (Nat.zero_add _).symm⟩)

theorem qt_late {w : View sig .tc .vmem S256x512 .bf16} {f : w.ty.Contents (Elt Ideal)} (hf : w.read (Elt Ideal) f = qt q)
    {off : Fin 2 → ℕ} {inb : ∀ a, off a + S128x256.size a ≤ S256x512.size a} (e : Fin 2)
    (heq : off = ![128 * e.val, 256]) (c : Fin 128) (r : Fin 256) :
    w.readAt (Elt Ideal) (Rect.unit (s := S256x512) off S128x256.size inb).toLoadRect f (ix2 c r)
      = q (ix2 (late r) (lane e c)) :=
  at_unit hf heq _ (ix2 (lane e c) (late r)) (Fin.forall_fin_two.2 ⟨rfl, rfl⟩)

theorem dot_at {w : View sig .tc .vmem S128x512 .bf16} {f : w.ty.Contents (Elt Ideal)}
    (hf : w.read (Elt Ideal) f = Spec.dot dy) {off : Fin 2 → ℕ} {inb : ∀ a, off a + S64x512.size a ≤ S128x512.size a}
    (e : Fin 2) (heq : off = ![64 * e.val, 0]) (c : Fin 64) (r : Fin 512) :
    w.readAt (Elt Ideal) (Rect.unit (s := S128x512) off S64x512.size inb).toLoadRect f (ix2 c r)
      = dy (ix2 r ⟨64 * e.val + c.val, by omega⟩) :=
  at_unit hf heq _ (ix2 ⟨64 * e.val + c.val, by omega⟩ r) (Fin.forall_fin_two.2 ⟨rfl, (Nat.zero_add _).symm⟩)

theorem dot_late {w : View sig .tc .vmem S128x512 .bf16} {f : w.ty.Contents (Elt Ideal)}
    (hf : w.read (Elt Ideal) f = Spec.dot dy) {off : Fin 2 → ℕ} {inb : ∀ a, off a + S64x256.size a ≤ S128x512.size a}
    (e : Fin 2) (heq : off = ![64 * e.val, 256]) (c : Fin 64) (r : Fin 256) :
    w.readAt (Elt Ideal) (Rect.unit (s := S128x512) off S64x256.size inb).toLoadRect f (ix2 c r)
      = dy (ix2 (late r) ⟨64 * e.val + c.val, by omega⟩) :=
  at_unit hf heq _ (ix2 ⟨64 * e.val + c.val, by omega⟩ (late r)) (Fin.forall_fin_two.2 ⟨rfl, rfl⟩)

theorem eta4 {n0 n1 n2 n3 : ℕ} (x : (a : Fin 4) → Fin ((![n0, n1, n2, n3] : Fin 4 → ℕ) a)) :
    ∃ a b c d, x = ix4 (n0 := n0) (n1 := n1) (n2 := n2) (n3 := n3) a b c d :=
  ⟨x 0, x 1, x 2, x 3, funext (four rfl rfl rfl rfl)⟩

theorem eta2 {n0 n1 : ℕ} (x : (a : Fin 2) → Fin ((![n0, n1] : Fin 2 → ℕ) a)) :
    ∃ a b, x = ix2 (n0 := n0) (n1 := n1) a b :=
  ⟨x 0, x 1, funext (Fin.forall_fin_two.2 ⟨rfl, rfl⟩)⟩

/-! ## Stores -/

/-- One product stored onto a head's channels of block `b` of the value gradient. -/
theorem dv_store {w : View sig .tc .vmem S1x32x128x256 .f32} {f : w.ty.Contents (Elt Ideal)}
    {X : Vec Ideal S1x32x128x256 .f32} (hf : w.read (Elt Ideal) f = X) (e : Fin 2) {b : ℕ}
    {off off' : Fin 4 → ℕ} {inb : ∀ a, off a + S1x1x64x256.size a ≤ S1x32x128x256.size a}
    {inb' : ∀ a, off' a + S1x1x64x256.size a ≤ S1x32x128x256.size a}
    (heq : off = ![0, b, 64 * e.val, 0]) (heq' : off' = ![0, b, 64 * e.val, 0])
    {p : Vec Ideal S1x1x64x256 .f32}
    (hp : ∀ c n, p (ix4 0 0 c n) = w.readAt (Elt Ideal) (Rect.unit (s := S1x32x128x256) off S1x1x64x256.size inb).toLoadRect f (ix4 0 0 c n)
        + dvPart i q k lse dy ⟨64 * e.val + c.val, by omega⟩ (key b n))
    {L : List (View.Piece (Elt Ideal) S1x32x128x256 .f32)} (a : Fin 1) (j : Fin 32) (l : Fin 128) (n : Fin 256) :
    w.read (Elt Ideal) (w.writes (Elt Ideal) f ((⟨Rect.unit (s := S1x32x128x256) off' S1x1x64x256.size inb', p⟩ : View.Piece (Elt Ideal) S1x32x128x256 .f32) :: L)) (ix4 a j l n)
      = if j.val = b ∧ side l = e then X (ix4 a j l n) + dvPart i q k lse dy l (key j.val n)
        else w.read (Elt Ideal) (w.writes (Elt Ideal) f L) (ix4 a j l n) := by
  split
  · rename_i h
    have hs : l.val / 64 = e.val := congrArg Fin.val h.2
    refine (View.read_writes_cons_unit_of_mem w f inb' p L (ix4 a j l n) (ix4 0 0 ⟨l.val - 64 * e.val, by omega⟩ n) heq'
      (four (by show a.val = 0 + 0; omega) (by show j.val = b + 0; omega)
        (by show l.val = 64 * e.val + (l.val - 64 * e.val); omega)
        (by show n.val = 0 + n.val; omega))).trans ?_
    rw [hp]
    have hx : (⟨64 * e.val + (l.val - 64 * e.val), by omega⟩ : Fin 128) = l := Fin.ext (by show 64 * e.val + (l.val - 64 * e.val) = l.val; omega)
    have hl := at_unit hf (inb := inb) heq (ix4 0 0 ⟨l.val - 64 * e.val, by omega⟩ n) (ix4 a j l n)
      (four (by show a.val = 0 + 0; omega) (by show j.val = b + 0; omega)
        (by show l.val = 64 * e.val + (l.val - 64 * e.val); omega)
        (by show n.val = 0 + n.val; omega))
    rw [hl, h.1]
    exact congrArg (fun z => X (ix4 a j l n) + dvPart i q k lse dy z (key b n)) hx
  · rename_i h
    by_cases hb : j.val = b
    · have hs : l.val / 64 ≠ e.val := fun hh => h ⟨hb, Fin.ext hh⟩
      refine View.read_writes_cons_unit_of_not_mem w f inb' p L (ix4 a j l n) heq' 2 ?_
      show l.val < 64 * e.val ∨ 64 * e.val + 64 ≤ l.val
      omega
    · refine View.read_writes_cons_unit_of_not_mem w f inb' p L (ix4 a j l n) heq' 1 ?_
      show j.val < b ∨ b + 1 ≤ j.val
      omega

/-- One product stored onto a half's lanes of block `b` of the key gradient. -/
theorem dk_store {w : View sig .tc .vmem S1x32x256x256 .f32} {f : w.ty.Contents (Elt Ideal)}
    {X : Vec Ideal S1x32x256x256 .f32} (hf : w.read (Elt Ideal) f = X) (e : Fin 2) {b : ℕ}
    {off off' : Fin 4 → ℕ} {inb : ∀ a, off a + S1x1x128x256.size a ≤ S1x32x256x256.size a}
    {inb' : ∀ a, off' a + S1x1x128x256.size a ≤ S1x32x256x256.size a}
    (heq : off = ![0, b, 128 * e.val, 0]) (heq' : off' = ![0, b, 128 * e.val, 0])
    {p : Vec Ideal S1x1x128x256 .f32}
    (hp : ∀ c n, p (ix4 0 0 c n) = w.readAt (Elt Ideal) (Rect.unit (s := S1x32x256x256) off S1x1x128x256.size inb).toLoadRect f (ix4 0 0 c n)
        + dkPart i q k v y lse dy (lane e c) (key b n))
    {L : List (View.Piece (Elt Ideal) S1x32x256x256 .f32)} (a : Fin 1) (j : Fin 32) (l : Fin 256) (n : Fin 256) :
    w.read (Elt Ideal) (w.writes (Elt Ideal) f ((⟨Rect.unit (s := S1x32x256x256) off' S1x1x128x256.size inb', p⟩ : View.Piece (Elt Ideal) S1x32x256x256 .f32) :: L)) (ix4 a j l n)
      = if j.val = b ∧ half l = e then X (ix4 a j l n) + dkPart i q k v y lse dy l (key j.val n)
        else w.read (Elt Ideal) (w.writes (Elt Ideal) f L) (ix4 a j l n) := by
  split
  · rename_i h
    have hs : l.val / 128 = e.val := congrArg Fin.val h.2
    refine (View.read_writes_cons_unit_of_mem w f inb' p L (ix4 a j l n) (ix4 0 0 ⟨l.val - 128 * e.val, by omega⟩ n) heq'
      (four (by show a.val = 0 + 0; omega) (by show j.val = b + 0; omega)
        (by show l.val = 128 * e.val + (l.val - 128 * e.val); omega)
        (by show n.val = 0 + n.val; omega))).trans ?_
    rw [hp]
    have hx : lane e ⟨l.val - 128 * e.val, by omega⟩ = l :=
      Fin.ext (by show 128 * e.val + (l.val - 128 * e.val) = l.val; omega)
    have hl := at_unit hf (inb := inb) heq (ix4 0 0 ⟨l.val - 128 * e.val, by omega⟩ n) (ix4 a j l n)
      (four (by show a.val = 0 + 0; omega) (by show j.val = b + 0; omega)
        (by show l.val = 128 * e.val + (l.val - 128 * e.val); omega)
        (by show n.val = 0 + n.val; omega))
    rw [hl, h.1, hx]
  · rename_i h
    by_cases hb : j.val = b
    · have hs : l.val / 128 ≠ e.val := fun hh => h ⟨hb, Fin.ext hh⟩
      refine View.read_writes_cons_unit_of_not_mem w f inb' p L (ix4 a j l n) heq' 2 ?_
      show l.val < 128 * e.val ∨ 128 * e.val + 128 ≤ l.val
      omega
    · refine View.read_writes_cons_unit_of_not_mem w f inb' p L (ix4 a j l n) heq' 1 ?_
      show j.val < b ∨ b + 1 ≤ j.val
      omega

/-- All the queries' rows of a half's lanes of the query gradient, stored. -/
theorem dq_store {w : View sig .tc .vmem S512x256 .f32} {f : w.ty.Contents (Elt Ideal)}
    (e : Fin 2) {off : Fin 2 → ℕ} {inb : ∀ a, off a + S512x128.size a ≤ S512x256.size a}
    (heq : off = ![0, 128 * e.val]) {p : Vec Ideal S512x128 .f32} (G : Fin 512 → Fin 256 → EReal)
    (hp : ∀ r c, p (ix2 r c) = G r (lane e c))
    {L : List (View.Piece (Elt Ideal) S512x256 .f32)} (r : Fin 512) (l : Fin 256) :
    w.read (Elt Ideal) (w.writes (Elt Ideal) f ((⟨Rect.unit (s := S512x256) off S512x128.size inb, p⟩ : View.Piece (Elt Ideal) S512x256 .f32) :: L)) (ix2 r l)
      = if half l = e then G r l else w.read (Elt Ideal) (w.writes (Elt Ideal) f L) (ix2 r l) := by
  split
  · rename_i h
    have hs : l.val / 128 = e.val := congrArg Fin.val h
    refine (View.read_writes_cons_unit_of_mem w f inb p L (ix2 r l) (ix2 r ⟨l.val - 128 * e.val, by omega⟩) heq
      (Fin.forall_fin_two.2 ⟨by show r.val = 0 + r.val; omega,
        by show l.val = 128 * e.val + (l.val - 128 * e.val); omega⟩)).trans ?_
    have hx : lane e ⟨l.val - 128 * e.val, by omega⟩ = l :=
      Fin.ext (by show 128 * e.val + (l.val - 128 * e.val) = l.val; omega)
    rw [hp, hx]
  · rename_i h
    have hs : l.val / 128 ≠ e.val := fun hh => h (Fin.ext hh)
    refine View.read_writes_cons_unit_of_not_mem w f inb p L (ix2 r l) heq 1 ?_
    show l.val < 128 * e.val ∨ 128 * e.val + 128 ≤ l.val
    omega

/-- The later queries' rows of a half's lanes, stored. -/
theorem dq_store_late {w : View sig .tc .vmem S512x256 .f32} {f : w.ty.Contents (Elt Ideal)}
    (e : Fin 2) {off : Fin 2 → ℕ} {inb : ∀ a, off a + S256x128.size a ≤ S512x256.size a}
    (heq : off = ![256, 128 * e.val]) {p : Vec Ideal S256x128 .f32} (G : Fin 512 → Fin 256 → EReal)
    (hp : ∀ r c, p (ix2 r c) = G (late r) (lane e c))
    {L : List (View.Piece (Elt Ideal) S512x256 .f32)} (r : Fin 512) (l : Fin 256) :
    w.read (Elt Ideal) (w.writes (Elt Ideal) f ((⟨Rect.unit (s := S512x256) off S256x128.size inb, p⟩ : View.Piece (Elt Ideal) S512x256 .f32) :: L)) (ix2 r l)
      = if 256 ≤ r.val ∧ half l = e then G r l else w.read (Elt Ideal) (w.writes (Elt Ideal) f L) (ix2 r l) := by
  split
  · rename_i h
    have hs : l.val / 128 = e.val := congrArg Fin.val h.2
    refine (View.read_writes_cons_unit_of_mem w f inb p L (ix2 r l)
      (ix2 ⟨r.val - 256, by omega⟩ ⟨l.val - 128 * e.val, by omega⟩) heq
      (Fin.forall_fin_two.2 ⟨by show r.val = 256 + (r.val - 256); omega,
        by show l.val = 128 * e.val + (l.val - 128 * e.val); omega⟩)).trans ?_
    have hx : lane e ⟨l.val - 128 * e.val, by omega⟩ = l :=
      Fin.ext (by show 128 * e.val + (l.val - 128 * e.val) = l.val; omega)
    have hr : late ⟨r.val - 256, by omega⟩ = r :=
      Fin.ext (by show 256 + (r.val - 256) = r.val; omega)
    rw [hp, hx, hr]
  · rename_i h
    by_cases hb : 256 ≤ r.val
    · have hs : l.val / 128 ≠ e.val := fun hh => h ⟨hb, Fin.ext hh⟩
      refine View.read_writes_cons_unit_of_not_mem w f inb p L (ix2 r l) heq 1 ?_
      show l.val < 128 * e.val ∨ 128 * e.val + 128 ≤ l.val
      omega
    · refine View.read_writes_cons_unit_of_not_mem w f inb p L (ix2 r l) heq 0 ?_
      show r.val < 256 ∨ 256 + 256 ≤ r.val
      omega

/-- Two blocks' contributions, a half at a time, make the sum over the blocks two longer. -/
theorem two_blocks (X D : EReal) (j t : ℕ) (s : Fin 2) :
    (if j = 2 * t + 1 ∧ s = 1 then (X + if j < 2 * t then D else 0) + D
      else if j = 2 * t + 1 ∧ s = 0 then (X + if j < 2 * t then D else 0) + D
      else if j = 2 * t + 0 ∧ s = 1 then (X + if j < 2 * t then D else 0) + D
      else if j = 2 * t + 0 ∧ s = 0 then (X + if j < 2 * t then D else 0) + D
      else X + if j < 2 * t then D else 0) = X + if j < 2 * (t + 1) then D else 0 := by
  have hs : s = 0 ∨ s = 1 := by omega
  by_cases h : j = 2 * t ∨ j = 2 * t + 1
  · rw [if_neg (show ¬ j < 2 * t by omega), add_zero, if_pos (show j < 2 * (t + 1) by omega)]
    rcases h with rfl | rfl <;> rcases hs with rfl | rfl <;> simp
  · rw [if_neg (by omega), if_neg (by omega), if_neg (by omega), if_neg (by omega)]
    by_cases h' : j < 2 * t
    · rw [if_pos h', if_pos (by omega)]
    · rw [if_neg h', if_neg (by omega)]

end Cert.KernelIdeal.Loads

end
-- ==== Proof.Trip.lean ====
/- One trip of the loop over the key blocks before the queries' own: it adds two blocks to each of the three gradients. -/
module

public import proofs.«01_k».proof.Proof.Loads
public import Idealize.ShloMosaic.Lib.Exec
public import Idealize.ShloMosaic.Lib.Tactic
public import Idealize.ShloMosaic.Lib.Pipeline.Kit
public import Idealize.ShloMosaic.Lib.WritesUnit

@[expose] public section

set_option maxRecDepth 16384

noncomputable section

namespace Cert.KernelIdeal.Gen

open Cert.KernelIdeal.Spec Cert.KernelIdeal.Reads Cert.KernelIdeal.Loads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Trip

variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S1x32x256x256 .f32) (harg9 : arg9.IsWhole)
  (arg10 : Memref sig .tc .vmem S1x32x128x256 .f32) (harg10 : arg10.IsWhole)
  (arg11 : Memref sig .tc .vmem S2x512x128 .bf16) (harg11 : arg11.IsWhole)
  (arg12 : Memref sig .tc .vmem S4x512x128 .f32) (harg12 : arg12.IsWhole)
  (arg13 : Memref sig .tc .vmem S256x512 .bf16) (harg13 : arg13.IsWhole)
  (arg14 : Memref sig .tc .vmem S128x512 .bf16) (harg14 : arg14.IsWhole)
  (q : Vec Ideal S512x256 .bf16) (kk : Vec Ideal S8192x256 .bf16) (v : Vec Ideal S8192x128 .bf16)
  (y lse dy : Vec Ideal S512x128 .f32)
  (X8 : Vec Ideal S512x256 .f32) (X9 : Vec Ideal S1x32x256x256 .f32) (X10 : Vec Ideal S1x32x128x256 .f32)

/-- What the loop holds before its trip `n`: the inputs and the scratch, and the three gradients with the blocks below
    `2 n` added. -/
def held (n : ℕ) : sProp 𝕄 := iprop(owns (c : Thread nD τ) arg2 fullShare q ∗ owns (c : Thread nD τ) arg3 fullShare kk ∗ owns (c : Thread nD τ) arg4 fullShare v ∗ owns (c : Thread nD τ) arg11 fullShare (dob dy) ∗ owns (c : Thread nD τ) arg12 fullShare (rows y lse dy) ∗ owns (c : Thread nD τ) arg13 fullShare (qt q) ∗ owns (c : Thread nD τ) arg14 fullShare (Spec.dot dy) ∗ owns (c : Thread nD τ) arg8 fullShare (dqAcc (i 1).val q kk v y lse dy (2 * n) X8) ∗ owns (c : Thread nD τ) arg9 fullShare (dkAcc (i 1).val q kk v y lse dy (2 * n) X9) ∗ owns (c : Thread nD τ) arg10 fullShare (dvAcc (i 1).val q kk lse dy (2 * n) X10))

theorem trips_eq : ∀ i : grid0.Coords, (k0_t1_loop i).trips = (i 1).val := by decide +kernel

theorem vec2 {a a' b b' : ℕ} (ha : a = a') (hb : b = b') : ![a, b] = ![a', b'] := by rw [ha, hb]

theorem vec4 {a a' b b' : ℕ} (ha : a = a') (hb : b = b') : ![0, a, b, 0] = ![0, a', b', 0] := by rw [ha, hb]

set_option maxHeartbeats 4000000 in
theorem trip (arg1 : BitVec 32) (v27 : IVec S1x128 32) (v115 : BitVec 32) (v117 : BitVec 32) (v226 : FVec Ideal S512x256 .bf16) (v245 : FVec Ideal S256x256 .bf16) (v264 : FVec Ideal S256x256 .bf16) (v355 : FVec Ideal S256x128 .f32) (v357 : Vec Ideal S256x128 .bf16)
    (h27 : ∀ l : Fin 128, v27 (ix2 0 l) = BitVec.ofNat 32 (l.val / 64))
    (k : Fin (k0_t1_loop i).trips) (E : Set ℕ) :
    held c i arg2 arg3 arg4 arg8 arg9 arg10 arg11 arg12 arg13 arg14 q kk v y lse dy X8 X9 X10 k.val
      ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 arg11 harg11 arg12 harg12 arg13 harg13 arg14 harg14 arg1 v27 v115 v117 v226 v245 v264 v355 v357 k PUnit.unit)
          (fun _ => held c i arg2 arg3 arg4 arg8 arg9 arg10 arg11 arg12 arg13 arg14 q kk v y lse dy X8 X9 X10 (k.val + 1)) := by
  have hi : (i 1).val < 16 := (i 1).isLt
  have hk : k.val < (i 1).val := trips_eq i ▸ k.isLt
  unfold held k0_t1_body
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f11, %hf11, H11⟩, ⟨%f12, %hf12, H12⟩, ⟨%f13, %hf13, H13⟩, ⟨%f14, %hf14, H14⟩, ⟨%f8, %hf8, H8⟩, ⟨%f9, %hf9, H9⟩, ⟨%f10, %hf10, H10⟩⟩
  sl_exec
  sl_step
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H8]
  · iexists _; isplitr; swap; · iexact H8
    ipureintro
    refine funext fun x => ?_
    obtain ⟨r, l, rfl⟩ := eta2 x
    refine (dq_store 1 rfl ((fun r l => dqAcc (i 1).val q kk v y lse dy (2 * k.val) X8 (ix2 r l) + dqPart (i 1).val q kk v y lse dy r l (2 * k.val + 0) + dqPart (i 1).val q kk v y lse dy r l (2 * k.val + 1))) (fun r c => (dq_piece (i 1).val q kk v y lse dy (dscore_read (i 1).val q kk v y lse dy (b := (2 * k.val + 0)) (e := 1) (prob_read (i 1).val q kk lse (b := (2 * k.val + 0)) (e := 1) (by omega) hi (q_at hf2 1 rfl) (k_at hf3 1 (b := (2 * k.val + 0)) (by omega) ((k0_off10_eq i k 0).trans (vec2 (by show 512 * k.val + 256 * 0 = 256 * (2 * k.val + 0); omega) rfl))) (log_at hf12 1 rfl)) (dprob_read v dy h27 (dob_at hf11 1 rfl) (v_at hf4 (b := (2 * k.val + 0)) (by omega) ((k0_off9_eq i k 0).trans (vec2 (by show 512 * k.val + 256 * 0 = 256 * (2 * k.val + 0); omega) rfl)))) (delta_at hf12 1 rfl)) (dscore_read (i 1).val q kk v y lse dy (b := (2 * k.val + 1)) (e := 1) (prob_read (i 1).val q kk lse (b := (2 * k.val + 1)) (e := 1) (by omega) hi (q_at hf2 1 rfl) (k_at hf3 1 (b := (2 * k.val + 1)) (by omega) ((k0_off10_eq i k 1).trans (vec2 (by show 512 * k.val + 256 * 1 = 256 * (2 * k.val + 1); omega) rfl))) (log_at hf12 1 rfl)) (dprob_read v dy h27 (dob_at hf11 1 rfl) (v_at hf4 (b := (2 * k.val + 1)) (by omega) ((k0_off9_eq i k 1).trans (vec2 (by show 512 * k.val + 256 * 1 = 256 * (2 * k.val + 1); omega) rfl)))) (delta_at hf12 1 rfl)) (k_at hf3 1 (b := (2 * k.val + 0)) (by omega) ((k0_off10_eq i k 0).trans (vec2 (by show 512 * k.val + 256 * 0 = 256 * (2 * k.val + 0); omega) rfl))) (k_at hf3 1 (b := (2 * k.val + 1)) (by omega) ((k0_off10_eq i k 1).trans (vec2 (by show 512 * k.val + 256 * 1 = 256 * (2 * k.val + 1); omega) rfl))) r c).trans
      (congrArg (fun z => z + dqPart (i 1).val q kk v y lse dy r (lane 1 c) (2 * k.val + 0) + dqPart (i 1).val q kk v y lse dy r (lane 1 c) (2 * k.val + 1)) (dq_at hf8 1 rfl r c))) r l).trans ?_
    refine (congrArg (ite _ _) (dq_store 0 rfl ((fun r l => dqAcc (i 1).val q kk v y lse dy (2 * k.val) X8 (ix2 r l) + dqPart (i 1).val q kk v y lse dy r l (2 * k.val + 0) + dqPart (i 1).val q kk v y lse dy r l (2 * k.val + 1))) (fun r c => (dq_piece (i 1).val q kk v y lse dy (dscore_read (i 1).val q kk v y lse dy (b := (2 * k.val + 0)) (e := 0) (prob_read (i 1).val q kk lse (b := (2 * k.val + 0)) (e := 0) (by omega) hi (q_at hf2 0 rfl) (k_at hf3 0 (b := (2 * k.val + 0)) (by omega) ((k0_off8_eq i k 0).trans (vec2 (by show 512 * k.val + 256 * 0 = 256 * (2 * k.val + 0); omega) rfl))) (log_at hf12 0 rfl)) (dprob_read v dy h27 (dob_at hf11 0 rfl) (v_at hf4 (b := (2 * k.val + 0)) (by omega) ((k0_off9_eq i k 0).trans (vec2 (by show 512 * k.val + 256 * 0 = 256 * (2 * k.val + 0); omega) rfl)))) (delta_at hf12 0 rfl)) (dscore_read (i 1).val q kk v y lse dy (b := (2 * k.val + 1)) (e := 0) (prob_read (i 1).val q kk lse (b := (2 * k.val + 1)) (e := 0) (by omega) hi (q_at hf2 0 rfl) (k_at hf3 0 (b := (2 * k.val + 1)) (by omega) ((k0_off8_eq i k 1).trans (vec2 (by show 512 * k.val + 256 * 1 = 256 * (2 * k.val + 1); omega) rfl))) (log_at hf12 0 rfl)) (dprob_read v dy h27 (dob_at hf11 0 rfl) (v_at hf4 (b := (2 * k.val + 1)) (by omega) ((k0_off9_eq i k 1).trans (vec2 (by show 512 * k.val + 256 * 1 = 256 * (2 * k.val + 1); omega) rfl)))) (delta_at hf12 0 rfl)) (k_at hf3 0 (b := (2 * k.val + 0)) (by omega) ((k0_off8_eq i k 0).trans (vec2 (by show 512 * k.val + 256 * 0 = 256 * (2 * k.val + 0); omega) rfl))) (k_at hf3 0 (b := (2 * k.val + 1)) (by omega) ((k0_off8_eq i k 1).trans (vec2 (by show 512 * k.val + 256 * 1 = 256 * (2 * k.val + 1); omega) rfl))) r c).trans
      (congrArg (fun z => z + dqPart (i 1).val q kk v y lse dy r (lane 0 c) (2 * k.val + 0) + dqPart (i 1).val q kk v y lse dy r (lane 0 c) (2 * k.val + 1)) (dq_at hf8 0 rfl r c))) r l)).trans ?_
    have hh : half l = 0 ∨ half l = 1 := by omega
    have hG : (fun (r : Fin 512) (l : Fin 256) => dqAcc (i 1).val q kk v y lse dy (2 * k.val) X8 (ix2 r l) + dqPart (i 1).val q kk v y lse dy r l (2 * k.val + 0) + dqPart (i 1).val q kk v y lse dy r l (2 * k.val + 1)) r l = dqAcc (i 1).val q kk v y lse dy (2 * (k.val + 1)) X8 (ix2 r l) := by
      show (X8 (ix2 r l) + ∑ b' ∈ Finset.range (2 * k.val), _) + _ + _ = X8 (ix2 r l) + ∑ b' ∈ Finset.range (2 * k.val + 1 + 1), _
      rw [Finset.sum_range_succ, Finset.sum_range_succ, add_assoc, add_assoc, add_assoc]
      rfl
    rcases hh with hh | hh
    · rw [if_neg (by rw [hh]; decide), if_pos hh]; exact hG
    · rw [if_pos hh]; exact hG
  isplitl [H9]
  · iexists _; isplitr; swap; · iexact H9
    ipureintro
    refine funext fun x => ?_
    obtain ⟨a, j, l, n, rfl⟩ := eta4 x
    refine (dk_store hf9 1 (b := 2 * k.val + 1) (k0_off14_eq i k 1) (k0_off14_eq i k 1) (dk_piece (i 1).val q kk v y lse dy (dscore_read (i 1).val q kk v y lse dy (b := (2 * k.val + 1)) (e := 1) (prob_read (i 1).val q kk lse (b := (2 * k.val + 1)) (e := 1) (by omega) hi (q_at hf2 1 rfl) (k_at hf3 1 (b := (2 * k.val + 1)) (by omega) ((k0_off10_eq i k 1).trans (vec2 (by show 512 * k.val + 256 * 1 = 256 * (2 * k.val + 1); omega) rfl))) (log_at hf12 1 rfl)) (dprob_read v dy h27 (dob_at hf11 1 rfl) (v_at hf4 (b := (2 * k.val + 1)) (by omega) ((k0_off9_eq i k 1).trans (vec2 (by show 512 * k.val + 256 * 1 = 256 * (2 * k.val + 1); omega) rfl)))) (delta_at hf12 1 rfl)) (qt_at hf13 1 rfl)) a j l n).trans ?_
    refine (congrArg (ite _ _) (dk_store hf9 0 (b := 2 * k.val + 1) (k0_off13_eq i k 1) (k0_off13_eq i k 1) (dk_piece (i 1).val q kk v y lse dy (dscore_read (i 1).val q kk v y lse dy (b := (2 * k.val + 1)) (e := 0) (prob_read (i 1).val q kk lse (b := (2 * k.val + 1)) (e := 0) (by omega) hi (q_at hf2 0 rfl) (k_at hf3 0 (b := (2 * k.val + 1)) (by omega) ((k0_off8_eq i k 1).trans (vec2 (by show 512 * k.val + 256 * 1 = 256 * (2 * k.val + 1); omega) rfl))) (log_at hf12 0 rfl)) (dprob_read v dy h27 (dob_at hf11 0 rfl) (v_at hf4 (b := (2 * k.val + 1)) (by omega) ((k0_off9_eq i k 1).trans (vec2 (by show 512 * k.val + 256 * 1 = 256 * (2 * k.val + 1); omega) rfl)))) (delta_at hf12 0 rfl)) (qt_at hf13 0 rfl)) a j l n)).trans ?_
    refine (congrArg (fun z => ite _ _ (ite _ _ z)) (dk_store hf9 1 (b := 2 * k.val + 0) (k0_off14_eq i k 0) (k0_off14_eq i k 0) (dk_piece (i 1).val q kk v y lse dy (dscore_read (i 1).val q kk v y lse dy (b := (2 * k.val + 0)) (e := 1) (prob_read (i 1).val q kk lse (b := (2 * k.val + 0)) (e := 1) (by omega) hi (q_at hf2 1 rfl) (k_at hf3 1 (b := (2 * k.val + 0)) (by omega) ((k0_off10_eq i k 0).trans (vec2 (by show 512 * k.val + 256 * 0 = 256 * (2 * k.val + 0); omega) rfl))) (log_at hf12 1 rfl)) (dprob_read v dy h27 (dob_at hf11 1 rfl) (v_at hf4 (b := (2 * k.val + 0)) (by omega) ((k0_off9_eq i k 0).trans (vec2 (by show 512 * k.val + 256 * 0 = 256 * (2 * k.val + 0); omega) rfl)))) (delta_at hf12 1 rfl)) (qt_at hf13 1 rfl)) a j l n)).trans ?_
    refine (congrArg (fun z => ite _ _ (ite _ _ (ite _ _ z))) (dk_store hf9 0 (b := 2 * k.val + 0) (k0_off13_eq i k 0) (k0_off13_eq i k 0) (dk_piece (i 1).val q kk v y lse dy (dscore_read (i 1).val q kk v y lse dy (b := (2 * k.val + 0)) (e := 0) (prob_read (i 1).val q kk lse (b := (2 * k.val + 0)) (e := 0) (by omega) hi (q_at hf2 0 rfl) (k_at hf3 0 (b := (2 * k.val + 0)) (by omega) ((k0_off8_eq i k 0).trans (vec2 (by show 512 * k.val + 256 * 0 = 256 * (2 * k.val + 0); omega) rfl))) (log_at hf12 0 rfl)) (dprob_read v dy h27 (dob_at hf11 0 rfl) (v_at hf4 (b := (2 * k.val + 0)) (by omega) ((k0_off9_eq i k 0).trans (vec2 (by show 512 * k.val + 256 * 0 = 256 * (2 * k.val + 0); omega) rfl)))) (delta_at hf12 0 rfl)) (qt_at hf13 0 rfl)) a j l n)).trans ?_
    refine (congrArg (fun z => ite _ _ (ite _ _ (ite _ _ (ite _ _ z)))) (congrFun hf9 (ix4 a j l n))).trans ?_
    exact two_blocks (X9 (ix4 a j l n)) (dkPart (i 1).val q kk v y lse dy l (key j.val n)) j.val k.val (half l)
  iexists _; isplitr; swap; · iexact H10
  ipureintro
  refine funext fun x => ?_
  obtain ⟨a, j, l, n, rfl⟩ := eta4 x
  refine (dv_store hf10 1 (b := 2 * k.val + 1) (k0_off12_eq i k 1) (k0_off12_eq i k 1) (dv_piece (i 1).val q kk lse dy (prob_read (i 1).val q kk lse (b := (2 * k.val + 1)) (e := 1) (by omega) hi (q_at hf2 1 rfl) (k_at hf3 1 (b := (2 * k.val + 1)) (by omega) ((k0_off10_eq i k 1).trans (vec2 (by show 512 * k.val + 256 * 1 = 256 * (2 * k.val + 1); omega) rfl))) (log_at hf12 1 rfl)) (dot_at hf14 1 rfl)) a j l n).trans ?_
  refine (congrArg (ite _ _) (dv_store hf10 0 (b := 2 * k.val + 1) (k0_off11_eq i k 1) (k0_off11_eq i k 1) (dv_piece (i 1).val q kk lse dy (prob_read (i 1).val q kk lse (b := (2 * k.val + 1)) (e := 0) (by omega) hi (q_at hf2 0 rfl) (k_at hf3 0 (b := (2 * k.val + 1)) (by omega) ((k0_off8_eq i k 1).trans (vec2 (by show 512 * k.val + 256 * 1 = 256 * (2 * k.val + 1); omega) rfl))) (log_at hf12 0 rfl)) (dot_at hf14 0 rfl)) a j l n)).trans ?_
  refine (congrArg (fun z => ite _ _ (ite _ _ z)) (dv_store hf10 1 (b := 2 * k.val + 0) (k0_off12_eq i k 0) (k0_off12_eq i k 0) (dv_piece (i 1).val q kk lse dy (prob_read (i 1).val q kk lse (b := (2 * k.val + 0)) (e := 1) (by omega) hi (q_at hf2 1 rfl) (k_at hf3 1 (b := (2 * k.val + 0)) (by omega) ((k0_off10_eq i k 0).trans (vec2 (by show 512 * k.val + 256 * 0 = 256 * (2 * k.val + 0); omega) rfl))) (log_at hf12 1 rfl)) (dot_at hf14 1 rfl)) a j l n)).trans ?_
  refine (congrArg (fun z => ite _ _ (ite _ _ (ite _ _ z))) (dv_store hf10 0 (b := 2 * k.val + 0) (k0_off11_eq i k 0) (k0_off11_eq i k 0) (dv_piece (i 1).val q kk lse dy (prob_read (i 1).val q kk lse (b := (2 * k.val + 0)) (e := 0) (by omega) hi (q_at hf2 0 rfl) (k_at hf3 0 (b := (2 * k.val + 0)) (by omega) ((k0_off8_eq i k 0).trans (vec2 (by show 512 * k.val + 256 * 0 = 256 * (2 * k.val + 0); omega) rfl))) (log_at hf12 0 rfl)) (dot_at hf14 0 rfl)) a j l n)).trans ?_
  refine (congrArg (fun z => ite _ _ (ite _ _ (ite _ _ (ite _ _ z)))) (congrFun hf10 (ix4 a j l n))).trans ?_
  exact two_blocks (X10 (ix4 a j l n)) (dvPart (i 1).val q kk lse dy l (key j.val n)) j.val k.val (side l)

end Trip
end Cert.KernelIdeal.Gen

end
-- ==== Proof.Rest.lean ====
/- The body from the point where its scratch is filled: the two key blocks the queries' own rows meet, the loop over the
   blocks before them, and the last factor. -/
module

public import proofs.«01_k».proof.Proof.Trip
public import Idealize.ShloMosaic.Lib.Exec
public import Idealize.ShloMosaic.Lib.Tactic
public import Idealize.ShloMosaic.Lib.Pipeline.Kit
public import Idealize.ShloMosaic.Lib.WritesUnit

@[expose] public section

set_option maxRecDepth 16384

noncomputable section

namespace Cert.KernelIdeal.Gen

open Cert.KernelIdeal.Spec Cert.KernelIdeal.Reads Cert.KernelIdeal.Loads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Own

variable (i : ℕ) (q : Vec Ideal S512x256 .bf16) (kk : Vec Ideal S8192x256 .bf16) (v : Vec Ideal S8192x128 .bf16)
  (y lse dy : Vec Ideal S512x128 .f32)
  (X8 : Vec Ideal S512x256 .f32) (X9 : Vec Ideal S1x32x256x256 .f32) (X10 : Vec Ideal S1x32x128x256 .f32)

/-- The query gradient with the first of the two blocks added. -/
def dqOwn (r : Fin 512) (l : Fin 256) : EReal := X8 (ix2 r l) + dqPart i q kk v y lse dy r l (2 * i)

/-- The query gradient with both blocks added. -/
def dqBoth (r : Fin 512) (l : Fin 256) : EReal := dqOwn i q kk v y lse dy X8 r l + dqPart i q kk v y lse dy r l (2 * i + 1)

def dqTwo : Vec Ideal S512x256 .f32 := fun x => dqBoth i q kk v y lse dy X8 (x 0) (x 1)

/-- The key gradient with the two blocks added. -/
def dkTwo : Vec Ideal S1x32x256x256 .f32 := fun x =>
  X9 x + if (x 1).val = 2 * i ∨ (x 1).val = 2 * i + 1 then dkPart i q kk v y lse dy (x 2) (key (x 1).val (x 3)) else 0

/-- The value gradient with the two blocks added. -/
def dvTwo : Vec Ideal S1x32x128x256 .f32 := fun x =>
  X10 x + if (x 1).val = 2 * i ∨ (x 1).val = 2 * i + 1 then dvPart i q kk lse dy (x 2) (key (x 1).val (x 3)) else 0

/-- What the body leaves in the query gradient's window. -/
def dqOut : Vec Ideal S512x256 .f32 := fun x =>
  dqAcc i q kk v y lse dy (2 * i + 2) X8 x * ((Real.log 2 : ℝ) : EReal)

theorem own_blocks (X D : EReal) (j t : ℕ) (s : Fin 2) :
    (if j = 2 * t + 1 ∧ s = 1 then X + D else if j = 2 * t + 1 ∧ s = 0 then X + D
      else if j = 2 * t ∧ s = 1 then X + D else if j = 2 * t ∧ s = 0 then X + D else X)
      = X + if j = 2 * t ∨ j = 2 * t + 1 then D else 0 := by
  have hs : s = 0 ∨ s = 1 := by omega
  by_cases h : j = 2 * t ∨ j = 2 * t + 1
  · rcases h with rfl | rfl <;> rcases hs with rfl | rfl <;> simp
  · rw [if_neg (by omega), if_neg (by omega), if_neg (by omega), if_neg (by omega), if_neg h, add_zero]

theorem all_blocks (X D : EReal) (j t : ℕ) :
    (X + if j = 2 * t ∨ j = 2 * t + 1 then D else 0) + (if j < 2 * t then D else 0)
      = X + if j < 2 * t + 2 then D else 0 := by
  by_cases h : j = 2 * t ∨ j = 2 * t + 1
  · rw [if_pos h, if_neg (by omega), if_pos (by omega), add_zero]
  · rw [if_neg h, add_zero]
    by_cases h' : j < 2 * t
    · rw [if_pos h', if_pos (by omega)]
    · rw [if_neg h', if_neg (by omega)]

theorem dk_all : dkAcc i q kk v y lse dy (2 * i) (dkTwo i q kk v y lse dy X9) = dkAcc i q kk v y lse dy (2 * i + 2) X9 :=
  funext fun x => all_blocks _ _ (x 1).val i

theorem dv_all : dvAcc i q kk lse dy (2 * i) (dvTwo i q kk lse dy X10) = dvAcc i q kk lse dy (2 * i + 2) X10 :=
  funext fun x => all_blocks _ _ (x 1).val i

theorem dq_all (x : S512x256.Idx) :
    dqAcc i q kk v y lse dy (2 * i) (dqTwo i q kk v y lse dy X8) x = dqAcc i q kk v y lse dy (2 * i + 2) X8 x := by
  obtain ⟨r, l, rfl⟩ := eta2 x
  show (X8 (ix2 r l) + _ + _) + ∑ b' ∈ Finset.range (2 * i), _ = X8 (ix2 r l) + ∑ b' ∈ Finset.range (2 * i + 1 + 1), _
  rw [Finset.sum_range_succ, Finset.sum_range_succ]
  have h : ∀ X A B S : EReal, X + A + B + S = X + (S + A + B) := fun X A B S => by abel
  exact h _ _ _ _

/-- The four stores onto the query gradient, read back. -/
theorem own_halves (hi : i < 16) (Z : EReal) (r : Fin 512) (l : Fin 256) :
    (if 256 ≤ r.val ∧ half l = 1 then dqBoth i q kk v y lse dy X8 r l
      else if half l = 1 then dqOwn i q kk v y lse dy X8 r l
      else if 256 ≤ r.val ∧ half l = 0 then dqBoth i q kk v y lse dy X8 r l
      else if half l = 0 then dqOwn i q kk v y lse dy X8 r l else Z) = dqBoth i q kk v y lse dy X8 r l := by
  have hh : half l = 0 ∨ half l = 1 := by omega
  by_cases hr : 256 ≤ r.val
  · rcases hh with hh | hh <;> simp [hr, hh]
  · have he : dqOwn i q kk v y lse dy X8 r l = dqBoth i q kk v y lse dy X8 r l := by
      unfold dqBoth
      rw [dqPart_early i q kk v y lse dy hi (by omega), add_zero]
    rcases hh with hh | hh <;> simp [hr, hh, he]

end Own

section Rest

variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S1x32x256x256 .f32) (harg9 : arg9.IsWhole)
  (arg10 : Memref sig .tc .vmem S1x32x128x256 .f32) (harg10 : arg10.IsWhole)
  (arg11 : Memref sig .tc .vmem S2x512x128 .bf16) (harg11 : arg11.IsWhole)
  (arg12 : Memref sig .tc .vmem S4x512x128 .f32) (harg12 : arg12.IsWhole)
  (arg13 : Memref sig .tc .vmem S256x512 .bf16) (harg13 : arg13.IsWhole)
  (arg14 : Memref sig .tc .vmem S128x512 .bf16) (harg14 : arg14.IsWhole)
  (q : Vec Ideal S512x256 .bf16) (kk : Vec Ideal S8192x256 .bf16) (v : Vec Ideal S8192x128 .bf16)
  (y lse dy : Vec Ideal S512x128 .f32)
  (X8 : Vec Ideal S512x256 .f32) (X9 : Vec Ideal S1x32x256x256 .f32) (X10 : Vec Ideal S1x32x128x256 .f32)

/-- The body from the point where the scratch is filled. -/
def rest (arg1 v112 v113 v115 v117 c1_i32_71 : BitVec 32) (v27 : IVec S1x128 32) (v28 v29 : IVec S512x256 32)
    (v123 v136 v142 : FVec Ideal S512x256 .f32) (v144 : FVec Ideal S512x128 .bf16) :
    Prog (TpuEff nD τ sig (Elt Ideal) Λ₀ .tc) PUnit := do
    let ⟨v155, v161, v174, v180, v182, c1_i32_92⟩ : Σ' (v155 : FVec Ideal S512x256 .f32) (v161 : FVec Ideal S256x256 .f32) (v174 : FVec Ideal S256x256 .f32) (v180 : FVec Ideal S256x256 .f32) (v182 : FVec Ideal S256x128 .bf16), BitVec 32 ← k0_part17 (F := Ideal) i arg2 harg2 arg3 harg3 arg4 harg4 arg5 harg5 arg6 harg6 arg7 harg7 arg8 harg8 arg9 harg9 arg10 harg10 arg11 harg11 arg12 harg12 arg13 harg13 arg14 harg14 v27 v115 v117 v144 c1_i32_71
    let ⟨v193, v209, v210, v220, v223⟩ : Σ' (v193 : FVec Ideal S256x256 .f32) (v209 : FVec Ideal S512x256 .bf16) (v210 : FVec Ideal S512x256 .bf16) (v220 : FVec Ideal S512x256 .f32), FVec Ideal S512x256 .f32 ← k0_part18 (F := Ideal) i arg2 harg2 arg3 harg3 arg4 harg4 arg5 harg5 arg6 harg6 arg7 harg7 arg8 harg8 arg9 harg9 arg10 harg10 arg11 harg11 arg12 harg12 arg13 harg13 arg14 harg14 v27 v28 v29 v117 v123 v136 v142 v182 c1_i32_92
    let ⟨v226, v227, v245, v246, v264, v265⟩ : Σ' (v226 : FVec Ideal S512x256 .bf16) (v227 : FVec Ideal S512x256 .bf16) (v245 : FVec Ideal S256x256 .bf16) (v246 : FVec Ideal S256x256 .bf16) (v264 : FVec Ideal S256x256 .bf16), FVec Ideal S256x256 .bf16 ← k0_part19 (F := Ideal) i arg2 harg2 arg3 harg3 arg4 harg4 arg5 harg5 arg6 harg6 arg7 harg7 arg8 harg8 arg9 harg9 arg10 harg10 arg11 harg11 arg12 harg12 arg13 harg13 arg14 harg14 v28 v29 v112 v155 v161 v174 v180 v193 v220 v223
    k0_part20 (F := Ideal) i arg2 harg2 arg3 harg3 arg4 harg4 arg5 harg5 arg6 harg6 arg7 harg7 arg8 harg8 arg9 harg9 arg10 harg10 arg11 harg11 arg12 harg12 arg13 harg13 arg14 harg14 v112 v113 v210 v227 v246
    k0_part21 (F := Ideal) i arg2 harg2 arg3 harg3 arg4 harg4 arg5 harg5 arg6 harg6 arg7 harg7 arg8 harg8 arg9 harg9 arg10 harg10 arg11 harg11 arg12 harg12 arg13 harg13 arg14 harg14 v112 v113 v209 v226 v265
    let ⟨v355, v357⟩ : Σ' (v355 : FVec Ideal S256x128 .f32), Vec Ideal S256x128 .bf16 ← k0_part22 (F := Ideal) i arg2 harg2 arg3 harg3 arg4 harg4 arg5 harg5 arg6 harg6 arg7 harg7 arg8 harg8 arg9 harg9 arg10 harg10 arg11 harg11 arg12 harg12 arg13 harg13 arg14 harg14 v113 v115 v117 v209 v245 v264
    let v386 : FVec Ideal S512x256 .f32 ← k0_part23 (F := Ideal) i arg2 harg2 arg3 harg3 arg4 harg4 arg5 harg5 arg6 harg6 arg7 harg7 arg8 harg8 arg9 harg9 arg10 harg10 arg11 harg11 arg12 harg12 arg13 harg13 arg14 harg14 arg1 v27 v115 v117 v226 v245 v264 v355 v357
    Prog.lift (.store arg8 (Rect.unit (s := S512x256) ![0, 0] S512x256.size inb_S512x256_S512x256_0_0) v386 Finset.univ (View.stores_vmem_bits_univ h_S512x256 rfl) (.inl rfl))
    pure ⟨⟩

theorem last_factor (A : Vec Ideal S512x256 .f32) (x : S512x256.Idx) :
    k0_pay130 A x = A x * ((Real.log 2 : ℝ) : EReal) := by
  obtain ⟨r, l, rfl⟩ := eta2 x
  have h : k0_pay130 A (ix2 r l) = A (ix2 r l) * Named.named (F := Ideal) κ "ln2" (φ := .f32) 0x3F317218#32 := by
    pointwise [k0_pay130]
  rw [h]
  exact congrArg _ (IdealRules.named_const.ideal_named_scalar _ _ _ _ rfl)

theorem no_trips : ∀ i : grid0.Coords, (k0_t2_loop i).trips = 0 := by decide +kernel

/-- A load of rows a store of this run covers. -/
theorem cov_late {w : View sig .tc .vmem S512x256 .f32} {L : List (View.Piece (Elt Ideal) S512x256 .f32)}
    {off : Fin 2 → ℕ} {inb : ∀ a, off a + S256x128.size a ≤ S512x256.size a} (e : Fin 2) (heq : off = ![256, 128 * e.val])
    {G : Fin 512 → Fin 256 → EReal}
    (hG : ∀ r c, w.read (Elt Ideal) (w.writes (Elt Ideal) w.junk L) (ix2 (late r) (lane e c)) = G (late r) (lane e c))
    (r : Fin 256) (c : Fin 128) :
    w.readCov L (Rect.unit (s := S512x256) off S256x128.size inb).toLoadRect (ix2 r c) = G (late r) (lane e c) :=
  (at_unit (X := w.read (Elt Ideal) (w.writes (Elt Ideal) w.junk L)) rfl heq (ix2 r c) (ix2 (late r) (lane e c))
    (Fin.forall_fin_two.2 ⟨rfl, rfl⟩)).trans (hG r c)

set_option maxHeartbeats 4000000 in
theorem rest_spec (arg1 v112 v113 v115 v117 : BitVec 32) (v27 : IVec S1x128 32) (v28 v29 : IVec S512x256 32)
    (h27 : ∀ l : Fin 128, v27 (ix2 0 l) = BitVec.ofNat 32 (l.val / 64))
    (h28 : ∀ (r : Fin 512) (n : Fin 256), v28 (ix2 r n) = BitVec.ofNat 32 r.val)
    (h29 : ∀ (r : Fin 512) (n : Fin 256), v29 (ix2 r n) = BitVec.ofNat 32 n.val)
    {A0 A1 : Vec Ideal S512x128 .bf16} {B0 B1 V0 : Vec Ideal S256x128 .bf16} {D0 D1 : Vec Ideal S1x512x128 .bf16}
    (hA0 : ∀ r c, A0 (ix2 r c) = q (ix2 r (lane 0 c))) (hA1 : ∀ r c, A1 (ix2 r c) = q (ix2 r (lane 1 c)))
    (hB0 : ∀ n c, B0 (ix2 n c) = kk (ix2 (key (2 * (i 1).val) n) (lane 0 c)))
    (hB1 : ∀ n c, B1 (ix2 n c) = kk (ix2 (key (2 * (i 1).val) n) (lane 1 c)))
    (hD0 : ∀ r l, D0 (ix3 0 r l) = part dy 0 r l) (hD1 : ∀ r l, D1 (ix3 0 r l) = part dy 1 r l)
    (hV0 : ∀ n l, V0 (ix2 n l) = v (ix2 (key (2 * (i 1).val) n) l)) (E : Set ℕ) :
    (iprop(owns (c : Thread nD τ) arg2 fullShare q ∗ owns (c : Thread nD τ) arg3 fullShare kk ∗ owns (c : Thread nD τ) arg4 fullShare v ∗ owns (c : Thread nD τ) arg11 fullShare (dob dy) ∗ owns (c : Thread nD τ) arg12 fullShare (rows y lse dy) ∗ owns (c : Thread nD τ) arg13 fullShare (qt q) ∗ owns (c : Thread nD τ) arg14 fullShare (Spec.dot dy) ∗ owns (c : Thread nD τ) arg8 fullShare X8 ∗ owns (c : Thread nD τ) arg9 fullShare X9 ∗ owns (c : Thread nD τ) arg10 fullShare X10) : sProp 𝕄)
      ⊢ wp frame (wpE (defs₀ (F := Ideal)) Variants.none (c : Thread nD τ) none) E (rest i arg2 harg2 arg3 harg3 arg4 harg4 arg5 harg5 arg6 harg6 arg7 harg7 arg8 harg8 arg9 harg9 arg10 harg10 arg11 harg11 arg12 harg12 arg13 harg13 arg14 harg14 arg1 v112 v113 v115 v117 1#32 v27 v28 v29 (k0_pay88 A0 B0) (k0_pay89 v27 D0 V0) (k0_pay90 A1 B1) (k0_pay91 D1))
          (fun _ => iprop(owns (c : Thread nD τ) arg2 fullShare q ∗ owns (c : Thread nD τ) arg3 fullShare kk ∗ owns (c : Thread nD τ) arg4 fullShare v ∗ owns (c : Thread nD τ) arg11 fullShare (dob dy) ∗ owns (c : Thread nD τ) arg12 fullShare (rows y lse dy) ∗ owns (c : Thread nD τ) arg13 fullShare (qt q) ∗ owns (c : Thread nD τ) arg14 fullShare (Spec.dot dy) ∗ owns (c : Thread nD τ) arg8 fullShare (dqOut (i 1).val q kk v y lse dy X8) ∗ owns (c : Thread nD τ) arg9 fullShare (dkAcc (i 1).val q kk v y lse dy (2 * (i 1).val + 2) X9) ∗ owns (c : Thread nD τ) arg10 fullShare (dvAcc (i 1).val q kk lse dy (2 * (i 1).val + 2) X10))) := by
  have hi : (i 1).val < 16 := (i 1).isLt
  have htr : (k0_t2_loop i).trips = 0 := no_trips i
  unfold rest
  simp only [k0_part17_eq_skeleton, k0_part18_eq_skeleton, k0_part19_eq_skeleton, k0_part20_eq_skeleton, k0_part21_eq_skeleton, k0_part22_eq_skeleton, k0_part23_eq_skeleton]
  unfold owns
  iintro ⟨⟨%f2, %hf2, H2⟩, ⟨%f3, %hf3, H3⟩, ⟨%f4, %hf4, H4⟩, ⟨%f11, %hf11, H11⟩, ⟨%f12, %hf12, H12⟩, ⟨%f13, %hf13, H13⟩, ⟨%f14, %hf14, H14⟩, ⟨%f8, %hf8, H8⟩, ⟨%f9, %hf9, H9⟩, ⟨%f10, %hf10, H10⟩⟩
  sl_exec
  sl_for (fun n _ => held c i arg2 arg3 arg4 arg8 arg9 arg10 arg11 arg12 arg13 arg14 q kk v y lse dy (dqTwo (i 1).val q kk v y lse dy X8) (dkTwo (i 1).val q kk v y lse dy X9) (dvTwo (i 1).val q kk lse dy X10) n) $$ [H2 H3 H4 H11 H12 H13 H14 H8 H9 H10]
  · intro k acc
    exact trip c i arg2 harg2 arg3 harg3 arg4 harg4 arg5 harg5 arg6 harg6 arg7 harg7 arg8 harg8 arg9 harg9 arg10 harg10 arg11 harg11 arg12 harg12 arg13 harg13 arg14 harg14 q kk v y lse dy _ _ _ arg1 v27 v115 v117 _ _ _ _ _ h27 k E
  · unfold held owns
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H8]
    · iexists _; isplitr; swap; · iexact H8
      ipureintro
      refine funext fun x => ?_
      obtain ⟨r, l, rfl⟩ := eta2 x
      refine (dq_store_late 1 rfl (dqBoth (i 1).val q kk v y lse dy X8) (fun r c => (dq_late (i 1).val q kk v y lse dy (dscore_late (i 1).val q kk v y lse dy (b := (2 * (i 1).val + 1)) (e := 1) (prob_late (i 1).val q kk lse (e := 1) hi h28 h29 (q_late hf2 1 rfl) (k_at hf3 1 (b := (2 * (i 1).val + 1)) (by omega) ((k0_off3_eq i 1).trans (vec2 (by show 512 * (i 1).val + 256 * 1 = 256 * (2 * (i 1).val + 1); omega) rfl))) (log_late hf12 1 rfl)) (dprob_late v dy (e := 1) (b := 2 * (i 1).val + 1) h27 (dob_late hf11 1 rfl) (v_at hf4 (b := (2 * (i 1).val + 1)) (by omega) ((k0_off2_eq i 1).trans (vec2 (by show 512 * (i 1).val + 256 * 1 = 256 * (2 * (i 1).val + 1); omega) rfl)))) (delta_late hf12 1 rfl)) (k_at hf3 1 (b := (2 * (i 1).val + 1)) (by omega) ((k0_off3_eq i 1).trans (vec2 (by show 512 * (i 1).val + 256 * 1 = 256 * (2 * (i 1).val + 1); omega) rfl))) r c).trans (congrArg (fun z => z + dqPart (i 1).val q kk v y lse dy (late r) (lane 1 c) (2 * (i 1).val + 1)) (cov_late 1 rfl (G := (dqOwn (i 1).val q kk v y lse dy X8)) (fun r c => (dq_store 1 rfl (dqOwn (i 1).val q kk v y lse dy X8) (fun r c => (dq_own (i 1).val q kk v y lse dy (dscore_own (i 1).val q kk v y lse dy (b := 2 * (i 1).val) (e := 1) (prob_own (i 1).val q kk lse (e := 1) hi h28 h29 hA1 hB1 (log_at hf12 1 rfl)) (dprob_read v dy (b := 2 * (i 1).val) h27 hD1 (v_at hf4 (b := (2 * (i 1).val + 0)) (by omega) ((k0_off2_eq i 0).trans (vec2 (by show 512 * (i 1).val + 256 * 0 = 256 * (2 * (i 1).val + 0); omega) rfl)))) (delta_at hf12 1 rfl)) (k_at hf3 1 (b := 2 * (i 1).val) (by omega) ((k0_off3_eq i 0).trans (vec2 (by show 512 * (i 1).val + 256 * 0 = 256 * (2 * (i 1).val); omega) rfl))) r c).trans (congrArg (fun z => z + dqPart (i 1).val q kk v y lse dy r (lane 1 c) (2 * (i 1).val)) (dq_at hf8 1 rfl r c))) (late r) (lane 1 c)).trans (if_pos (half_lane 1 c))) r c))) r l).trans ?_
      refine (congrArg (ite _ _) (dq_store 1 rfl (dqOwn (i 1).val q kk v y lse dy X8) (fun r c => (dq_own (i 1).val q kk v y lse dy (dscore_own (i 1).val q kk v y lse dy (b := 2 * (i 1).val) (e := 1) (prob_own (i 1).val q kk lse (e := 1) hi h28 h29 hA1 hB1 (log_at hf12 1 rfl)) (dprob_read v dy (b := 2 * (i 1).val) h27 hD1 (v_at hf4 (b := (2 * (i 1).val + 0)) (by omega) ((k0_off2_eq i 0).trans (vec2 (by show 512 * (i 1).val + 256 * 0 = 256 * (2 * (i 1).val + 0); omega) rfl)))) (delta_at hf12 1 rfl)) (k_at hf3 1 (b := 2 * (i 1).val) (by omega) ((k0_off3_eq i 0).trans (vec2 (by show 512 * (i 1).val + 256 * 0 = 256 * (2 * (i 1).val); omega) rfl))) r c).trans (congrArg (fun z => z + dqPart (i 1).val q kk v y lse dy r (lane 1 c) (2 * (i 1).val)) (dq_at hf8 1 rfl r c))) r l)).trans ?_
      refine (congrArg (fun z => ite _ _ (ite _ _ z)) (dq_store_late 0 rfl (dqBoth (i 1).val q kk v y lse dy X8) (fun r c => (dq_late (i 1).val q kk v y lse dy (dscore_late (i 1).val q kk v y lse dy (b := (2 * (i 1).val + 1)) (e := 0) (prob_late (i 1).val q kk lse (e := 0) hi h28 h29 (q_late hf2 0 rfl) (k_at hf3 0 (b := (2 * (i 1).val + 1)) (by omega) ((k0_off1_eq i 1).trans (vec2 (by show 512 * (i 1).val + 256 * 1 = 256 * (2 * (i 1).val + 1); omega) rfl))) (log_late hf12 0 rfl)) (dprob_late v dy (e := 0) (b := 2 * (i 1).val + 1) h27 (dob_late hf11 0 rfl) (v_at hf4 (b := (2 * (i 1).val + 1)) (by omega) ((k0_off2_eq i 1).trans (vec2 (by show 512 * (i 1).val + 256 * 1 = 256 * (2 * (i 1).val + 1); omega) rfl)))) (delta_late hf12 0 rfl)) (k_at hf3 0 (b := (2 * (i 1).val + 1)) (by omega) ((k0_off1_eq i 1).trans (vec2 (by show 512 * (i 1).val + 256 * 1 = 256 * (2 * (i 1).val + 1); omega) rfl))) r c).trans (congrArg (fun z => z + dqPart (i 1).val q kk v y lse dy (late r) (lane 0 c) (2 * (i 1).val + 1)) (cov_late 0 rfl (G := (dqOwn (i 1).val q kk v y lse dy X8)) (fun r c => (dq_store 0 rfl (dqOwn (i 1).val q kk v y lse dy X8) (fun r c => (dq_own (i 1).val q kk v y lse dy (dscore_own (i 1).val q kk v y lse dy (b := 2 * (i 1).val) (e := 0) (prob_own (i 1).val q kk lse (e := 0) hi h28 h29 hA0 hB0 (log_at hf12 0 rfl)) (dprob_read v dy (b := 2 * (i 1).val) h27 hD0 hV0) (delta_at hf12 0 rfl)) (k_at hf3 0 (b := 2 * (i 1).val) (by omega) ((k0_off1_eq i 0).trans (vec2 (by show 512 * (i 1).val + 256 * 0 = 256 * (2 * (i 1).val); omega) rfl))) r c).trans (congrArg (fun z => z + dqPart (i 1).val q kk v y lse dy r (lane 0 c) (2 * (i 1).val)) (dq_at hf8 0 rfl r c))) (late r) (lane 0 c)).trans (if_pos (half_lane 0 c))) r c))) r l)).trans ?_
      refine (congrArg (fun z => ite _ _ (ite _ _ (ite _ _ z))) (dq_store 0 rfl (dqOwn (i 1).val q kk v y lse dy X8) (fun r c => (dq_own (i 1).val q kk v y lse dy (dscore_own (i 1).val q kk v y lse dy (b := 2 * (i 1).val) (e := 0) (prob_own (i 1).val q kk lse (e := 0) hi h28 h29 hA0 hB0 (log_at hf12 0 rfl)) (dprob_read v dy (b := 2 * (i 1).val) h27 hD0 hV0) (delta_at hf12 0 rfl)) (k_at hf3 0 (b := 2 * (i 1).val) (by omega) ((k0_off1_eq i 0).trans (vec2 (by show 512 * (i 1).val + 256 * 0 = 256 * (2 * (i 1).val); omega) rfl))) r c).trans (congrArg (fun z => z + dqPart (i 1).val q kk v y lse dy r (lane 0 c) (2 * (i 1).val)) (dq_at hf8 0 rfl r c))) r l)).trans ?_
      exact (own_halves (i 1).val q kk v y lse dy X8 hi _ r l).trans (add_zero _).symm
    isplitl [H9]
    · iexists _; isplitr; swap; · iexact H9
      ipureintro
      refine funext fun x => ?_
      obtain ⟨a, j, l, n, rfl⟩ := eta4 x
      refine (dk_store hf9 1 (b := 2 * (i 1).val + 1) (k0_off7_eq i 1) (k0_off7_eq i 1) (dk_late (i 1).val q kk v y lse dy hi (dscore_late (i 1).val q kk v y lse dy (b := (2 * (i 1).val + 1)) (e := 1) (prob_late (i 1).val q kk lse (e := 1) hi h28 h29 (q_late hf2 1 rfl) (k_at hf3 1 (b := (2 * (i 1).val + 1)) (by omega) ((k0_off3_eq i 1).trans (vec2 (by show 512 * (i 1).val + 256 * 1 = 256 * (2 * (i 1).val + 1); omega) rfl))) (log_late hf12 1 rfl)) (dprob_late v dy (e := 1) (b := 2 * (i 1).val + 1) h27 (dob_late hf11 1 rfl) (v_at hf4 (b := (2 * (i 1).val + 1)) (by omega) ((k0_off2_eq i 1).trans (vec2 (by show 512 * (i 1).val + 256 * 1 = 256 * (2 * (i 1).val + 1); omega) rfl)))) (delta_late hf12 1 rfl)) (qt_late hf13 1 rfl)) a j l n).trans ?_
      refine (congrArg (ite _ _) (dk_store hf9 0 (b := 2 * (i 1).val + 1) (k0_off6_eq i 1) (k0_off6_eq i 1) (dk_late (i 1).val q kk v y lse dy hi (dscore_late (i 1).val q kk v y lse dy (b := (2 * (i 1).val + 1)) (e := 0) (prob_late (i 1).val q kk lse (e := 0) hi h28 h29 (q_late hf2 0 rfl) (k_at hf3 0 (b := (2 * (i 1).val + 1)) (by omega) ((k0_off1_eq i 1).trans (vec2 (by show 512 * (i 1).val + 256 * 1 = 256 * (2 * (i 1).val + 1); omega) rfl))) (log_late hf12 0 rfl)) (dprob_late v dy (e := 0) (b := 2 * (i 1).val + 1) h27 (dob_late hf11 0 rfl) (v_at hf4 (b := (2 * (i 1).val + 1)) (by omega) ((k0_off2_eq i 1).trans (vec2 (by show 512 * (i 1).val + 256 * 1 = 256 * (2 * (i 1).val + 1); omega) rfl)))) (delta_late hf12 0 rfl)) (qt_late hf13 0 rfl)) a j l n)).trans ?_
      refine (congrArg (fun z => ite _ _ (ite _ _ z)) (dk_store hf9 1 (b := 2 * (i 1).val) (k0_off7_eq i 0) (k0_off7_eq i 0) (dk_piece (i 1).val q kk v y lse dy (dscore_own (i 1).val q kk v y lse dy (b := 2 * (i 1).val) (e := 1) (prob_own (i 1).val q kk lse (e := 1) hi h28 h29 hA1 hB1 (log_at hf12 1 rfl)) (dprob_read v dy (b := 2 * (i 1).val) h27 hD1 (v_at hf4 (b := (2 * (i 1).val + 0)) (by omega) ((k0_off2_eq i 0).trans (vec2 (by show 512 * (i 1).val + 256 * 0 = 256 * (2 * (i 1).val + 0); omega) rfl)))) (delta_at hf12 1 rfl)) (qt_at hf13 1 rfl)) a j l n)).trans ?_
      refine (congrArg (fun z => ite _ _ (ite _ _ (ite _ _ z))) (dk_store hf9 0 (b := 2 * (i 1).val) (k0_off6_eq i 0) (k0_off6_eq i 0) (dk_piece (i 1).val q kk v y lse dy (dscore_own (i 1).val q kk v y lse dy (b := 2 * (i 1).val) (e := 0) (prob_own (i 1).val q kk lse (e := 0) hi h28 h29 hA0 hB0 (log_at hf12 0 rfl)) (dprob_read v dy (b := 2 * (i 1).val) h27 hD0 hV0) (delta_at hf12 0 rfl)) (qt_at hf13 0 rfl)) a j l n)).trans ?_
      refine (congrArg (fun z => ite _ _ (ite _ _ (ite _ _ (ite _ _ z)))) (congrFun hf9 (ix4 a j l n))).trans ?_
      exact (own_blocks (X9 (ix4 a j l n)) (dkPart (i 1).val q kk v y lse dy l (key j.val n)) j.val (i 1).val (half l)).trans ((add_zero _).symm.trans (congrArg _ (if_neg (Nat.not_lt_zero _)).symm))
    iexists _; isplitr; swap; · iexact H10
    ipureintro
    refine funext fun x => ?_
    obtain ⟨a, j, l, n, rfl⟩ := eta4 x
    refine (dv_store hf10 1 (b := 2 * (i 1).val + 1) (k0_off5_eq i 1) (k0_off5_eq i 1) (dv_late (i 1).val q kk lse dy hi (prob_late (i 1).val q kk lse (e := 1) hi h28 h29 (q_late hf2 1 rfl) (k_at hf3 1 (b := (2 * (i 1).val + 1)) (by omega) ((k0_off3_eq i 1).trans (vec2 (by show 512 * (i 1).val + 256 * 1 = 256 * (2 * (i 1).val + 1); omega) rfl))) (log_late hf12 1 rfl)) (dot_late hf14 1 rfl)) a j l n).trans ?_
    refine (congrArg (ite _ _) (dv_store hf10 0 (b := 2 * (i 1).val + 1) (k0_off4_eq i 1) (k0_off4_eq i 1) (dv_late (i 1).val q kk lse dy hi (prob_late (i 1).val q kk lse (e := 0) hi h28 h29 (q_late hf2 0 rfl) (k_at hf3 0 (b := (2 * (i 1).val + 1)) (by omega) ((k0_off1_eq i 1).trans (vec2 (by show 512 * (i 1).val + 256 * 1 = 256 * (2 * (i 1).val + 1); omega) rfl))) (log_late hf12 0 rfl)) (dot_late hf14 0 rfl)) a j l n)).trans ?_
    refine (congrArg (fun z => ite _ _ (ite _ _ z)) (dv_store hf10 1 (b := 2 * (i 1).val) (k0_off5_eq i 0) (k0_off5_eq i 0) (dv_piece (i 1).val q kk lse dy (prob_own (i 1).val q kk lse (e := 1) hi h28 h29 hA1 hB1 (log_at hf12 1 rfl)) (dot_at hf14 1 rfl)) a j l n)).trans ?_
    refine (congrArg (fun z => ite _ _ (ite _ _ (ite _ _ z))) (dv_store hf10 0 (b := 2 * (i 1).val) (k0_off4_eq i 0) (k0_off4_eq i 0) (dv_piece (i 1).val q kk lse dy (prob_own (i 1).val q kk lse (e := 0) hi h28 h29 hA0 hB0 (log_at hf12 0 rfl)) (dot_at hf14 0 rfl)) a j l n)).trans ?_
    refine (congrArg (fun z => ite _ _ (ite _ _ (ite _ _ (ite _ _ z)))) (congrFun hf10 (ix4 a j l n))).trans ?_
    exact (own_blocks (X10 (ix4 a j l n)) (dvPart (i 1).val q kk lse dy l (key j.val n)) j.val (i 1).val (side l)).trans ((add_zero _).symm.trans (congrArg _ (if_neg (Nat.not_lt_zero _)).symm))
  unfold held owns
  iintro %acc ⟨⟨%g2, %hg2, H2⟩, ⟨%g3, %hg3, H3⟩, ⟨%g4, %hg4, H4⟩, ⟨%g11, %hg11, H11⟩, ⟨%g12, %hg12, H12⟩, ⟨%g13, %hg13, H13⟩, ⟨%g14, %hg14, H14⟩, ⟨%g8, %hg8, H8⟩, ⟨%g9, %hg9, H9⟩, ⟨%g10, %hg10, H10⟩⟩
  sl_exec
  sl_step
  isplitl [H2]
  · iexists _; isplitr; · ipureintro; exact hg2
    iexact H2
  isplitl [H3]
  · iexists _; isplitr; · ipureintro; exact hg3
    iexact H3
  isplitl [H4]
  · iexists _; isplitr; · ipureintro; exact hg4
    iexact H4
  isplitl [H11]
  · iexists _; isplitr; · ipureintro; exact hg11
    iexact H11
  isplitl [H12]
  · iexists _; isplitr; · ipureintro; exact hg12
    iexact H12
  isplitl [H13]
  · iexists _; isplitr; · ipureintro; exact hg13
    iexact H13
  isplitl [H14]
  · iexists _; isplitr; · ipureintro; exact hg14
    iexact H14
  isplitl [H8]
  · iexists _; isplitr; swap; · iexact H8
    ipureintro
    refine funext fun x => ?_
    refine (View.read_writes_cons_unit_of_mem _ _ _ _ [] x x rfl (Fin.forall_fin_two.2 ⟨(Nat.zero_add _).symm, (Nat.zero_add _).symm⟩)).trans ?_
    refine (last_factor _ x).trans (congrArg (· * _) ?_)
    refine (at_unit hg8 rfl x x (Fin.forall_fin_two.2 ⟨(Nat.zero_add _).symm, (Nat.zero_add _).symm⟩)).trans ?_
    exact (congrArg (fun n => dqAcc (i 1).val q kk v y lse dy (2 * n) _ x) (trips_eq i)).trans (dq_all (i 1).val q kk v y lse dy X8 x)
  isplitl [H9]
  · iexists _; isplitr; swap; · iexact H9
    ipureintro
    exact hg9.trans ((congrArg (fun n => dkAcc (i 1).val q kk v y lse dy (2 * n) _) (trips_eq i)).trans (dk_all (i 1).val q kk v y lse dy X9))
  iexists _; isplitr; swap; · iexact H10
  ipureintro
  exact hg10.trans ((congrArg (fun n => dvAcc (i 1).val q kk lse dy (2 * n) _) (trips_eq i)).trans (dv_all (i 1).val q kk lse dy X10))

end Rest
end Cert.KernelIdeal.Gen

end
-- ==== Proof.Scratch.lean ====
/- What the body's first stores leave in the scratch: the gradient of the result by heads, the rows' logarithms and
   inner products, and the two turned blocks. -/
module

public import proofs.«01_k».proof.Proof.Loads

@[expose] public section

set_option maxRecDepth 16384

noncomputable section

namespace Cert.KernelIdeal.Loads

open Idealize.ShloMosaic Cert.KernelIdeal.Gen Cert.KernelIdeal.Spec Cert.KernelIdeal.Reads

variable {q : Vec Ideal S512x256 .bf16} {y lse dy : Vec Ideal S512x128 .f32}

theorem eta3 {n0 n1 n2 : ℕ} (x : (a : Fin 3) → Fin ((![n0, n1, n2] : Fin 3 → ℕ) a)) :
    ∃ a b c, x = ix3 (n0 := n0) (n1 := n1) (n2 := n2) a b c :=
  ⟨x 0, x 1, x 2, funext (three rfl rfl rfl)⟩

/-- The vector of channels names the head of each. -/
theorem head_word : ∀ l : Fin 128, k0_pay71 (ix2 0 l) = BitVec.ofNat 32 (l.val / 64) := by
  decide +kernel

theorem query_word (r : Fin 512) (n : Fin 256) :
    iota Kind.tc S512x256 32 [0] iota_S512x256_d0_w32 (ix2 r n) = BitVec.ofNat 32 r.val := by
  pointwise []

theorem key_word (r : Fin 512) (n : Fin 256) :
    iota Kind.tc S512x256 32 [1] iota_S512x256_d1_w32 (ix2 r n) = BitVec.ofNat 32 n.val := by
  pointwise []

/-- A load of a whole block. -/
theorem whole_at {w : View sig .tc .vmem S512x128 .f32} {f : w.ty.Contents (Elt Ideal)} {X : Vec Ideal S512x128 .f32}
    (hf : w.read (Elt Ideal) f = X) {inb : ∀ a, (![0, 0] : Fin 2 → ℕ) a + S512x128.size a ≤ S512x128.size a} :
    w.readAt (Elt Ideal) (Rect.unit (s := S512x128) ![0, 0] S512x128.size inb).toLoadRect f = X := by
  funext x
  obtain ⟨r, l, rfl⟩ := eta2 x
  exact at_unit hf rfl _ (ix2 r l) (Fin.forall_fin_two.2 ⟨(Nat.zero_add _).symm, (Nat.zero_add _).symm⟩)

theorem channel_zero {e : Fin 2} (l : Fin 128) (z : EReal) :
    Scalar.select (IntOp.cmpi .eq (BitVec.ofNat 32 (l.val / 64)) (BitVec.ofNat 32 e.val)) z 0
      = if side l = e then z else 0 := by
  have h : (((0#32 : BitVec 32).toInt : ℝ) : EReal) = 0 := by simp
  rw [← h, channel, h]

/-- The first head's channels of the result's gradient. -/
theorem part_first {V : Vec Ideal S512x128 .f32} (hV : V = dy) (r : Fin 512) (l : Fin 128) :
    k0_pay79 k0_pay71 V (ix3 0 r l) = part dy 0 r l := by
  subst hV
  have hp : k0_pay79 k0_pay71 V (ix3 0 r l)
      = Scalar.select (IntOp.cmpi .eq (k0_pay71 (ix2 0 l)) (BitVec.ofNat 32 (0 : Fin 2).val)) (V (ix2 r l)) 0 := by
    pointwise [k0_pay79, k0_pay78]
  rw [hp, head_word, channel_zero]
  rfl

/-- The second head's. -/
theorem part_second {V : Vec Ideal S512x128 .f32} (hV : V = dy) (r : Fin 512) (l : Fin 128) :
    k0_pay84 k0_pay71 V (ix3 0 r l) = part dy 1 r l := by
  subst hV
  have hp : k0_pay84 k0_pay71 V (ix3 0 r l)
      = Scalar.select (IntOp.cmpi .eq (k0_pay71 (ix2 0 l)) (BitVec.ofNat 32 (1 : Fin 2).val)) (V (ix2 r l)) 0 := by
    pointwise [k0_pay84, k0_pay83]
  rw [hp, head_word, channel_zero]
  rfl

/-- The newest store of a stack of blocks, read in its own block. -/
theorem here {n m : ℕ} {φ : EltTy} (w : View sig .tc .vmem (⟨3, ![n, 512, 128]⟩ : Shape) φ) (f : w.ty.Contents (Elt Ideal))
    (inb : ∀ a, (![m, 0, 0] : Fin 3 → ℕ) a + S1x512x128.size a ≤ (⟨3, ![n, 512, 128]⟩ : Shape).size a)
    (V : Vec Ideal S1x512x128 φ) (L : List (View.Piece (Elt Ideal) (⟨3, ![n, 512, 128]⟩ : Shape) φ)) (e : Fin n)
    (he : e.val = m) (r : Fin 512) (l : Fin 128) :
    w.read (Elt Ideal) (w.writes (Elt Ideal) f
      (⟨Rect.unit (s := ⟨3, ![n, 512, 128]⟩) ![m, 0, 0] S1x512x128.size inb, V⟩ :: L)) (ix3 e r l) = V (ix3 0 r l) :=
  View.read_writes_cons_unit_of_mem w f inb V L (ix3 e r l) (ix3 0 r l) rfl
    (three (p := fun a => ((ix3 e r l : (⟨3, ![n, 512, 128]⟩ : Shape).Idx) a).val = (![m, 0, 0] : Fin 3 → ℕ) a + ((ix3 0 r l : S1x512x128.Idx) a).val)
      he (Nat.zero_add _).symm (Nat.zero_add _).symm)

/-- The newest store of a stack of blocks, read in an earlier block. -/
theorem below {n m : ℕ} {φ : EltTy} (w : View sig .tc .vmem (⟨3, ![n, 512, 128]⟩ : Shape) φ) (f : w.ty.Contents (Elt Ideal))
    (inb : ∀ a, (![m, 0, 0] : Fin 3 → ℕ) a + S1x512x128.size a ≤ (⟨3, ![n, 512, 128]⟩ : Shape).size a)
    (V : Vec Ideal S1x512x128 φ) (L : List (View.Piece (Elt Ideal) (⟨3, ![n, 512, 128]⟩ : Shape) φ)) (e : Fin n)
    (r : Fin 512) (l : Fin 128) (he : e.val < m) :
    w.read (Elt Ideal) (w.writes (Elt Ideal) f
      (⟨Rect.unit (s := ⟨3, ![n, 512, 128]⟩) ![m, 0, 0] S1x512x128.size inb, V⟩ :: L)) (ix3 e r l)
      = w.read (Elt Ideal) (w.writes (Elt Ideal) f L) (ix3 e r l) := by
  refine View.read_writes_cons_unit_of_not_mem w f inb V L (ix3 e r l) rfl (0 : Fin 3) ?_
  exact .inl he

theorem dob_scratch {w : View sig .tc .vmem S2x512x128 .bf16} {f : w.ty.Contents (Elt Ideal)}
    {i1 : ∀ a, (![1, 0, 0] : Fin 3 → ℕ) a + S1x512x128.size a ≤ S2x512x128.size a}
    {i0 : ∀ a, (![0, 0, 0] : Fin 3 → ℕ) a + S1x512x128.size a ≤ S2x512x128.size a}
    {V1 V0 : Vec Ideal S1x512x128 .bf16}
    (h1 : ∀ r l, V1 (ix3 0 r l) = part dy 1 r l) (h0 : ∀ r l, V0 (ix3 0 r l) = part dy 0 r l) :
    w.read (Elt Ideal) (w.writes (Elt Ideal) f [⟨Rect.unit (s := S2x512x128) ![1, 0, 0] S1x512x128.size i1, V1⟩,
      ⟨Rect.unit (s := S2x512x128) ![0, 0, 0] S1x512x128.size i0, V0⟩]) = dob dy := by
  funext x
  obtain ⟨e, r, l, rfl⟩ := eta3 x
  obtain rfl | rfl : e = 0 ∨ e = 1 := by revert e; decide
  · exact (below w f i1 V1 _ 0 r l Nat.zero_lt_one).trans ((here w f i0 V0 _ 0 rfl r l).trans (h0 r l))
  · exact (here w f i1 V1 _ 1 rfl r l).trans (h1 r l)

/-- The rows' logarithms turned by half the lanes. -/
theorem turned_log {V : Vec Ideal S512x128 .f32} (hV : V = lse) (r : Fin 512) (l : Fin 128) :
    k0_pay74 V (ix2 r l) = lse (ix2 r ⟨(l.val + 64) % 128, by omega⟩) := by
  subst hV
  pointwise [k0_pay74, k0_pay73]
  exact congrArg (fun m => V (ix2 r m)) (Fin.ext (by show (l.val + 128 - 64) % 128 = (l.val + 64) % 128; omega))

/-- A lane of the head's own, or the lane 64 further. -/
theorem own_or_other {e : Fin 2} (r : Fin 512) (l : Fin 128) :
    Scalar.select (IntOp.cmpi .eq (BitVec.ofNat 32 (l.val / 64)) (BitVec.ofNat 32 e.val)) (lse (ix2 r l))
      (lse (ix2 r ⟨(l.val + 64) % 128, by omega⟩)) = lse (ix2 r ⟨64 * e.val + l.val % 64, by omega⟩) := by
  have h : (BitVec.ofNat 32 (l.val / 64) = BitVec.ofNat 32 e.val) ↔ l.val / 64 = e.val := by
    rw [← BitVec.toNat_inj, BitVec.toNat_ofNat, BitVec.toNat_ofNat]
    omega
  by_cases hl : l.val / 64 = e.val
  · have e1 : l = ⟨64 * e.val + l.val % 64, by omega⟩ := Fin.ext (by show _ = 64 * e.val + l.val % 64; omega)
    have hs : ∀ a b : EReal, Scalar.select (IntOp.cmpi .eq (BitVec.ofNat 32 (l.val / 64)) (BitVec.ofNat 32 e.val)) a b = a :=
      fun a b => by rw [IntOp.cmpi, h.mpr hl]; simp [Scalar.select]
    exact (hs _ _).trans (congrArg (fun m => lse (ix2 r m)) e1)
  · have e1 : (⟨(l.val + 64) % 128, by omega⟩ : Fin 128) = ⟨64 * e.val + l.val % 64, by omega⟩ :=
      Fin.ext (by show (l.val + 64) % 128 = 64 * e.val + l.val % 64; omega)
    have hs : ∀ a b : EReal, Scalar.select (IntOp.cmpi .eq (BitVec.ofNat 32 (l.val / 64)) (BitVec.ofNat 32 e.val)) a b = b :=
      fun a b => by rw [IntOp.cmpi, beq_false_of_ne fun hh => hl (h.mp hh)]; simp [Scalar.select]
    exact (hs _ _).trans (congrArg (fun m => lse (ix2 r m)) e1)

/-- The first head's logarithms. -/
theorem log_first {V : Vec Ideal S512x128 .f32} (hV : V = lse) (r : Fin 512) (l : Fin 128) :
    k0_pay80 k0_pay71 (k0_pay73 V) (k0_pay74 V) (ix3 0 r l) = logsum lse 0 r l.val := by
  have hp : k0_pay80 k0_pay71 (k0_pay73 V) (k0_pay74 V) (ix3 0 r l)
      = Scalar.select (IntOp.cmpi .eq (k0_pay71 (ix2 0 l)) (BitVec.ofNat 32 (0 : Fin 2).val)) (V (ix2 r l))
          (k0_pay74 V (ix2 r l)) * (((Real.log 2)⁻¹ : ℝ) : EReal) := by
    pointwise [k0_pay80, k0_pay73, k0_pay74]
    rfl
  rw [hp, turned_log hV, head_word, hV, own_or_other]
  rfl

/-- The second head's. -/
theorem log_second {V : Vec Ideal S512x128 .f32} (hV : V = lse) (r : Fin 512) (l : Fin 128) :
    k0_pay85 k0_pay71 (k0_pay73 V) (k0_pay74 V) (ix3 0 r l) = logsum lse 1 r l.val := by
  have hp : k0_pay85 k0_pay71 (k0_pay73 V) (k0_pay74 V) (ix3 0 r l)
      = Scalar.select (IntOp.cmpi .eq (k0_pay71 (ix2 0 l)) (BitVec.ofNat 32 (1 : Fin 2).val)) (V (ix2 r l))
          (k0_pay74 V (ix2 r l)) * (((Real.log 2)⁻¹ : ℝ) : EReal) := by
    pointwise [k0_pay85, k0_pay73, k0_pay74]
    rfl
  rw [hp, turned_log hV, head_word, hV, own_or_other]
  rfl

theorem inner_first {V W : Vec Ideal S512x128 .f32} (hV : V = dy) (hW : W = y) (r : Fin 512) (l : Fin 128) :
    k0_pay82 (k0_pay81 k0_pay71 V W) (ix3 0 r l) = delta y dy 0 r := by
  subst hV hW
  have hp : k0_pay82 (k0_pay81 k0_pay71 V W) (ix3 0 r l) = ∑ c : Fin 128,
      Scalar.select (IntOp.cmpi .eq (k0_pay71 (ix2 0 c)) (BitVec.ofNat 32 (0 : Fin 2).val)) (V (ix2 r c)) 0 * W (ix2 r c) := by
    pointwise [k0_pay82, k0_pay81, k0_pay78]
  rw [hp]
  exact Finset.sum_congr rfl fun c _ => by rw [head_word, channel_zero]; rfl

theorem inner_second {V W : Vec Ideal S512x128 .f32} (hV : V = dy) (hW : W = y) (r : Fin 512) (l : Fin 128) :
    k0_pay87 (k0_pay86 k0_pay71 V W) (ix3 0 r l) = delta y dy 1 r := by
  subst hV hW
  have hp : k0_pay87 (k0_pay86 k0_pay71 V W) (ix3 0 r l) = ∑ c : Fin 128,
      Scalar.select (IntOp.cmpi .eq (k0_pay71 (ix2 0 c)) (BitVec.ofNat 32 (1 : Fin 2).val)) (V (ix2 r c)) 0 * W (ix2 r c) := by
    pointwise [k0_pay87, k0_pay86, k0_pay83]
  rw [hp]
  exact Finset.sum_congr rfl fun c _ => by rw [head_word, channel_zero]; rfl

/-- The four rows' stores leave the scratch of rows. -/
theorem rows_scratch {w : View sig .tc .vmem S4x512x128 .f32} {f : w.ty.Contents (Elt Ideal)}
    {i3 : ∀ a, (![3, 0, 0] : Fin 3 → ℕ) a + S1x512x128.size a ≤ S4x512x128.size a}
    {i2 : ∀ a, (![2, 0, 0] : Fin 3 → ℕ) a + S1x512x128.size a ≤ S4x512x128.size a}
    {i1 : ∀ a, (![1, 0, 0] : Fin 3 → ℕ) a + S1x512x128.size a ≤ S4x512x128.size a}
    {i0 : ∀ a, (![0, 0, 0] : Fin 3 → ℕ) a + S1x512x128.size a ≤ S4x512x128.size a}
    {V3 V2 V1 V0 : Vec Ideal S1x512x128 .f32}
    (h3 : ∀ r l, V3 (ix3 0 r l) = delta y dy 1 r) (h2 : ∀ r (l : Fin 128), V2 (ix3 0 r l) = logsum lse 1 r l.val)
    (h1 : ∀ r l, V1 (ix3 0 r l) = delta y dy 0 r) (h0 : ∀ r (l : Fin 128), V0 (ix3 0 r l) = logsum lse 0 r l.val) :
    w.read (Elt Ideal) (w.writes (Elt Ideal) f [⟨Rect.unit (s := S4x512x128) ![3, 0, 0] S1x512x128.size i3, V3⟩,
      ⟨Rect.unit (s := S4x512x128) ![2, 0, 0] S1x512x128.size i2, V2⟩,
      ⟨Rect.unit (s := S4x512x128) ![1, 0, 0] S1x512x128.size i1, V1⟩,
      ⟨Rect.unit (s := S4x512x128) ![0, 0, 0] S1x512x128.size i0, V0⟩]) = rows y lse dy := by
  funext x
  obtain ⟨e, r, l, rfl⟩ := eta3 x
  have e0 : rows y lse dy (ix3 0 r l) = logsum lse 0 r l.val := rows_even 0 r l
  have e1 : rows y lse dy (ix3 1 r l) = delta y dy 0 r := rows_odd 0 r l
  have e2 : rows y lse dy (ix3 2 r l) = logsum lse 1 r l.val := rows_even 1 r l
  have e3 : rows y lse dy (ix3 3 r l) = delta y dy 1 r := rows_odd 1 r l
  obtain rfl | rfl | rfl | rfl : e = 0 ∨ e = 1 ∨ e = 2 ∨ e = 3 := by revert e; decide
  · exact (below w f i3 V3 _ 0 r l (by decide)).trans ((below w f i2 V2 _ 0 r l (by decide)).trans
      ((below w f i1 V1 _ 0 r l (by decide)).trans ((here w f i0 V0 _ 0 rfl r l).trans ((h0 r l).trans e0.symm))))
  · exact (below w f i3 V3 _ 1 r l (by decide)).trans ((below w f i2 V2 _ 1 r l (by decide)).trans
      ((here w f i1 V1 _ 1 rfl r l).trans ((h1 r l).trans e1.symm)))
  · exact (below w f i3 V3 _ 2 r l (by decide)).trans ((here w f i2 V2 _ 2 rfl r l).trans ((h2 r l).trans e2.symm))
  · exact (here w f i3 V3 _ 3 rfl r l).trans ((h3 r l).trans e3.symm)

theorem qt_scratch {w : View sig .tc .vmem S256x512 .bf16} {f : w.ty.Contents (Elt Ideal)}
    {ib : ∀ a, (![0, 0] : Fin 2 → ℕ) a + S256x512.size a ≤ S256x512.size a} {V : Vec Ideal S512x256 .bf16} (hV : V = q) :
    w.read (Elt Ideal) (w.writes (Elt Ideal) f [⟨Rect.unit (s := S256x512) ![0, 0] S256x512.size ib, k0_pay76 (k0_pay75 V)⟩])
      = qt q := by
  subst hV
  funext x
  obtain ⟨c, r, rfl⟩ := eta2 x
  refine (View.read_writes_cons_unit_of_mem _ _ ib _ _ _ (ix2 c r) rfl
      (Fin.forall_fin_two.2 ⟨(Nat.zero_add _).symm, (Nat.zero_add _).symm⟩)).trans ?_
  show _ = V (ix2 r c)
  pointwise [k0_pay76, k0_pay75]

theorem dot_scratch {w : View sig .tc .vmem S128x512 .bf16} {f : w.ty.Contents (Elt Ideal)}
    {ib : ∀ a, (![0, 0] : Fin 2 → ℕ) a + S128x512.size a ≤ S128x512.size a} {V : Vec Ideal S512x128 .f32} (hV : V = dy) :
    w.read (Elt Ideal) (w.writes (Elt Ideal) f [⟨Rect.unit (s := S128x512) ![0, 0] S128x512.size ib, k0_pay77 V⟩])
      = Spec.dot dy := by
  subst hV
  funext x
  obtain ⟨c, r, rfl⟩ := eta2 x
  refine (View.read_writes_cons_unit_of_mem _ _ ib _ _ _ (ix2 c r) rfl
      (Fin.forall_fin_two.2 ⟨(Nat.zero_add _).symm, (Nat.zero_add _).symm⟩)).trans ?_
  show _ = V (ix2 r c)
  pointwise [k0_pay77]

end Cert.KernelIdeal.Loads
end
-- ==== Proof.Body.lean ====
/- The whole body at one point of the grid: what it leaves in the three gradients' windows, from the blocks its input
   windows hold and, except at the first query block of a row, from what the accumulators held. -/
module

public import proofs.«01_k».proof.Proof.Rest
public import proofs.«01_k».proof.Proof.Scratch
public import Idealize.ShloMosaic.Lib.Exec
public import Idealize.ShloMosaic.Lib.Tactic
public import Idealize.ShloMosaic.Lib.Pipeline.Kit
public import Idealize.ShloMosaic.Lib.WritesUnit

@[expose] public section

set_option maxRecDepth 16384

noncomputable section

namespace Cert.KernelIdeal.Gen

open Cert.KernelIdeal.Spec Cert.KernelIdeal.Reads Cert.KernelIdeal.Loads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The first of a row of query blocks: the body clears the two accumulators there. -/
abbrev first (i : grid0.Coords) : Prop :=
  Scalar.cmpi .ne (Scalar.extui (Scalar.cmpi .eq (BitVec.ofNat 32 (i 1).val) 0#32)) 0#32 = 1#1

/-- An accumulator's contents as the body adds to them: cleared at the first of a row of query blocks. -/
def start {s : Shape} (i : grid0.Coords) (X : Vec Ideal s .f32) : Vec Ideal s .f32 := if first i then fun _ => 0 else X

theorem whole_q {w : View sig .tc .vmem S512x256 .bf16} {f : w.ty.Contents (Elt Ideal)} {X : Vec Ideal S512x256 .bf16}
    (hf : w.read (Elt Ideal) f = X) {inb : ∀ a, (![0, 0] : Fin 2 → ℕ) a + S512x256.size a ≤ S512x256.size a} :
    w.readAt (Elt Ideal) (Rect.unit (s := S512x256) ![0, 0] S512x256.size inb).toLoadRect f = X := by
  funext x
  obtain ⟨r, l, rfl⟩ := eta2 x
  exact at_unit hf rfl _ (ix2 r l) (Fin.forall_fin_two.2 ⟨(Nat.zero_add _).symm, (Nat.zero_add _).symm⟩)

theorem zero_2 {w : View sig .tc .vmem S512x256 .f32} {f : w.ty.Contents (Elt Ideal)}
    {ib : ∀ a, (![0, 0] : Fin 2 → ℕ) a + S512x256.size a ≤ S512x256.size a} :
    w.read (Elt Ideal) (w.writes (Elt Ideal) f [⟨Rect.unit (s := S512x256) ![0, 0] S512x256.size ib, k0_pay72 (F := Ideal)⟩])
      = fun _ => 0 := by
  funext x
  obtain ⟨r, l, rfl⟩ := eta2 x
  refine (View.read_writes_cons_unit_of_mem _ _ ib _ _ _ (ix2 r l) rfl
      (Fin.forall_fin_two.2 ⟨(Nat.zero_add _).symm, (Nat.zero_add _).symm⟩)).trans ?_
  pointwise [k0_pay72]

theorem zero_k {w : View sig .tc .vmem S1x32x256x256 .f32} {f : w.ty.Contents (Elt Ideal)}
    {ib : ∀ a, (![0, 0, 0, 0] : Fin 4 → ℕ) a + S1x32x256x256.size a ≤ S1x32x256x256.size a} :
    w.read (Elt Ideal) (w.writes (Elt Ideal) f [⟨Rect.unit (s := S1x32x256x256) ![0, 0, 0, 0] S1x32x256x256.size ib, k0_pay69 (F := Ideal)⟩])
      = fun _ => 0 := by
  funext x
  obtain ⟨a, j, l, n, rfl⟩ := eta4 x
  refine (View.read_writes_cons_unit_of_mem _ _ ib _ _ _ (ix4 a j l n) rfl
      (four (Nat.zero_add _).symm (Nat.zero_add _).symm (Nat.zero_add _).symm (Nat.zero_add _).symm)).trans ?_
  pointwise [k0_pay69]

theorem zero_v {w : View sig .tc .vmem S1x32x128x256 .f32} {f : w.ty.Contents (Elt Ideal)}
    {ib : ∀ a, (![0, 0, 0, 0] : Fin 4 → ℕ) a + S1x32x128x256.size a ≤ S1x32x128x256.size a} :
    w.read (Elt Ideal) (w.writes (Elt Ideal) f [⟨Rect.unit (s := S1x32x128x256) ![0, 0, 0, 0] S1x32x128x256.size ib, k0_pay70 (F := Ideal)⟩])
      = fun _ => 0 := by
  funext x
  obtain ⟨a, j, l, n, rfl⟩ := eta4 x
  refine (View.read_writes_cons_unit_of_mem _ _ ib _ _ _ (ix4 a j l n) rfl
      (four (Nat.zero_add _).symm (Nat.zero_add _).symm (Nat.zero_add _).symm (Nat.zero_add _).symm)).trans ?_
  pointwise [k0_pay70]

section Body

variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S1x32x256x256 .f32) (harg9 : arg9.IsWhole)
  (arg10 : Memref sig .tc .vmem S1x32x128x256 .f32) (harg10 : arg10.IsWhole)
  (arg11 : Memref sig .tc .vmem S2x512x128 .bf16) (harg11 : arg11.IsWhole)
  (arg12 : Memref sig .tc .vmem S4x512x128 .f32) (harg12 : arg12.IsWhole)
  (arg13 : Memref sig .tc .vmem S256x512 .bf16) (harg13 : arg13.IsWhole)
  (arg14 : Memref sig .tc .vmem S128x512 .bf16) (harg14 : arg14.IsWhole)
  (q : Vec Ideal S512x256 .bf16) (kk : Vec Ideal S8192x256 .bf16) (v : Vec Ideal S8192x128 .bf16)
  (y lse dy : Vec Ideal S512x128 .f32)

set_option maxHeartbeats 4000000 in
set_option sl_exec.stopBefore "k0_part17" in
/-- The body on whole buffers. -/
theorem body_spec (X9 : Vec Ideal S1x32x256x256 .f32) (X10 : Vec Ideal S1x32x128x256 .f32) (E : Set ℕ) :
    (iprop(owns (c : Thread nD τ) arg2 fullShare q ∗ owns (c : Thread nD τ) arg3 fullShare kk ∗ owns (c : Thread nD τ) arg4 fullShare v ∗ owns (c : Thread nD τ) arg5 fullShare y ∗ owns (c : Thread nD τ) arg6 fullShare lse ∗ owns (c : Thread nD τ) arg7 fullShare dy ∗ (∃ d, owns (c : Thread nD τ) arg8 fullShare d) ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) : sProp 𝕄)
      ⊢ wp frame (wpE (defs₀ (F := Ideal)) Variants.none (c : Thread nD τ) none) E (cc0_mla_bwd (F := Ideal) i arg2 harg2 arg3 harg3 arg4 harg4 arg5 harg5 arg6 harg6 arg7 harg7 arg8 harg8 arg9 harg9 arg10 harg10 arg11 harg11 arg12 harg12 arg13 harg13 arg14 harg14)
          (fun _ => iprop(owns (c : Thread nD τ) arg2 fullShare q ∗ owns (c : Thread nD τ) arg3 fullShare kk ∗ owns (c : Thread nD τ) arg4 fullShare v ∗ owns (c : Thread nD τ) arg5 fullShare y ∗ owns (c : Thread nD τ) arg6 fullShare lse ∗ owns (c : Thread nD τ) arg7 fullShare dy ∗ owns (c : Thread nD τ) arg8 fullShare (dqOut (i 1).val q kk v y lse dy (fun _ => 0)) ∗ owns (c : Thread nD τ) arg9 fullShare (dkAcc (i 1).val q kk v y lse dy (2 * (i 1).val + 2) (start i X9)) ∗ owns (c : Thread nD τ) arg10 fullShare (dvAcc (i 1).val q kk lse dy (2 * (i 1).val + 2) (start i X10)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))) := by
  have hi : (i 1).val < 16 := (i 1).isLt
  simp only [cc0_mla_bwd_eq_skeleton]
  unfold cc0_mla_bwd_skel
  simp only [k0_part13_eq_skeleton, k0_part14_eq_skeleton, k0_part15_eq_skeleton, k0_part16_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%d14, %f14, -, H14⟩⟩
  by_cases hc : first i
  · have e9 : start i X9 = fun _ => 0 := if_pos hc
    have e10 : start i X10 = fun _ => 0 := if_pos hc
    sl_exec (disch := first | sl_exact hc)
    have hd := whole_at hf7 (inb := inb_S512x128_S512x128_0_0)
    have hl := whole_at hf6 (inb := inb_S512x128_S512x128_0_0)
    have hy := whole_at hf5 (inb := inb_S512x128_S512x128_0_0)
    iapply wp_wand_r
    isplitl [H2 H3 H4 H8 H9 H10 H11 H12 H13 H14]
    · iapply (rest_spec c i arg2 harg2 arg3 harg3 arg4 harg4 arg5 harg5 arg6 harg6 arg7 harg7 arg8 harg8 arg9 harg9 arg10 harg10 arg11 harg11 arg12 harg12 arg13 harg13 arg14 harg14 q kk v y lse dy (fun _ => 0) (start i X9) (start i X10) _ _ _ _ _ _ _ _ head_word query_word key_word
        (q_at hf2 0 rfl) (q_at hf2 1 rfl)
        (k_at hf3 0 (b := 2 * (i 1).val) (by omega) ((k0_off1_eq i 0).trans (vec2 (by show 512 * (i 1).val + 256 * 0 = _; omega) rfl)))
        (k_at hf3 1 (b := 2 * (i 1).val) (by omega) ((k0_off3_eq i 0).trans (vec2 (by show 512 * (i 1).val + 256 * 0 = _; omega) rfl)))
        (dob_at (dob_scratch (part_second hd) (part_first hd)) 0 rfl)
        (dob_at (dob_scratch (part_second hd) (part_first hd)) 1 rfl)
        (v_at hf4 (b := 2 * (i 1).val) (by omega) ((k0_off2_eq i 0).trans (vec2 (by show 512 * (i 1).val + 256 * 0 = _; omega) rfl))) E)
      unfold owns
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact hf4
      isplitl [H11]
      · iexists _; isplitr; swap; · iexact H11
        ipureintro; exact dob_scratch (part_second hd) (part_first hd)
      isplitl [H12]
      · iexists _; isplitr; swap; · iexact H12
        ipureintro; exact rows_scratch (inner_second hd hy) (log_second hl) (inner_first hd hy) (log_first hl)
      isplitl [H13]
      · iexists _; isplitr; swap; · iexact H13
        ipureintro; exact qt_scratch (whole_q hf2)
      isplitl [H14]
      · iexists _; isplitr; swap; · iexact H14
        ipureintro; exact dot_scratch hd
      isplitl [H8]
      · iexists _; isplitr; swap; · iexact H8
        ipureintro; exact zero_2
      isplitl [H9]
      · iexists _; isplitr; swap; · iexact H9
        ipureintro; exact zero_k.trans e9.symm
      iexists _; isplitr; swap; · iexact H10
      ipureintro; exact zero_v.trans e10.symm
    unfold owns
    iintro %u ⟨H2, H3, H4, H11, H12, H13, H14, H8, H9, H10⟩
    isplitl [H2]; · iexact H2
    isplitl [H3]; · iexact H3
    isplitl [H4]; · iexact H4
    isplitl [H5]; · iexists _; isplitr; swap; · iexact H5
                    ipureintro; exact hf5
    isplitl [H6]; · iexists _; isplitr; swap; · iexact H6
                    ipureintro; exact hf6
    isplitl [H7]; · iexists _; isplitr; swap; · iexact H7
                    ipureintro; exact hf7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14
  · have e9 : start i X9 = X9 := if_neg hc
    have e10 : start i X10 = X10 := if_neg hc
    sl_exec (disch := first | sl_exact hc)
    have hd := whole_at hf7 (inb := inb_S512x128_S512x128_0_0)
    have hl := whole_at hf6 (inb := inb_S512x128_S512x128_0_0)
    have hy := whole_at hf5 (inb := inb_S512x128_S512x128_0_0)
    iapply wp_wand_r
    isplitl [H2 H3 H4 H8 H9 H10 H11 H12 H13 H14]
    · iapply (rest_spec c i arg2 harg2 arg3 harg3 arg4 harg4 arg5 harg5 arg6 harg6 arg7 harg7 arg8 harg8 arg9 harg9 arg10 harg10 arg11 harg11 arg12 harg12 arg13 harg13 arg14 harg14 q kk v y lse dy (fun _ => 0) (start i X9) (start i X10) _ _ _ _ _ _ _ _ head_word query_word key_word
        (q_at hf2 0 rfl) (q_at hf2 1 rfl)
        (k_at hf3 0 (b := 2 * (i 1).val) (by omega) ((k0_off1_eq i 0).trans (vec2 (by show 512 * (i 1).val + 256 * 0 = _; omega) rfl)))
        (k_at hf3 1 (b := 2 * (i 1).val) (by omega) ((k0_off3_eq i 0).trans (vec2 (by show 512 * (i 1).val + 256 * 0 = _; omega) rfl)))
        (dob_at (dob_scratch (part_second hd) (part_first hd)) 0 rfl)
        (dob_at (dob_scratch (part_second hd) (part_first hd)) 1 rfl)
        (v_at hf4 (b := 2 * (i 1).val) (by omega) ((k0_off2_eq i 0).trans (vec2 (by show 512 * (i 1).val + 256 * 0 = _; omega) rfl))) E)
      unfold owns
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact hf4
      isplitl [H11]
      · iexists _; isplitr; swap; · iexact H11
        ipureintro; exact dob_scratch (part_second hd) (part_first hd)
      isplitl [H12]
      · iexists _; isplitr; swap; · iexact H12
        ipureintro; exact rows_scratch (inner_second hd hy) (log_second hl) (inner_first hd hy) (log_first hl)
      isplitl [H13]
      · iexists _; isplitr; swap; · iexact H13
        ipureintro; exact qt_scratch (whole_q hf2)
      isplitl [H14]
      · iexists _; isplitr; swap; · iexact H14
        ipureintro; exact dot_scratch hd
      isplitl [H8]
      · iexists _; isplitr; swap; · iexact H8
        ipureintro; exact zero_2
      isplitl [H9]
      · iexists _; isplitr; swap; · iexact H9
        ipureintro; exact hf9.trans e9.symm
      iexists _; isplitr; swap; · iexact H10
      ipureintro; exact hf10.trans e10.symm
    unfold owns
    iintro %u ⟨H2, H3, H4, H11, H12, H13, H14, H8, H9, H10⟩
    isplitl [H2]; · iexact H2
    isplitl [H3]; · iexact H3
    isplitl [H4]; · iexact H4
    isplitl [H5]; · iexists _; isplitr; swap; · iexact H5
                    ipureintro; exact hf5
    isplitl [H6]; · iexists _; isplitr; swap; · iexact H6
                    ipureintro; exact hf6
    isplitl [H7]; · iexists _; isplitr; swap; · iexact H7
                    ipureintro; exact hf7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Body

end Cert.KernelIdeal.Gen

end
-- ==== Proof.Run.lean ====
/- The idealized kernel's run: after its 32 points the three result arrays hold, for each query block the finished query
   gradient, and for each half of the heads the key and value gradients summed over its 16 query blocks. -/
module

public import proofs.«01_k».proof.Proof.Body
public import proofs.«01_k».proof.Proof.Gen.KernelIdeal.Frame
public import Idealize.ShloMosaic.Lib.Claim
public import Idealize.ShloMosaic.Lib.Exec
public import Idealize.ShloMosaic.Lib.Pipeline.ValueKit

@[expose] public section

set_option maxRecDepth 16384

noncomputable section

namespace Cert.KernelIdeal.Gen

open Cert.KernelIdeal.Spec Cert.KernelIdeal.Loads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What each point leaves -/

/-- The point of query block `u` in half `j` of the heads. -/
def pt (j u : ℕ) : Fin cfg0.N := (Fin.ofNat 32 (16 * j + u) : Fin 32)

theorem pt_self (t : Fin cfg0.N) : pt (t.val / 16) (t.val % 16) = t := by
  revert t; decide +kernel

/-- Query block `u`'s part of the key gradient. -/
def dkAt (c : Dev nD) (j u : ℕ) (x : S1x32x256x256.Idx) : EReal :=
  if (x 1).val < 2 * u + 2 then
    dkPart u (iblk m c 0 (pt j u)) (iblk m c 1 (pt j u)) (iblk m c 2 (pt j u)) (iblk m c 3 (pt j u)) (iblk m c 4 (pt j u)) (iblk m c 5 (pt j u)) (x 2) (key (x 1).val (x 3))
  else 0

/-- Query block `u`'s part of the value gradient. -/
def dvAt (c : Dev nD) (j u : ℕ) (x : S1x32x128x256.Idx) : EReal :=
  if (x 1).val < 2 * u + 2 then
    dvPart u (iblk m c 0 (pt j u)) (iblk m c 1 (pt j u)) (iblk m c 4 (pt j u)) (iblk m c 5 (pt j u)) (x 2) (key (x 1).val (x 3))
  else 0

/-- The key gradient after the first `n` query blocks. -/
def dkSum (c : Dev nD) (j n : ℕ) : Vec Ideal S1x32x256x256 .f32 := fun x => ∑ u ∈ Finset.range n, dkAt m c j u x

/-- The value gradient after the first `n` query blocks. -/
def dvSum (c : Dev nD) (j n : ℕ) : Vec Ideal S1x32x128x256 .f32 := fun x => ∑ u ∈ Finset.range n, dvAt m c j u x

/-- The query gradient of a point's queries. -/
def dqAt (c : Dev nD) (t : Fin cfg0.N) : Vec Ideal S512x256 .f32 :=
  dqOut (t.val % 16) (iblk m c 0 t) (iblk m c 1 t) (iblk m c 2 t) (iblk m c 3 t) (iblk m c 4 t) (iblk m c 5 t) (fun _ => 0)

theorem dk_step (c : Dev nD) (t : Fin cfg0.N) :
    dkAcc (t.val % 16) (iblk m c 0 t) (iblk m c 1 t) (iblk m c 2 t) (iblk m c 3 t) (iblk m c 4 t) (iblk m c 5 t) (2 * (t.val % 16) + 2)
      (dkSum m c (t.val / 16) (t.val % 16)) = dkSum m c (t.val / 16) (t.val % 16 + 1) := by
  funext x
  show _ = ∑ u ∈ Finset.range (t.val % 16 + 1), dkAt m c (t.val / 16) u x
  rw [Finset.sum_range_succ]; unfold dkAt; rw [pt_self]; rfl

theorem dv_step (c : Dev nD) (t : Fin cfg0.N) :
    dvAcc (t.val % 16) (iblk m c 0 t) (iblk m c 1 t) (iblk m c 4 t) (iblk m c 5 t) (2 * (t.val % 16) + 2)
      (dvSum m c (t.val / 16) (t.val % 16)) = dvSum m c (t.val / 16) (t.val % 16 + 1) := by
  funext x
  show _ = ∑ u ∈ Finset.range (t.val % 16 + 1), dvAt m c (t.val / 16) u x
  rw [Finset.sum_range_succ]; unfold dvAt; rw [pt_self]; rfl

theorem row_eq : ∀ t : Fin cfg0.N, (grid0.coords t 1).val = t.val % 16 := by decide +kernel
theorem first_iff : ∀ t : Fin cfg0.N, first (grid0.coords t) ↔ t.val % 16 = 0 := by decide +kernel

/-! ## The launch -/

/-- The pipeline's data: each input's buffer keeps its block, each output's is named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkSum m c (t.val / 16) (t.val % 16 + 1)
    | ⟨8, _⟩ => dvSum m c (t.val / 16) (t.val % 16 + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

theorem after_6 (c : Dev nD) (t : Fin cfg0.N) : (dats m 0 c).after 6 t = dqAt m c t := by dsimp only [dats]
theorem after_7 (c : Dev nD) (t : Fin cfg0.N) : (dats m 0 c).after 7 t = dkSum m c (t.val / 16) (t.val % 16 + 1) := by dsimp only [dats]
theorem after_8 (c : Dev nD) (t : Fin cfg0.N) : (dats m 0 c).after 8 t = dvSum m c (t.val / 16) (t.val % 16 + 1) := by dsimp only [dats]

/-- What the body adds to: the sum over the row's earlier query blocks. -/
theorem start_7 (c : Dev nD) (t : Fin cfg0.N) (d) :
    start (s := S1x32x256x256) (grid0.coords t) ((dats m 0 c).before 7 t d) = dkSum m c (t.val / 16) (t.val % 16) := by
  unfold start
  by_cases h : t.val % 16 = 0
  · rw [if_pos ((first_iff t).2 h), h]; rfl
  · rw [if_neg (mt (first_iff t).1 h), (dats m 0 c).before_out_acc 7 rfl t (by omega)
      (Bool.eq_false_iff.2 fun hf => by have := (flush0_7 _).1 hf; dsimp only at this; omega) (fun _ => rfl) d]
    unfold Dat.kept; dsimp only [dats]
    show dkSum m c ((t.val - 1) / 16) ((t.val - 1) % 16 + 1) = _
    rw [show (t.val - 1) / 16 = t.val / 16 by omega, show (t.val - 1) % 16 + 1 = t.val % 16 by omega]

theorem start_8 (c : Dev nD) (t : Fin cfg0.N) (d) :
    start (s := S1x32x128x256) (grid0.coords t) ((dats m 0 c).before 8 t d) = dvSum m c (t.val / 16) (t.val % 16) := by
  unfold start
  by_cases h : t.val % 16 = 0
  · rw [if_pos ((first_iff t).2 h), h]; rfl
  · rw [if_neg (mt (first_iff t).1 h), (dats m 0 c).before_out_acc 8 rfl t (by omega)
      (Bool.eq_false_iff.2 fun hf => by have := (flush0_8 _).1 hf; dsimp only at this; omega) (fun _ => rfl) d]
    unfold Dat.kept; dsimp only [dats]
    show dvSum m c ((t.val - 1) / 16) ((t.val - 1) % 16 + 1) = _
    rw [show (t.val - 1) / 16 = t.val / 16 by omega, show (t.val - 1) % 16 + 1 = t.val % 16 by omega]

/-- The scratch buffers at some contents, and the generator's register. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

set_option maxHeartbeats 2400000 in
/-- The body at a point, from its windows' buffers and the scratch. -/
theorem body_at (c : Dev nD) (t : Fin cfg0.N) :
    (iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))) : sProp 𝕄)
    ⊢ wp frame (wpE (defs₀ (F := Ideal)) Variants.none c none) Set.univ (bodyAt0 t) (fun _ =>
      iprop((dats m 0 c).Φ t.succ ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ owns (c : Thread nD τ) (win0_7.stage (cfg0.slots t 7)) fullShare ((dats m 0 c).after 7 t)
      ∗ owns (c : Thread nD τ) (win0_8.stage (cfg0.slots t 8)) fullShare ((dats m 0 c).after 8 t))) := by
  unfold bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply wp_wand_r
  isplitl [H0 H1 H2 H3 H4 H5 H6 H7 H8 HS0 HS1 HS2 HS3]
  · iapply (body_spec c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 7 t d7) ((dats m 0 c).before 8 t d8) Set.univ)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    isplitl [HS2]; · iexact HS2
    iexact HS3
  rw [row_eq, start_7, start_8, dk_step, dv_step]
  iintro %_ ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs_row (t : Fin cfg0.N) :
    defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, defs_row]
  exact triple_restated (body_at m c t) rfl .rfl fun _ => .rfl

set_option backward.isDefEq.respectTransparency.types false in
theorem runs : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-! ## The result arrays -/

theorem index_6 : ∀ t : Fin cfg0.N, win0_6.index t = ![t.val % 16, t.val / 16] := by decide +kernel
theorem index_7 : ∀ t : Fin cfg0.N, win0_7.index t = ![t.val / 16, 0, 0, 0] := by decide +kernel
theorem index_8 : ∀ t : Fin cfg0.N, win0_8.index t = ![t.val / 16, 0, 0, 0] := by decide +kernel

/-- The query gradient's array. -/
def dqArr (c : Dev nD) : Vec Ideal S8192x512 .f32 := fun x =>
  dqAt m c (pt ((x 1).val / 256) ((x 0).val / 512)) (ix2 (Fin.ofNat 512 (x 0).val) (Fin.ofNat 256 (x 1).val))

/-- The key gradient's array. -/
def dkArr (c : Dev nD) : Vec Ideal S2x32x256x256 .f32 := fun x => dkSum m c (x 0).val 16 (ix4 0 (x 1) (x 2) (x 3))

/-- The value gradient's array. -/
def dvArr (c : Dev nD) : Vec Ideal S2x32x128x256 .f32 := fun x => dvSum m c (x 0).val 16 (ix4 0 (x 1) (x 2) (x 3))

theorem arr_6 (c : Dev nD) : (dats m 0 c).arrAt 6 cfg0.N = dqArr m c := by
  refine (dats m 0 c).arrAt_eq_of_covers 6 _ (by decide +kernel) fun t hf y => ?_
  have e0 : ((win0_6.blk t).view.emb y 0 : ℕ) = t.val % 16 * 512 + (y 0).val := by blk_simp [index_6]
  have e1 : ((win0_6.blk t).view.emb y 1 : ℕ) = t.val / 16 * 256 + (y 1).val := by blk_simp [index_6]
  have y0 : (y 0).val < 512 := (y 0).isLt
  have y1 : (y 1).val < 256 := (y 1).isLt
  blk_simp
  rw [after_6]
  show dqAt m c t y = dqAt m c (pt (((win0_6.blk t).view.emb y 1 : ℕ) / 256) (((win0_6.blk t).view.emb y 0 : ℕ) / 512))
    (ix2 (Fin.ofNat 512 ((win0_6.blk t).view.emb y 0 : ℕ)) (Fin.ofNat 256 ((win0_6.blk t).view.emb y 1 : ℕ)))
  rw [e0, e1, show (t.val / 16 * 256 + (y 1).val) / 256 = t.val / 16 by omega,
    show (t.val % 16 * 512 + (y 0).val) / 512 = t.val % 16 by omega, pt_self]
  congr 1
  funext a
  refine Fin.ext ?_
  revert a
  refine Fin.forall_fin_two.2 ⟨?_, ?_⟩
  · show (y 0).val = (t.val % 16 * 512 + (y 0).val) % 512
    omega
  · show (y 1).val = (t.val / 16 * 256 + (y 1).val) % 256
    omega

theorem arr_7 (c : Dev nD) : (dats m 0 c).arrAt 7 cfg0.N = dkArr m c := by
  refine (dats m 0 c).arrAt_eq_of_covers 7 _ (by decide +kernel) fun t hf y => ?_
  have h := (flush0_7 t).1 hf
  have y0 : (y 0).val < 1 := (y 0).isLt
  have e0 : ((win0_7.blk t).view.emb y 0 : ℕ) = t.val / 16 := by blk_simp [index_7]
  have e1 : (win0_7.blk t).view.emb y 1 = y 1 := Fin.ext (by blk_simp [index_7])
  have e2 : (win0_7.blk t).view.emb y 2 = y 2 := Fin.ext (by blk_simp [index_7])
  have e3 : (win0_7.blk t).view.emb y 3 = y 3 := Fin.ext (by blk_simp [index_7])
  blk_simp
  rw [after_7]
  show dkSum m c (t.val / 16) (t.val % 16 + 1) y = dkSum m c ((win0_7.blk t).view.emb y 0 : ℕ) 16
    (ix4 0 ((win0_7.blk t).view.emb y 1) ((win0_7.blk t).view.emb y 2) ((win0_7.blk t).view.emb y 3))
  rw [h, e0, e1, e2, e3]
  congr 1
  obtain ⟨a, b, l, n, rfl⟩ := eta4 (n0 := 1) (n1 := 32) (n2 := 256) (n3 := 256) y
  rw [Subsingleton.elim a 0]; rfl

theorem arr_8 (c : Dev nD) : (dats m 0 c).arrAt 8 cfg0.N = dvArr m c := by
  refine (dats m 0 c).arrAt_eq_of_covers 8 _ (by decide +kernel) fun t hf y => ?_
  have h := (flush0_8 t).1 hf
  have y0 : (y 0).val < 1 := (y 0).isLt
  have e0 : ((win0_8.blk t).view.emb y 0 : ℕ) = t.val / 16 := by blk_simp [index_8]
  have e1 : (win0_8.blk t).view.emb y 1 = y 1 := Fin.ext (by blk_simp [index_8])
  have e2 : (win0_8.blk t).view.emb y 2 = y 2 := Fin.ext (by blk_simp [index_8])
  have e3 : (win0_8.blk t).view.emb y 3 = y 3 := Fin.ext (by blk_simp [index_8])
  blk_simp
  rw [after_8]
  show dvSum m c (t.val / 16) (t.val % 16 + 1) y = dvSum m c ((win0_8.blk t).view.emb y 0 : ℕ) 16
    (ix4 0 ((win0_8.blk t).view.emb y 1) ((win0_8.blk t).view.emb y 2) ((win0_8.blk t).view.emb y 3))
  rw [h, e0, e1, e2, e3]
  congr 1
  obtain ⟨a, b, l, n, rfl⟩ := eta4 (n0 := 1) (n1 := 32) (n2 := 128) (n3 := 256) y
  rw [Subsingleton.elim a 0]; rfl

/-- What the run leaves: the three gradients in their arrays, the arguments as they were, every semaphore at zero. -/
theorem results : θ_run defs (onTc (τ := τ) (main (F := Ideal))) ⟨m, fun _ => 0, ρ⟩ (fun r => (∀ c : Dev nD,
      r.2.mem ((c.tc : Thread nD τ).loc main_v41_0) = dqArr m c
      ∧ r.2.mem ((c.tc : Thread nD τ).loc main_v41_1) = dkArr m c
      ∧ r.2.mem ((c.tc : Thread nD τ).loc main_v41_2) = dvArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 6).trans (arr_6 m c), ((h.1 c).1 7).trans (arr_7 m c), ((h.1 c).1 8).trans (arr_8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 5).trans (((dats m 0 c).arrAt_in 5 rfl _).trans ((A_eq m c 5).trans (V_main_arg3 m c)))⟩, h.2⟩) (runs m ρ)

end Cert.KernelIdeal.Gen

end
-- ==== Proof.Block.lean ====
/- What the body computes at a point of the grid, over the reals: its blocks hold rows of finite arguments and of the saved
   forward values. -/
module

public import proofs.«01_k».proof.Proof.Attention

@[expose] public section

noncomputable section

namespace Cert.Block

open Idealize.ShloMosaic
open Cert.KernelIdeal.Spec
open Cert.Attention (coe_sum root_ne logtwo_ne)

/-- A head's 96 lanes padded with zeros to 128. -/
def padded (f : Fin 96 → ℝ) (c : Fin 128) : ℝ := if h : c.val < 96 then f ⟨c.val, h⟩ else 0

/-- The head of half `e` in column block `j`. -/
def head (j e : Fin 2) : Fin 4 := ⟨j.val * 2 + e.val, by omega⟩

/-- Row `r` of the `u`-th block of 512 queries. -/
def row (u : ℕ) (r : Fin 512) : Fin 8192 := Fin.ofNat 8192 (512 * u + r.val)

theorem row_val {u : ℕ} (hu : u < 16) (r : Fin 512) : (row u r).val = 512 * u + r.val := by
  show (512 * u + r.val) % 8192 = _
  omega

/-- A lane's place in its half. -/
def low (l : Fin 256) : Fin 128 := ⟨l.val % 128, by omega⟩

/-- A channel's place in its half. -/
def chan (l : Fin 128) : Fin 64 := ⟨l.val % 64, by omega⟩

theorem lane_half (l : Fin 256) : lane (half l) (low l) = l := Fin.ext (show 128 * (l.val / 128) + l.val % 128 = l.val by omega)

theorem sum_padded (f g : Fin 96 → ℝ) : ∑ c, padded f c * padded g c = ∑ d, f d * g d := by
  rw [show (∑ c : Fin 128, padded f c * padded g c) = ∑ c : Fin (96 + 32), padded f c * padded g c from rfl, Fin.sum_univ_add,
    Finset.sum_eq_zero (s := Finset.univ (α := Fin 32)), add_zero]
  · refine Finset.sum_congr rfl fun d _ => ?_
    have h : ((Fin.castAdd 32 d : Fin (96 + 32)) : ℕ) < 96 := d.isLt
    rw [padded, padded, dif_pos h, dif_pos h]
    rfl
  · intro d _
    have h : ¬ ((Fin.natAdd 96 d : Fin (96 + 32)) : ℕ) < 96 := by rw [Fin.val_natAdd]; omega
    rw [padded, dif_neg h, zero_mul]

theorem sum_side (f : Fin 2 → Fin 64 → ℝ) (e : Fin 2) : ∑ l : Fin 128, (if side l = e then f (side l) (chan l) else 0) = ∑ d, f e d := by
  have hs : ∀ x : Fin 2 × Fin 64, side (finProdFinEquiv x : Fin (2 * 64)) = x.1 := fun x => Fin.ext (by
    show (x.2.val + 64 * x.1.val) / 64 = x.1.val
    omega)
  have hc : ∀ x : Fin 2 × Fin 64, chan (finProdFinEquiv x : Fin (2 * 64)) = x.2 := fun x => Fin.ext (by
    show (x.2.val + 64 * x.1.val) % 64 = x.2.val
    omega)
  rw [← Fintype.sum_equiv (finProdFinEquiv (m := 2) (n := 64)) (fun x => if x.1 = e then f x.1 x.2 else 0)
    (fun l : Fin 128 => if side l = e then f (side l) (chan l) else 0) (fun x => by rw [hs, hc]), Fintype.sum_prod_type]
  rw [Finset.sum_eq_single e (fun b _ hb => by simp [hb]) (fun h => absurd (Finset.mem_univ e) h)]
  simp

theorem sum_rows (f : Fin 8192 → ℝ) : ∑ u ∈ Finset.range 16, ∑ r, f (row u r) = ∑ i, f i := by
  rw [Finset.sum_range, ← Fintype.sum_equiv (finProdFinEquiv (m := 16) (n := 512)) (fun x => f (row x.1.val x.2)) f
    (fun x => congrArg f (Fin.ext (by
      rw [row_val x.1.isLt]
      show _ = x.2.val + 512 * x.1.val
      omega))), Fintype.sum_prod_type]

theorem sum_keys (f : Fin 8192 → ℝ) : ∑ b ∈ Finset.range 32, ∑ n, f (key b n) = ∑ i, f i := by
  rw [Finset.sum_range, ← Fintype.sum_equiv (finProdFinEquiv (m := 32) (n := 256)) (fun x => f (key x.1.val x.2)) f
    (fun x => congrArg f (Fin.ext (by
      rw [key_val x.1.isLt]
      show _ = x.2.val + 256 * x.1.val
      omega))), Fintype.sum_prod_type]

section

variable (q k : Fin 8192 → Fin 4 → Fin 96 → ℝ) (v D : Fin 8192 → Fin 4 → Fin 64 → ℝ) (M : Fin 4 → Fin 8192 → ℝ)

/-- The blocks of grid point `(j, u)`: rows of the finite arguments and of the saved values. -/
structure Holds (j : Fin 2) (u : ℕ) (qb : Vec Ideal Cert.KernelIdeal.S512x256 .bf16) (kb : Vec Ideal Cert.KernelIdeal.S8192x256 .bf16)
    (vb : Vec Ideal Cert.KernelIdeal.S8192x128 .bf16) (yb lb db : Vec Ideal Cert.KernelIdeal.S512x128 .f32) : Prop where
  q_at : ∀ r l, qb (ix2 r l) = ((padded (q (row u r) (head j (half l))) (low l) * (1 / (Real.sqrt 96 * Real.log 2)) : ℝ) : EReal)
  k_at : ∀ n l, kb (ix2 n l) = ((padded (k n (head j (half l))) (low l) : ℝ) : EReal)
  v_at : ∀ n l, vb (ix2 n l) = ((v n (head j (side l)) (chan l) : ℝ) : EReal)
  y_at : ∀ r l, yb (ix2 r l) = ((∑ n, v n (head j (side l)) (chan l) * Attention.share q k M (head j (side l)) (row u r) n : ℝ) : EReal)
  lse_at : ∀ r l, lb (ix2 r l)
    = ((M (head j (side l)) (row u r) + Real.log (Attention.tot q k M (head j (side l)) (row u r)) : ℝ) : EReal)
  dy_at : ∀ r l, db (ix2 r l) = ((D (row u r) (head j (side l)) (chan l) : ℝ) : EReal)

variable {q k v D M}
variable {j : Fin 2} {u : ℕ} {qb : Vec Ideal Cert.KernelIdeal.S512x256 .bf16} {kb : Vec Ideal Cert.KernelIdeal.S8192x256 .bf16}
  {vb : Vec Ideal Cert.KernelIdeal.S8192x128 .bf16} {yb lb db : Vec Ideal Cert.KernelIdeal.S512x128 .f32}
  (hu : u < 16) (H : Holds q k v D M j u qb kb vb yb lb db)

theorem half_lane (e : Fin 2) (c : Fin 128) : half (lane e c) = e := Fin.ext (show (128 * e.val + c.val) / 128 = e.val by omega)
theorem low_lane (e : Fin 2) (c : Fin 128) : low (lane e c) = c := Fin.ext (show (128 * e.val + c.val) % 128 = c.val by omega)

include H

theorem score_real (e : Fin 2) (r : Fin 512) (n : Fin 8192) :
    score qb kb e r n = ((Attention.score q k (head j e) (row u r) n * (1 / Real.log 2) : ℝ) : EReal) := by
  simp only [score, H.q_at, H.k_at, half_lane, low_lane, ← EReal.coe_mul, coe_sum]
  refine congrArg _ ?_
  rw [Attention.score, ← sum_padded, Finset.sum_mul, Finset.sum_mul]
  refine Finset.sum_congr rfl fun c _ => ?_
  have := root_ne
  have := logtwo_ne
  field_simp

theorem logsum_real (e : Fin 2) (r : Fin 512) (n : ℕ) : logsum lb e r n
    = (((M (head j e) (row u r) + Real.log (Attention.tot q k M (head j e) (row u r))) * (Real.log 2)⁻¹ : ℝ) : EReal) := by
  have hs : ∀ h, side (⟨64 * e.val + n % 64, h⟩ : Fin 128) = e := fun h => Fin.ext (show (64 * e.val + n % 64) / 64 = e.val by omega)
  rw [logsum, H.lse_at, hs, ← EReal.coe_mul]

theorem delta_real (e : Fin 2) (r : Fin 512) :
    delta yb db e r = ((Attention.inner q k v D M (head j e) (row u r) : ℝ) : EReal) := by
  rw [← Attention.inner_result, ← sum_side (fun e d => D (row u r) (head j e) d * ∑ n, v n (head j e) d * Attention.share q k M (head j e) (row u r) n) e,
    ← coe_sum, delta]
  refine Finset.sum_congr rfl fun l _ => ?_
  rw [part, H.dy_at, H.y_at]
  split
  · rw [← EReal.coe_mul]
  · rw [zero_mul, EReal.coe_zero]

theorem dprob_real (e : Fin 2) (r : Fin 512) (n : Fin 8192) :
    dprob vb db e r n = ((Attention.dshare v D (head j e) (row u r) n : ℝ) : EReal) := by
  rw [Attention.dshare, ← sum_side (fun e d => D (row u r) (head j e) d * v n (head j e) d) e, ← coe_sum, dprob]
  refine Finset.sum_congr rfl fun l _ => ?_
  rw [part, H.dy_at, H.v_at]
  split
  · rw [← EReal.coe_mul]
  · rw [zero_mul, EReal.coe_zero]

include hu

theorem prob_real (e : Fin 2) (r : Fin 512) (n : Fin 8192) :
    prob u qb kb lb e r n = ((Attention.share q k M (head j e) (row u r) n : ℝ) : EReal) := by
  rw [prob, score_real H, logsum_real H, Attention.share, Attention.wt, row_val hu]
  have hL := Attention.tot_pos q k M (head j e) (row u r)
  split
  · rw [← EReal.coe_sub, Ideal.exp2_coe]
    refine congrArg _ ?_
    show (2 : ℝ) ^ (_ : ℝ) = _
    rw [Real.rpow_def_of_pos (by norm_num)]
    have h2 := logtwo_ne
    rw [show Real.log 2 * (Attention.score q k (head j e) (row u r) n * (1 / Real.log 2)
        - (M (head j e) (row u r) + Real.log (Attention.tot q k M (head j e) (row u r))) * (Real.log 2)⁻¹)
      = (Attention.score q k (head j e) (row u r) n - M (head j e) (row u r)) - Real.log (Attention.tot q k M (head j e) (row u r)) by
        field_simp; ring, Real.exp_sub, Real.exp_log hL]
    ring
  · rw [EReal.bot_sub, Ideal.exp2_bot, zero_mul, EReal.coe_zero]

theorem dscore_real (e : Fin 2) (r : Fin 512) (n : Fin 8192) :
    dscore u qb kb vb yb lb db e r n = ((Attention.dscore q k v D M (head j e) (row u r) n : ℝ) : EReal) := by
  rw [dscore, prob_real hu H, dprob_real H, delta_real H, ← EReal.coe_sub, ← EReal.coe_mul, Attention.dscore]

theorem dqPart_real (r : Fin 512) (l : Fin 256) (b : ℕ) : dqPart u qb kb vb yb lb db r l b
    = ((∑ n, Attention.dscore q k v D M (head j (half l)) (row u r) (key b n) * padded (k (key b n) (head j (half l))) (low l) : ℝ) : EReal) := by
  simp only [dqPart, dscore_real hu H, H.k_at, ← EReal.coe_mul, coe_sum]

theorem dkPart_real (l : Fin 256) (n : Fin 8192) : dkPart u qb kb vb yb lb db l n
    = ((∑ r, padded (q (row u r) (head j (half l))) (low l) * (1 / (Real.sqrt 96 * Real.log 2))
        * Attention.dscore q k v D M (head j (half l)) (row u r) n : ℝ) : EReal) := by
  simp only [dkPart, dscore_real hu H, H.q_at, ← EReal.coe_mul, coe_sum]

theorem dvPart_real (l : Fin 128) (n : Fin 8192) : dvPart u qb kb lb db l n
    = ((∑ r, D (row u r) (head j (side l)) (chan l) * Attention.share q k M (head j (side l)) (row u r) n : ℝ) : EReal) := by
  simp only [dvPart, prob_real hu H, H.dy_at, ← EReal.coe_mul, coe_sum]

end

end Cert.Block

end
-- ==== Proof.Holds.lean ====
/- The blocks at every point of the grid, read as rows of the finite arguments and of the saved forward values. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Meet

open Cert.KernelIdeal Cert.KernelIdeal.Gen Cert.KernelIdeal.Spec Cert.KernelIdeal.Saved Cert.Block
open Idealize.ShloMosaic Idealize.ShloMosaic.TcCoe Idealize.ShloMosaic.Tactic
open Cert.Attention (coe_sum root_ne logtwo_ne)
open Cert.ReferenceIdeal.Grad (channel)

variable (m : (ℓ : Loc nD τ sig) → Buf (Elt Ideal) ℓ) (c : Dev nD)

/-! ## The blocks -/

theorem index_0 : ∀ t : Fin cfg0.N, win0_0.index t = ![t.val % 16, t.val / 16] := by decide +kernel
theorem index_1 : ∀ t : Fin cfg0.N, win0_1.index t = ![0, t.val / 16] := by decide +kernel
theorem index_2 : ∀ t : Fin cfg0.N, win0_2.index t = ![0, t.val / 16] := by decide +kernel
theorem index_3 : ∀ t : Fin cfg0.N, win0_3.index t = ![t.val % 16, t.val / 16] := by decide +kernel
theorem index_4 : ∀ t : Fin cfg0.N, win0_4.index t = ![t.val % 16, t.val / 16] := by decide +kernel
theorem index_5 : ∀ t : Fin cfg0.N, win0_5.index t = ![t.val % 16, t.val / 16] := by decide +kernel

/-- Two numbers give an index of two coordinates. -/
theorem ix2_of {n0 n1 : ℕ} {x : (a : Fin 2) → Fin ((![n0, n1] : Fin 2 → ℕ) a)} {a : Fin n0} {b : Fin n1}
    (ha : (x 0).val = a.val) (hb : (x 1).val = b.val) : x = ix2 a b :=
  funext (Fin.forall_fin_two.2 ⟨Fin.ext ha, Fin.ext hb⟩)

theorem lt_two (t : Fin cfg0.N) : t.val / 16 < 2 := by
  have : t.val < 32 := t.isLt
  omega

theorem emb_q (t : Fin cfg0.N) (r : Fin 512) (l : Fin 256) : ((win0_0.blk t).view.emb (ix2 r l) : S8192x512.Idx)
    = ix2 (row (t.val % 16) r) ⟨t.val / 16 * 256 + l.val, by have := lt_two t; omega⟩ := by
  have hr := row_val (u := t.val % 16) (by omega) r
  refine ix2_of ?_ ?_
  · rw [hr]
    blk_simp [index_0]
    omega
  · blk_simp [index_0]

theorem read_q (X : (b : Ref sig .tc) → Buf (Elt Ideal) ((c : Thread nD τ).loc b)) (t : Fin cfg0.N) (r : Fin 512) (l : Fin 256) :
    (((cfg0.win 0).blk t).view.read (Elt Ideal) (X (Pipeline.arrRef spec0 0)) : Vec Ideal S512x256 .bf16) (ix2 r l)
      = (X main_v7 : FVec Ideal S8192x512 .bf16) (ix2 (row (t.val % 16) r) ⟨t.val / 16 * 256 + l.val, by have := lt_two t; omega⟩) :=
  congrArg (X main_v7) (emb_q t r l)

theorem block_q {A : FVec Ideal S8192x512 .bf16} (hA : V m c main_v7 = A) (t : Fin cfg0.N) (r : Fin 512) (l : Fin 256) :
    (iblk m c 0 t : Vec Ideal S512x256 .bf16) (ix2 r l) = A (ix2 (row (t.val % 16) r) ⟨t.val / 16 * 256 + l.val, by have := lt_two t; omega⟩) := by
  subst hA
  unfold iblk
  exact read_q c (V m c) t r l

theorem emb_k (t : Fin cfg0.N) (r : Fin 8192) (l : Fin 256) : ((win0_1.blk t).view.emb (ix2 r l) : S8192x512.Idx)
    = ix2 r ⟨t.val / 16 * 256 + l.val, by have := lt_two t; omega⟩ := by
  refine ix2_of ?_ ?_
  · blk_simp [index_1]
  · blk_simp [index_1]

theorem read_k (X : (b : Ref sig .tc) → Buf (Elt Ideal) ((c : Thread nD τ).loc b)) (t : Fin cfg0.N) (r : Fin 8192) (l : Fin 256) :
    (((cfg0.win 1).blk t).view.read (Elt Ideal) (X (Pipeline.arrRef spec0 1)) : Vec Ideal S8192x256 .bf16) (ix2 r l)
      = (X main_v10 : FVec Ideal S8192x512 .bf16) (ix2 r ⟨t.val / 16 * 256 + l.val, by have := lt_two t; omega⟩) :=
  congrArg (X main_v10) (emb_k t r l)

theorem block_k {A : FVec Ideal S8192x512 .bf16} (hA : V m c main_v10 = A) (t : Fin cfg0.N) (r : Fin 8192) (l : Fin 256) :
    (iblk m c 1 t : Vec Ideal S8192x256 .bf16) (ix2 r l) = A (ix2 r ⟨t.val / 16 * 256 + l.val, by have := lt_two t; omega⟩) := by
  subst hA
  unfold iblk
  exact read_k c (V m c) t r l

theorem emb_v (t : Fin cfg0.N) (r : Fin 8192) (l : Fin 128) : ((win0_2.blk t).view.emb (ix2 r l) : S8192x256.Idx)
    = ix2 r ⟨t.val / 16 * 128 + l.val, by have := lt_two t; omega⟩ := by
  refine ix2_of ?_ ?_
  · blk_simp [index_2]
  · blk_simp [index_2]

theorem read_v (X : (b : Ref sig .tc) → Buf (Elt Ideal) ((c : Thread nD τ).loc b)) (t : Fin cfg0.N) (r : Fin 8192) (l : Fin 128) :
    (((cfg0.win 2).blk t).view.read (Elt Ideal) (X (Pipeline.arrRef spec0 2)) : Vec Ideal S8192x128 .bf16) (ix2 r l)
      = (X main_v12 : FVec Ideal S8192x256 .bf16) (ix2 r ⟨t.val / 16 * 128 + l.val, by have := lt_two t; omega⟩) :=
  congrArg (X main_v12) (emb_v t r l)

theorem block_v {A : FVec Ideal S8192x256 .bf16} (hA : V m c main_v12 = A) (t : Fin cfg0.N) (r : Fin 8192) (l : Fin 128) :
    (iblk m c 2 t : Vec Ideal S8192x128 .bf16) (ix2 r l) = A (ix2 r ⟨t.val / 16 * 128 + l.val, by have := lt_two t; omega⟩) := by
  subst hA
  unfold iblk
  exact read_v c (V m c) t r l

theorem emb_y (t : Fin cfg0.N) (r : Fin 512) (l : Fin 128) : ((win0_3.blk t).view.emb (ix2 r l) : S8192x256.Idx)
    = ix2 (row (t.val % 16) r) ⟨t.val / 16 * 128 + l.val, by have := lt_two t; omega⟩ := by
  have hr := row_val (u := t.val % 16) (by omega) r
  refine ix2_of ?_ ?_
  · rw [hr]
    blk_simp [index_3]
    omega
  · blk_simp [index_3]

theorem read_y (X : (b : Ref sig .tc) → Buf (Elt Ideal) ((c : Thread nD τ).loc b)) (t : Fin cfg0.N) (r : Fin 512) (l : Fin 128) :
    (((cfg0.win 3).blk t).view.read (Elt Ideal) (X (Pipeline.arrRef spec0 3)) : Vec Ideal S512x128 .f32) (ix2 r l)
      = (X main_v35 : FVec Ideal S8192x256 .f32) (ix2 (row (t.val % 16) r) ⟨t.val / 16 * 128 + l.val, by have := lt_two t; omega⟩) :=
  congrArg (X main_v35) (emb_y t r l)

theorem block_y {A : FVec Ideal S8192x256 .f32} (hA : V m c main_v35 = A) (t : Fin cfg0.N) (r : Fin 512) (l : Fin 128) :
    (iblk m c 3 t : Vec Ideal S512x128 .f32) (ix2 r l) = A (ix2 (row (t.val % 16) r) ⟨t.val / 16 * 128 + l.val, by have := lt_two t; omega⟩) := by
  subst hA
  unfold iblk
  exact read_y c (V m c) t r l

theorem emb_lse (t : Fin cfg0.N) (r : Fin 512) (l : Fin 128) : ((win0_4.blk t).view.emb (ix2 r l) : S8192x256.Idx)
    = ix2 (row (t.val % 16) r) ⟨t.val / 16 * 128 + l.val, by have := lt_two t; omega⟩ := by
  have hr := row_val (u := t.val % 16) (by omega) r
  refine ix2_of ?_ ?_
  · rw [hr]
    blk_simp [index_4]
    omega
  · blk_simp [index_4]

theorem read_lse (X : (b : Ref sig .tc) → Buf (Elt Ideal) ((c : Thread nD τ).loc b)) (t : Fin cfg0.N) (r : Fin 512) (l : Fin 128) :
    (((cfg0.win 4).blk t).view.read (Elt Ideal) (X (Pipeline.arrRef spec0 4)) : Vec Ideal S512x128 .f32) (ix2 r l)
      = (X main_v40 : FVec Ideal S8192x256 .f32) (ix2 (row (t.val % 16) r) ⟨t.val / 16 * 128 + l.val, by have := lt_two t; omega⟩) :=
  congrArg (X main_v40) (emb_lse t r l)

theorem block_lse {A : FVec Ideal S8192x256 .f32} (hA : V m c main_v40 = A) (t : Fin cfg0.N) (r : Fin 512) (l : Fin 128) :
    (iblk m c 4 t : Vec Ideal S512x128 .f32) (ix2 r l) = A (ix2 (row (t.val % 16) r) ⟨t.val / 16 * 128 + l.val, by have := lt_two t; omega⟩) := by
  subst hA
  unfold iblk
  exact read_lse c (V m c) t r l

theorem emb_dy (t : Fin cfg0.N) (r : Fin 512) (l : Fin 128) : ((win0_5.blk t).view.emb (ix2 r l) : S8192x256.Idx)
    = ix2 (row (t.val % 16) r) ⟨t.val / 16 * 128 + l.val, by have := lt_two t; omega⟩ := by
  have hr := row_val (u := t.val % 16) (by omega) r
  refine ix2_of ?_ ?_
  · rw [hr]
    blk_simp [index_5]
    omega
  · blk_simp [index_5]

theorem read_dy (X : (b : Ref sig .tc) → Buf (Elt Ideal) ((c : Thread nD τ).loc b)) (t : Fin cfg0.N) (r : Fin 512) (l : Fin 128) :
    (((cfg0.win 5).blk t).view.read (Elt Ideal) (X (Pipeline.arrRef spec0 5)) : Vec Ideal S512x128 .f32) (ix2 r l)
      = (X main_arg3 : FVec Ideal S8192x256 .f32) (ix2 (row (t.val % 16) r) ⟨t.val / 16 * 128 + l.val, by have := lt_two t; omega⟩) :=
  congrArg (X main_arg3) (emb_dy t r l)

theorem block_dy {A : FVec Ideal S8192x256 .f32} (hA : V m c main_arg3 = A) (t : Fin cfg0.N) (r : Fin 512) (l : Fin 128) :
    (iblk m c 5 t : Vec Ideal S512x128 .f32) (ix2 r l) = A (ix2 (row (t.val % 16) r) ⟨t.val / 16 * 128 + l.val, by have := lt_two t; omega⟩) := by
  subst hA
  unfold iblk
  exact read_dy c (V m c) t r l

/-! ## The blocks over the reals -/

section

variable {m c}
variable {q k : Fin 8192 → Fin 4 → Fin 96 → ℝ} {v D : Fin 8192 → Fin 4 → Fin 64 → ℝ} {M : Fin 4 → Fin 8192 → ℝ}
  (hq : ∀ i h d, argq m c (ix3 i h d) = ((q i h d : ℝ) : EReal)) (hk : ∀ i h d, argk m c (ix3 i h d) = ((k i h d : ℝ) : EReal))
  (hv : ∀ i h d, argv m c (ix3 i h d) = ((v i h d : ℝ) : EReal))
  (hD : ∀ (i : Fin 8192) (h : Fin 4) (d : Fin 64), argdy m c (ix2 i (channel h d)) = ((D i h d : ℝ) : EReal))
  (hM : ∀ h i, rowMax (argq m c) (argk m c) (ix2 h i) = ((M h i : ℝ) : EReal))

/-- A lane of a column block is its head's lane. -/
theorem lane_head (j : Fin 2) (l : Fin 256) (h) : (⟨(j.val * 256 + l.val) / 128, h⟩ : Fin 4) = head j (half l) :=
  Fin.ext (show (j.val * 256 + l.val) / 128 = j.val * 2 + l.val / 128 by omega)

theorem chan_head (j : Fin 2) (l : Fin 128) (h) : (⟨(j.val * 128 + l.val) / 64, h⟩ : Fin 4) = head j (side l) :=
  Fin.ext (show (j.val * 128 + l.val) / 64 = j.val * 2 + l.val / 64 by omega)

theorem chan_low (j : Fin 2) (l : Fin 128) (h) : (⟨(j.val * 128 + l.val) % 64, h⟩ : Fin 64) = chan l :=
  Fin.ext (show (j.val * 128 + l.val) % 64 = l.val % 64 by omega)

include hq in
theorem operandq_real (i : Fin 8192) (j : Fin 2) (l : Fin 256) (h) : operandq (argq m c) (ix2 i ⟨j.val * 256 + l.val, h⟩)
    = ((padded (q i (head j (half l))) (low l) * (1 / (Real.sqrt 96 * Real.log 2)) : ℝ) : EReal) := by
  rw [operandq_at, Attention.root, Attention.logtwo, padded]
  have e : (j.val * 256 + l.val) % 128 = l.val % 128 := by omega
  by_cases hl : l.val % 128 < 96
  · rw [dif_pos ⟨by show (j.val * 256 + l.val) / 128 < 4; omega, by show (j.val * 256 + l.val) % 128 < 96; omega⟩,
      dif_pos (show (low l).val < 96 from hl), hq, ← EReal.coe_mul, Attention.div_reals _ (mul_ne_zero root_ne logtwo_ne), lane_head]
    exact congrArg (fun d : Fin 96 => ((q i (head j (half l)) d * (1 / (Real.sqrt 96 * Real.log 2)) : ℝ) : EReal)) (Fin.ext e)
  · rw [dif_neg (fun h => hl (e ▸ h.2)), dif_neg (show ¬ (low l).val < 96 from hl), zero_mul, EReal.coe_zero]

include hk in
theorem operandk_real (i : Fin 8192) (j : Fin 2) (l : Fin 256) (h) : operandk (argk m c) (ix2 i ⟨j.val * 256 + l.val, h⟩)
    = ((padded (k i (head j (half l))) (low l) : ℝ) : EReal) := by
  rw [operandk_at, padded]
  have e : (j.val * 256 + l.val) % 128 = l.val % 128 := by omega
  by_cases hl : l.val % 128 < 96
  · rw [dif_pos ⟨by show (j.val * 256 + l.val) / 128 < 4; omega, by show (j.val * 256 + l.val) % 128 < 96; omega⟩,
      dif_pos (show (low l).val < 96 from hl), hk, lane_head]
    exact congrArg (fun d : Fin 96 => ((k i (head j (half l)) d : ℝ) : EReal)) (Fin.ext e)
  · rw [dif_neg (fun h => hl (e ▸ h.2)), dif_neg (show ¬ (low l).val < 96 from hl), EReal.coe_zero]

/-- The saved logarithms of arrays that hold reals. -/
theorem lse_real {A B : FVec Ideal S4x8192 .f32} (hA : ∀ h i, A (ix2 h i) = ((M h i : ℝ) : EReal))
    (hB : ∀ h i, B (ix2 h i) = ((Attention.tot q k M h i : ℝ) : EReal)) (i : Fin 8192) (j : Fin 2) (l : Fin 128) (h) :
    savedlse A B (ix2 i ⟨j.val * 128 + l.val, h⟩)
      = ((M (head j (side l)) i + Real.log (Attention.tot q k M (head j (side l)) i) : ℝ) : EReal) := by
  rw [savedlse_at, lanes_at, logs_at]
  simp only [chan_head]
  rw [hA, hB, Ideal.log_coe, if_neg (not_le.mpr (Attention.tot_pos q k M _ _)), ← EReal.coe_add]

include hv in
theorem operandv_real (i : Fin 8192) (j : Fin 2) (l : Fin 128) (h) : operandv (argv m c) (ix2 i ⟨j.val * 128 + l.val, h⟩)
    = ((v i (head j (side l)) (chan l) : ℝ) : EReal) := by
  rw [operandv_at, hv]
  simp only [chan_head, chan_low]

include hv in
/-- The forward result of shares that are reals. -/
theorem savedy_real {A : FVec Ideal S4x8192x8192 .f32} (hA : ∀ h i n, A (ix3 h i n) = ((Attention.share q k M h i n : ℝ) : EReal))
    (i : Fin 8192) (j : Fin 2) (l : Fin 128) (h) : savedy (argv m c) A (ix2 i ⟨j.val * 128 + l.val, h⟩)
      = ((∑ n, v n (head j (side l)) (chan l) * Attention.share q k M (head j (side l)) i n : ℝ) : EReal) := by
  rw [savedy_at]
  simp only [chan_head, chan_low, hv, hA, ← EReal.coe_mul, coe_sum]

include hq hk hv hD hM in
/-- Every point's blocks hold the rows they should. -/
theorem holds (t : Fin cfg0.N) (j : Fin 2) (u : ℕ) (hj : t.val / 16 = j.val) (hu : t.val % 16 = u) :
    Holds q k v D M j u (iblk m c 0 t) (iblk m c 1 t) (iblk m c 2 t) (iblk m c 3 t) (iblk m c 4 t) (iblk m c 5 t) where
  q_at r l := by
    refine (block_q m c (V_v7 m c) t r l).trans ?_
    simp only [hj, hu]
    exact operandq_real hq _ j l _
  k_at n l := by
    refine (block_k m c (V_v10 m c) t n l).trans ?_
    simp only [hj]
    exact operandk_real hk _ j l _
  v_at n l := by
    refine (block_v m c (V_v12 m c) t n l).trans ?_
    simp only [hj]
    exact operandv_real hv _ j l _
  y_at r l := by
    refine (block_y m c (V_v35 m c) t r l).trans ?_
    simp only [hj, hu]
    exact savedy_real hv (Attention.shares_real hq hk hM) _ j l _
  lse_at r l := by
    refine (block_lse m c (V_v40 m c) t r l).trans ?_
    simp only [hj, hu]
    exact lse_real hM (Attention.sums_real hq hk hM) _ j l _
  dy_at r l := by
    refine (block_dy m c (V_main_arg3 m c) t r l).trans ?_
    simp only [hj, hu]
    rw [← hD]
    refine congrArg (fun x => argdy m c (ix2 (row u r) x)) (Fin.ext ?_)
    show j.val * 128 + l.val = (j.val * 2 + l.val / 64) * 64 + l.val % 64
    omega

end

end Cert.Meet

end
-- ==== Proof.Meet.lean ====
/- The kernel's three arrays are the reference's, where the arguments are finite. -/
module

public import proofs.«01_k».proof.Proof.Run
public import proofs.«01_k».proof.Proof.Holds

@[expose] public section

set_option maxRecDepth 16384

noncomputable section

namespace Cert.Meet

open Cert.KernelIdeal Cert.KernelIdeal.Gen Cert.KernelIdeal.Spec Cert.KernelIdeal.Loads Cert.KernelIdeal.Saved Cert.Block
open Idealize.ShloMosaic Idealize.ShloMosaic.TcCoe Idealize.ShloMosaic.Tactic
open Cert.Attention (coe_sum root_ne logtwo_ne)
open Cert.ReferenceIdeal.Grad (channel)

section

variable {m : (ℓ : Loc nD τ sig) → Buf (Elt Ideal) ℓ} {c : Dev nD}
variable {q k : Fin 8192 → Fin 4 → Fin 96 → ℝ} {v D : Fin 8192 → Fin 4 → Fin 64 → ℝ} {M : Fin 4 → Fin 8192 → ℝ}
  (hq : ∀ i h d, argq m c (ix3 i h d) = ((q i h d : ℝ) : EReal)) (hk : ∀ i h d, argk m c (ix3 i h d) = ((k i h d : ℝ) : EReal))
  (hv : ∀ i h d, argv m c (ix3 i h d) = ((v i h d : ℝ) : EReal))
  (hD : ∀ (i : Fin 8192) (h : Fin 4) (d : Fin 64), argdy m c (ix2 i (channel h d)) = ((D i h d : ℝ) : EReal))
  (hM : ∀ h i, rowMax (argq m c) (argk m c) (ix2 h i) = ((M h i : ℝ) : EReal))

theorem pt_div (j : Fin 2) {u : ℕ} (hu : u < 16) : (pt j.val u).val / 16 = j.val := by
  show (16 * j.val + u) % 32 / 16 = j.val
  omega

theorem pt_mod (j : Fin 2) {u : ℕ} (hu : u < 16) : (pt j.val u).val % 16 = u := by
  show (16 * j.val + u) % 32 % 16 = u
  omega

include hq hk hv hD hM

/-! ## The arrays over the reals -/

theorem dq_real (j : Fin 2) {u : ℕ} (hu : u < 16) (r : Fin 512) (l : Fin 256) : dqAt m c (pt j.val u) (ix2 r l)
    = (((∑ n, Attention.dscore q k v D M (head j (half l)) (row u r) n * padded (k n (head j (half l))) (low l)) * Real.log 2 : ℝ) : EReal) := by
  have H := holds hq hk hv hD hM (pt j.val u) j u (pt_div j hu) (pt_mod j hu)
  have e : dqAt m c (pt j.val u) (ix2 r l) = (0 + ∑ b ∈ Finset.range (2 * u + 2), dqPart u (iblk m c 0 (pt j.val u)) (iblk m c 1 (pt j.val u))
      (iblk m c 2 (pt j.val u)) (iblk m c 3 (pt j.val u)) (iblk m c 4 (pt j.val u)) (iblk m c 5 (pt j.val u)) r l b) * ((Real.log 2 : ℝ) : EReal) := by
    rw [dqAt, pt_mod j hu]
    rfl
  rw [e]
  simp only [dqPart_real hu H]
  rw [coe_sum, zero_add, ← EReal.coe_mul, ← sum_keys]
  refine congrArg (fun x : ℝ => ((x * Real.log 2 : ℝ) : EReal)) (Finset.sum_subset (Finset.range_subset_range.mpr (by omega)) fun b hb hn => ?_)
  rw [Finset.mem_range] at hb hn
  refine Finset.sum_eq_zero fun n _ => ?_
  rw [Attention.dscore_after q k v D M, zero_mul]
  rw [row_val hu, key_val hb]
  omega

theorem dk_real (j : Fin 2) (b : Fin 32) (l n : Fin 256) : dkSum m c j.val 16 (ix4 0 b l n)
    = ((∑ i, padded (q i (head j (half l))) (low l) * (1 / (Real.sqrt 96 * Real.log 2))
        * Attention.dscore q k v D M (head j (half l)) i (key b.val n) : ℝ) : EReal) := by
  rw [← sum_rows, ← coe_sum]
  refine Finset.sum_congr rfl fun u hu => ?_
  rw [Finset.mem_range] at hu
  have H := holds hq hk hv hD hM (pt j.val u) j u (pt_div j hu) (pt_mod j hu)
  rw [← dkPart_real hu H]
  show (if b.val < 2 * u + 2 then _ else (0 : EReal)) = _
  split
  · rfl
  · rename_i hb
    rw [dkPart_real hu H, Finset.sum_eq_zero, EReal.coe_zero]
    intro r _
    rw [Attention.dscore_after q k v D M, mul_zero]
    rw [row_val hu, key_val b.isLt]
    omega

theorem dv_real (j : Fin 2) (b : Fin 32) (l : Fin 128) (n : Fin 256) : dvSum m c j.val 16 (ix4 0 b l n)
    = ((∑ i, D i (head j (side l)) (chan l) * Attention.share q k M (head j (side l)) i (key b.val n) : ℝ) : EReal) := by
  rw [← sum_rows, ← coe_sum]
  refine Finset.sum_congr rfl fun u hu => ?_
  rw [Finset.mem_range] at hu
  have H := holds hq hk hv hD hM (pt j.val u) j u (pt_div j hu) (pt_mod j hu)
  rw [← dvPart_real hu H]
  show (if b.val < 2 * u + 2 then _ else (0 : EReal)) = _
  split
  · rfl
  · rename_i hb
    rw [dvPart_real hu H, Finset.sum_eq_zero, EReal.coe_zero]
    intro r _
    rw [Attention.share_after q k M, mul_zero]
    rw [row_val hu, key_val b.isLt]
    omega

/-! ## The kernel's arrays are the reference's -/

open Cert.ReferenceIdeal.Grad (outq outq_at dqueries dqueries_at dprod outk outk_at dkeys dkeys_at outv outv_at dvalues dvalues_at heads
  heads_at wts tot most)

theorem dq_meets : dqArr m c = outq (dqueries (dprod (argq m c) (argk m c) (argv m c) (argdy m c)) (argk m c)) := by
  funext x
  obtain ⟨i, l, rfl⟩ := eta2 (n0 := 8192) (n1 := 512) x
  have hu : i.val / 512 < 16 := by omega
  have hd := dq_real hq hk hv hD hM ⟨l.val / 256, by omega⟩ hu (Fin.ofNat 512 i.val) (Fin.ofNat 256 l.val)
  have hi : row (i.val / 512) (Fin.ofNat 512 i.val) = i := Fin.ext (by
    rw [row_val hu]
    show 512 * (i.val / 512) + i.val % 512 = i.val
    omega)
  have hh : head ⟨l.val / 256, by omega⟩ (half (Fin.ofNat 256 l.val)) = ⟨l.val / 128, by omega⟩ := Fin.ext (by
    show l.val / 256 * 2 + l.val % 256 / 128 = l.val / 128
    omega)
  have hl : (low (Fin.ofNat 256 l.val)).val = l.val % 128 := by
    show l.val % 256 % 128 = l.val % 128
    omega
  rw [hi, hh] at hd
  refine Eq.trans (b := dqAt m c (pt (l.val / 256) (i.val / 512)) (ix2 (Fin.ofNat 512 i.val) (Fin.ofNat 256 l.val))) rfl (hd.trans ?_)
  rw [outq_at, Attention.root, Attention.logtwo]
  by_cases h : l.val % 128 < 96
  · rw [dif_pos ⟨by omega, h⟩, dqueries_at]
    simp only [Attention.dprod_real hq hk hv hD hM, hk, ← EReal.coe_mul, coe_sum]
    refine congrArg _ ?_
    simp only [padded, hl, dif_pos h]
    rw [Finset.sum_mul, Finset.sum_mul]
    refine Finset.sum_congr rfl fun n _ => ?_
    have := root_ne
    field_simp
  · rw [dif_neg (fun h' => h h'.2)]
    simp only [padded, hl, dif_neg h, mul_zero, Finset.sum_const_zero, zero_mul, EReal.coe_zero]

theorem dk_meets : dkArr m c = outk (dkeys (dprod (argq m c) (argk m c) (argv m c) (argdy m c)) (argq m c)) := by
  funext x
  obtain ⟨j, b, l, n, rfl⟩ := eta4 (n0 := 2) (n1 := 32) (n2 := 256) (n3 := 256) x
  refine Eq.trans (b := dkSum m c j.val 16 (ix4 0 b l n)) rfl ((dk_real hq hk hv hD hM j b l n).trans ?_)
  have hkey : key b.val n = ⟨b.val * 256 + n.val, by omega⟩ := Fin.ext (by
    rw [key_val b.isLt]
    show 256 * b.val + n.val = b.val * 256 + n.val
    omega)
  have hh : head j (half l) = ⟨j.val * 2 + l.val / 128, by omega⟩ := rfl
  rw [outk_at, Attention.logtwo, hkey, hh]
  by_cases h : l.val % 128 < 96
  · rw [dif_pos h, dkeys_at]
    simp only [Attention.dprod_real hq hk hv hD hM, hq, ← EReal.coe_mul, coe_sum, Attention.div_reals _ logtwo_ne]
    refine congrArg _ ?_
    have hl : (low l).val < 96 := h
    simp only [padded, dif_pos hl]
    rw [Finset.sum_mul]
    refine Finset.sum_congr rfl fun i _ => ?_
    have h1 := root_ne
    have h2 := logtwo_ne
    show q i _ ⟨l.val % 128, _⟩ * _ * _ = _
    field_simp
  · have hl : ¬ (low l).val < 96 := h
    rw [dif_neg h]
    simp only [padded, dif_neg hl, zero_mul, Finset.sum_const_zero, EReal.coe_zero]

theorem dv_meets : dvArr m c = outv (dvalues (heads (argdy m c)) (shares (wts (argq m c) (argk m c)) (tot (argq m c) (argk m c)))) := by
  funext x
  obtain ⟨j, b, l, n, rfl⟩ := eta4 (n0 := 2) (n1 := 32) (n2 := 128) (n3 := 256) x
  refine Eq.trans (b := dvSum m c j.val 16 (ix4 0 b l n)) rfl ((dv_real hq hk hv hD hM j b l n).trans ?_)
  have hkey : key b.val n = ⟨b.val * 256 + n.val, by omega⟩ := Fin.ext (by
    rw [key_val b.isLt]
    show 256 * b.val + n.val = b.val * 256 + n.val
    omega)
  rw [outv_at, dvalues_at, hkey]
  simp only [heads_at, hD, tot, wts, Attention.shares_real hq hk (Attention.most_real hq hk hM), ← EReal.coe_mul, coe_sum]
  rfl

end

end Cert.Meet

end
-- ==== Proof.WeightStep.lean ====
module
public import proofs.«01_k».proof.Proof.Gen.Kernel3Ideal.Value
public import Idealize.ShloMosaic.Lib.Pipeline.ValueKit
public import Idealize.ShloMosaic.Lib.Pipeline.ReadBack
public import Idealize.ShloMosaic.Lib.Pointwise
/-!
# One point of the gradient of the input projection's matrix

A point takes 512 rows of the normalised activations and of the projection's gradient, and adds their product to the
window, one group of columns of the projection after another; the groups lie in the call's own order in the gradient.
-/

@[expose] public section

set_option maxRecDepth 16384

noncomputable section
namespace Cert.Kernel3Ideal.Weights

open Idealize.ShloMosaic Cert.Kernel3Ideal.Gen Cert.Kernel3Ideal

variable (m : (ℓ : Loc nD τ sig) → Buf (Elt Ideal) ℓ)

/-- The column of the call's layout that holds column `n` of the projection. -/
def col (n : Fin 3488) : Fin 3584 :=
  ⟨if n.val < 512 then n.val else if n.val < 1696 then n.val + 1792 else n.val - 1184, by have := n.isLt; split <;> (try split) <;> omega⟩

/-- What one point adds to a weight's gradient: the product of its rows of the two blocks. -/
def part (b : Vec Ideal S512x3584 .bf16) (a : Vec Ideal S512x1024 .bf16) (j : S3488x1024.Idx) : EReal :=
  ∑ r : Fin 512, b (ix2 r (col (j 0))) * a (ix2 r (j 1))

/-- What the store of the rotary key's rows holds: of a product of 128 rows, the first 32. -/
theorem pay11 (v b a) (x : S32x1024.Idx) : k0_pay11 (F := Ideal) v b a x = v x + ∑ r : Fin 512, b (ix2 r (⟨(x 0).val, by have : (x 0).val < 32 := (x 0).isLt; omega⟩ : Fin 128)) * a (ix2 r (x 1)) := by
  pointwise [k0_pay11]
/-- What a store of 256 rows holds. -/
theorem pay3 (v b a) (x : S256x1024.Idx) : k0_pay3 (F := Ideal) v b a x = v x + ∑ r : Fin 512, b (ix2 r (x 0)) * a (ix2 r (x 1)) := by
  pointwise [k0_pay3]
/-- What a store of 128 rows holds. -/
theorem pay4 (v b a) (x : S128x1024.Idx) : k0_pay4 (F := Ideal) v b a x = v x + ∑ r : Fin 512, b (ix2 r (x 0)) * a (ix2 r (x 1)) := by
  pointwise [k0_pay4]
/-- What the store of the gate's 1024 rows holds. -/
theorem pay1 (v b a) (x : S1024x1024.Idx) : k0_pay1 (F := Ideal) (k0_pay15 v) b a x = v x + ∑ r : Fin 512, b (ix2 r (x 0)) * a (ix2 r (x 1)) := by
  pointwise [k0_pay1, k0_pay15]

theorem col_val (n : Fin 3488) :
    (col n).val = if n.val < 512 then n.val else if n.val < 1696 then n.val + 1792 else n.val - 1184 := rfl

/-- The column of a row in a group that starts at `o` and lies at `q` in the call's layout. -/
theorem column {n : Fin 3488} {o w q i : ℕ} (h : n.val = o + i) (hi : i < w)
    (ho : (o + w ≤ 512 ∧ q = o) ∨ (512 ≤ o ∧ o + w ≤ 1696 ∧ q = o + 1792) ∨ (1696 ≤ o ∧ q + 1184 = o)) : (col n).val = q + i := by
  rw [col_val]
  split <;> (try split) <;> omega

/-- A store over a group of rows adds `part` to what the rows held. -/
theorem block (W : Vec Ideal S3488x1024 .f32) (b : Vec Ideal S512x3584 .bf16) (a : Vec Ideal S512x1024 .bf16)
    (y : S3488x1024.Idx) {w k o q : ℕ} (x : (⟨2, ![w, 1024]⟩ : Shape).Idx) (i : Fin k)
    (inb : ∀ d, (![o, 0] : Fin 2 → ℕ) d + (![w, 1024] : Fin 2 → ℕ) d ≤ S3488x1024.size d)
    (inb' : ∀ d, (![0, q] : Fin 2 → ℕ) d + (![512, k] : Fin 2 → ℕ) d ≤ S512x3584.size d)
    (hi : i.val = (x 0).val) (h0 : (y 0).val = o + (x 0).val) (h1 : (y 1).val = (x 1).val)
    (hq : (col (y 0)).val = q + (x 0).val) :
    View.ld W (Rect.unit (s := S3488x1024) ![o, 0] ![w, 1024] inb) x
        + ∑ r : Fin 512, View.ld b (Rect.unit (s := S512x3584) ![0, q] ![512, k] inb') (ix2 r i) * a (ix2 r (x 1))
      = W y + part b a y := by
  refine congrArg₂ (· + ·) (View.ld_unit_apply_of W _ _ _ x y (Fin.forall_fin_two.2 ⟨h0, by rw [h1]; exact (Nat.zero_add _).symm⟩)) ?_
  refine Finset.sum_congr rfl fun r _ => congrArg₂ (· * ·) ?_ (congrArg a ?_)
  · exact View.ld_unit_apply_of b _ _ _ _ (ix2 r (col (y 0))) (Fin.forall_fin_two.2 ⟨(Nat.zero_add _).symm, hq.trans (congrArg (q + ·) hi.symm)⟩)
  · exact congrArg (fun u : Fin 1024 => (ix2 r u : S512x1024.Idx)) (Fin.ext h1.symm)

/-- The fill at the first point is zero. -/
theorem pay2 (y : S3488x1024.Idx) : k0_pay2 (F := Ideal) y = 0 := by
  pointwise [k0_pay2]

/-- Where an entry of a group of rows lies. -/
theorem place {o w : ℕ} {inb : ∀ d, (![o, 0] : Fin 2 → ℕ) d + (![w, 1024] : Fin 2 → ℕ) d ≤ S3488x1024.size d}
    (x : (Rect.unit (s := S3488x1024) ![o, 0] ![w, 1024] inb).shape.Idx) (d : Fin 2) :
    ((Rect.unit (s := S3488x1024) ![o, 0] ![w, 1024] inb).emb x d).val = (![o, 0] : Fin 2 → ℕ) d + (x d).val :=
  Rect.idx_unit_val _ _ _ x d

/-- A group of rows has all the columns. -/
theorem place_zero {o w : ℕ} {inb : ∀ d, (![o, 0] : Fin 2 → ℕ) d + (![w, 1024] : Fin 2 → ℕ) d ≤ S3488x1024.size d}
    (x : (Rect.unit (s := S3488x1024) ![o, 0] ![w, 1024] inb).shape.Idx) :
    ((Rect.unit (s := S3488x1024) ![o, 0] ![w, 1024] inb).emb x 1).val = (x 1).val :=
  (place x 1).trans (Nat.zero_add _)

/-- `block`, at the entry's own place. -/
theorem stored (W : Vec Ideal S3488x1024 .f32) (b : Vec Ideal S512x3584 .bf16) (a : Vec Ideal S512x1024 .bf16)
    {w k o q : ℕ} (x : (⟨2, ![w, 1024]⟩ : Shape).Idx) (i : Fin k) (hi : i.val = (x 0).val)
    (inb : ∀ d, (![o, 0] : Fin 2 → ℕ) d + (![w, 1024] : Fin 2 → ℕ) d ≤ S3488x1024.size d)
    (inb' : ∀ d, (![0, q] : Fin 2 → ℕ) d + (![512, k] : Fin 2 → ℕ) d ≤ S512x3584.size d)
    (ho : (o + w ≤ 512 ∧ q = o) ∨ (512 ≤ o ∧ o + w ≤ 1696 ∧ q = o + 1792) ∨ (1696 ≤ o ∧ q + 1184 = o)) :
    View.ld W (Rect.unit (s := S3488x1024) ![o, 0] ![w, 1024] inb) x
        + ∑ r : Fin 512, View.ld b (Rect.unit (s := S512x3584) ![0, q] ![512, k] inb') (ix2 r i) * a (ix2 r (x 1))
      = W ((Rect.unit (s := S3488x1024) ![o, 0] ![w, 1024] inb).emb x)
        + part b a ((Rect.unit (s := S3488x1024) ![o, 0] ![w, 1024] inb).emb x) :=
  block W b a _ x i inb inb' hi (place x 0) (place_zero x) (column (place x 0) (x 0).isLt ho)

/-- A later point adds its product to what the point before left. -/
theorem next_step (c : Dev nD) (t : Fin cfg0.N) (h0 : ¬ t.val % 16 = 0) (y) :
   outsAt0 m c t.val t.isLt y = outsAt0 m c (t.val - 1) (Nat.lt_of_le_of_lt (Nat.sub_le _ _) t.isLt) y + part (iblk m c 1 t) (iblk m c 0 t) y := by
  rw [outsAt0_B m c t h0]
  frame_out
  generalize outsAt0 m c (t.val - 1) _ = W
  generalize iblk m c 1 t = b
  generalize iblk m c 0 t = a
  clear h0
  canon_tiles x h using View.cover_of_tiledBy _ ![32, 1024] (by sl_kernel_rfl) y
  case piece0 => exact (pay1 _ _ _ x).trans (block (w := 1024) (k := 1024) (o := 2464) (q := 1280) W b a y x _ _ _ rfl (by omega) h1 ((col_val _).trans (by split <;> (try split) <;> omega)))
  case piece1 => exact (pay3 _ _ _ x).trans (block (w := 256) (k := 256) (o := 2208) (q := 1024) W b a y x _ _ _ rfl (by omega) h1 ((col_val _).trans (by split <;> (try split) <;> omega)))
  case piece2 => exact (pay3 _ _ _ x).trans (block (w := 256) (k := 256) (o := 1952) (q := 768) W b a y x _ _ _ rfl (by omega) h1 ((col_val _).trans (by split <;> (try split) <;> omega)))
  case piece3 => exact (pay3 _ _ _ x).trans (block (w := 256) (k := 256) (o := 1696) (q := 512) W b a y x _ _ _ rfl (by omega) h1 ((col_val _).trans (by split <;> (try split) <;> omega)))
  case piece4 => exact (pay11 _ _ _ x).trans (block (w := 32) (k := 128) (o := 1664) (q := 3456) W b a y x _ _ _ rfl (by omega) h1 ((col_val _).trans (by split <;> (try split) <;> omega)))
  case piece5 => exact (pay4 _ _ _ x).trans (block (w := 128) (k := 128) (o := 1536) (q := 3328) W b a y x _ _ _ rfl (by omega) h1 ((col_val _).trans (by split <;> (try split) <;> omega)))
  case piece6 => exact (pay3 _ _ _ x).trans (block (w := 256) (k := 256) (o := 1280) (q := 3072) W b a y x _ _ _ rfl (by omega) h1 ((col_val _).trans (by split <;> (try split) <;> omega)))
  case piece7 => exact (pay3 _ _ _ x).trans (block (w := 256) (k := 256) (o := 1024) (q := 2816) W b a y x _ _ _ rfl (by omega) h1 ((col_val _).trans (by split <;> (try split) <;> omega)))
  case piece8 => exact (pay3 _ _ _ x).trans (block (w := 256) (k := 256) (o := 768) (q := 2560) W b a y x _ _ _ rfl (by omega) h1 ((col_val _).trans (by split <;> (try split) <;> omega)))
  case piece9 => exact (pay3 _ _ _ x).trans (block (w := 256) (k := 256) (o := 512) (q := 2304) W b a y x _ _ _ rfl (by omega) h1 ((col_val _).trans (by split <;> (try split) <;> omega)))
  case piece10 => exact (pay4 _ _ _ x).trans (block (w := 128) (k := 128) (o := 384) (q := 384) W b a y x _ _ _ rfl (by omega) h1 ((col_val _).trans (by split <;> (try split) <;> omega)))
  case piece11 => exact (pay4 _ _ _ x).trans (block (w := 128) (k := 128) (o := 256) (q := 256) W b a y x _ _ _ rfl (by omega) h1 ((col_val _).trans (by split <;> (try split) <;> omega)))
  case piece12 => exact (pay3 _ _ _ x).trans (block (w := 256) (k := 256) (o := 0) (q := 0) W b a y x _ _ _ rfl (by omega) h1 ((col_val _).trans (by split <;> (try split) <;> omega)))

/-- The first point leaves its product. -/
theorem first_step (c : Dev nD) (t : Fin cfg0.N) (h0 : t.val % 16 = 0) (y) :
   outsAt0 m c t.val t.isLt y = 0 + part (iblk m c 1 t) (iblk m c 0 t) y := by
  rw [outsAt0_A m c t h0]
  frame_open
  simp (disch := decide) only [↓View.readCov_skip, ↓View.readCov_fill]
  frame_out
  generalize iblk m c 1 t = b
  generalize iblk m c 0 t = a
  refine (View.canon_append_of_piecesOf (fun y => k0_pay2 (F := Ideal) y + part b a y) [_] [_, _, _, _, _, _, _, _, _, _, _, _, _]
    ⟨fun x => (pay1 _ _ _ x).trans (stored (w := 1024) (k := 1024) (o := 2464) (q := 1280) _ b a x (x 0) rfl inb_S3488x1024_S1024x1024_2464_0 inb_S512x3584_S512x1024_0_1280 (by decide)),
    fun x => (pay3 _ _ _ x).trans (stored (w := 256) (k := 256) (o := 2208) (q := 1024) _ b a x (x 0) rfl inb_S3488x1024_S256x1024_2208_0 inb_S512x3584_S512x256_0_1024 (by decide)),
    fun x => (pay3 _ _ _ x).trans (stored (w := 256) (k := 256) (o := 1952) (q := 768) _ b a x (x 0) rfl inb_S3488x1024_S256x1024_1952_0 inb_S512x3584_S512x256_0_768 (by decide)),
    fun x => (pay3 _ _ _ x).trans (stored (w := 256) (k := 256) (o := 1696) (q := 512) _ b a x (x 0) rfl inb_S3488x1024_S256x1024_1696_0 inb_S512x3584_S512x256_0_512 (by decide)),
    fun x => (pay11 _ _ _ x).trans (stored (w := 32) (k := 128) (o := 1664) (q := 3456) _ b a x _ rfl inb_S3488x1024_S32x1024_1664_0 inb_S512x3584_S512x128_0_3456 (by decide)),
    fun x => (pay4 _ _ _ x).trans (stored (w := 128) (k := 128) (o := 1536) (q := 3328) _ b a x (x 0) rfl inb_S3488x1024_S128x1024_1536_0 inb_S512x3584_S512x128_0_3328 (by decide)),
    fun x => (pay3 _ _ _ x).trans (stored (w := 256) (k := 256) (o := 1280) (q := 3072) _ b a x (x 0) rfl inb_S3488x1024_S256x1024_1280_0 inb_S512x3584_S512x256_0_3072 (by decide)),
    fun x => (pay3 _ _ _ x).trans (stored (w := 256) (k := 256) (o := 1024) (q := 2816) _ b a x (x 0) rfl inb_S3488x1024_S256x1024_1024_0 inb_S512x3584_S512x256_0_2816 (by decide)),
    fun x => (pay3 _ _ _ x).trans (stored (w := 256) (k := 256) (o := 768) (q := 2560) _ b a x (x 0) rfl inb_S3488x1024_S256x1024_768_0 inb_S512x3584_S512x256_0_2560 (by decide)),
    fun x => (pay3 _ _ _ x).trans (stored (w := 256) (k := 256) (o := 512) (q := 2304) _ b a x (x 0) rfl inb_S3488x1024_S256x1024_512_0 inb_S512x3584_S512x256_0_2304 (by decide)),
    fun x => (pay4 _ _ _ x).trans (stored (w := 128) (k := 128) (o := 384) (q := 384) _ b a x (x 0) rfl inb_S3488x1024_S128x1024_384_0 inb_S512x3584_S512x128_0_384 (by decide)),
    fun x => (pay4 _ _ _ x).trans (stored (w := 128) (k := 128) (o := 256) (q := 256) _ b a x (x 0) rfl inb_S3488x1024_S128x1024_256_0 inb_S512x3584_S512x128_0_256 (by decide)),
    fun x => (pay3 _ _ _ x).trans (stored (w := 256) (k := 256) (o := 0) (q := 0) _ b a x (x 0) rfl inb_S3488x1024_S256x1024_0_0 inb_S512x3584_S512x256_0_0 (by decide)), trivial⟩ y (View.cover_of_tiledBy _ ![32, 1024] (by sl_kernel_rfl) y)).trans ?_
  · exact congrArg (· + part b a y) (pay2 y)

end Cert.Kernel3Ideal.Weights

end
-- ==== Proof.Columns.lean ====
module
public import proofs.«01_k».proof.Proof.WeightStep
public import Idealize.ShloMosaic.Lib.Claim
public import Idealize.ShloMosaic.Lib.StableHlo.RunRead
/-!
# The layout of the projection's gradient

The host lays the columns of the gradient out in the call's order of the groups, with zeros at the end.
-/

@[expose] public section

set_option maxRecDepth 16384

noncomputable section
namespace Cert.Kernel3Ideal.Weights

open Idealize.ShloMosaic Idealize.ShloMosaic.TcCoe Idealize.ShloMosaic.Tactic Cert.Kernel3Ideal.Gen Cert.Kernel3Ideal

variable (m : (ℓ : Loc nD τ sig) → Buf (Elt Ideal) ℓ) (c : Dev nD)

/-- The groups of columns, in the call's order. -/
def parts (d : FVec Ideal S8192x3488 .f32) : List ((s : Shape) × (s.Idx → Ideal .f32)) :=
      [⟨S8192x256, extractStridedSlice S8192x256 ![0, 0] d slices_S8192x3488_S8192x256_0_0⟩,
       ⟨S8192x128, extractStridedSlice S8192x128 ![0, 256] d slices_S8192x3488_S8192x128_0_256⟩,
       ⟨S8192x128, extractStridedSlice S8192x128 ![0, 384] d slices_S8192x3488_S8192x128_0_384⟩,
       ⟨S8192x256, extractStridedSlice S8192x256 ![0, 1696] d slices_S8192x3488_S8192x256_0_1696⟩,
       ⟨S8192x256, extractStridedSlice S8192x256 ![0, 1952] d slices_S8192x3488_S8192x256_0_1952⟩,
       ⟨S8192x256, extractStridedSlice S8192x256 ![0, 2208] d slices_S8192x3488_S8192x256_0_2208⟩,
       ⟨S8192x1024, extractStridedSlice S8192x1024 ![0, 2464] d slices_S8192x3488_S8192x1024_0_2464⟩,
       ⟨S8192x256, extractStridedSlice S8192x256 ![0, 512] d slices_S8192x3488_S8192x256_0_512⟩,
       ⟨S8192x256, extractStridedSlice S8192x256 ![0, 768] d slices_S8192x3488_S8192x256_0_768⟩,
       ⟨S8192x256, extractStridedSlice S8192x256 ![0, 1024] d slices_S8192x3488_S8192x256_0_1024⟩,
       ⟨S8192x256, extractStridedSlice S8192x256 ![0, 1280] d slices_S8192x3488_S8192x256_0_1280⟩,
       ⟨S8192x128, extractStridedSlice S8192x128 ![0, 1536] d slices_S8192x3488_S8192x128_0_1536⟩,
       ⟨S8192x32, extractStridedSlice S8192x32 ![0, 1664] d slices_S8192x3488_S8192x32_0_1664⟩]

/-- The groups, one after another. -/
def joined (d : FVec Ideal S8192x3488 .f32) : FVec Ideal S8192x3488 .f32 :=
  concatenate S8192x3488 1 (parts d) concatenates_S8192x256_S8192x128_S8192x128_S8192x256_S8192x256_S8192x256_S8192x1024_S8192x256_S8192x256_S8192x256_S8192x256_S8192x128_S8192x32_S8192x3488_d1

/-- The groups and the zeros past them. -/
def internal (d : FVec Ideal S8192x3488 .f32) : FVec Ideal S8192x3584 .f32 :=
  pad S8192x3584 ![0, 0] ![0, 96] ![0, 0] (joined d) (sitofp .f32 (constantI S_ 32 0#32)) pads_S8192x3488_S8192x3584_000_0960 h_S_

/-- A column of one group. -/
theorem joined_piece (d : FVec Ideal S8192x3488 .f32) (i : Fin 8192) {l n : Fin 3488} {k w o pre : ℕ} (hk : k < 13)
    (hs : S8192x3488.Slices ![0, o] (⟨2, ![8192, w]⟩ : Shape))
    (hx : (parts d)[k]'hk = ⟨(⟨2, ![8192, w]⟩ : Shape), extractStridedSlice (⟨2, ![8192, w]⟩ : Shape) ![0, o] d hs⟩)
    {L : List ℕ} (hL : ((((parts d).take k).map (·.1)).map fun s => if h : s.rank = S8192x3488.rank then s.size ((1 : Fin 2).cast h.symm) else 0) = L)
    (hp : L.sum = pre)
    (h1 : o ≤ n.val) (h2 : n.val < o + w) (hl : pre + (n.val - o) = l.val) :
    joined d (ix2 i l) = d (ix2 i n) := by
  have hu : n.val - o < w := by omega
  refine (concatenate_apply_piece (t := S8192x3488) (1 : Fin 2) (parts d) _ (ix2 i l) k hk _ _ hx rfl pre ((congrArg List.sum hL).trans hp) (ix2 i (⟨n.val - o, hu⟩ : Fin w)) ?_ hl).trans ?_
  · exact Fin.forall_fin_two.2 ⟨fun _ => rfl, fun h => absurd rfl h⟩
  · exact congrArg d (funext (Fin.forall_fin_two.2 ⟨Fin.ext (Nat.zero_add i.val), Fin.ext (show o + (n.val - o) = n.val by omega)⟩))

/-- The zeros begin at column 3488. -/
theorem internal_at (d : FVec Ideal S8192x3488 .f32) (i : Fin 8192) (l : Fin 3584) :
    internal d (ix2 i l) = if h : l.val < 3488 then joined d (ix2 i ⟨l.val, h⟩) else 0 := by
  pointwise [internal]
  have h : FloatOps.sitofp (F := Ideal) .f32 (0#32 : BitVec 32) = (0 : EReal) := by
    show (((0#32 : BitVec 32).toInt : ℝ) : EReal) = 0
    simp
  rw [h]

/-- A column of the projection lies before the zeros. -/
theorem col_lt (n : Fin 3488) : (col n).val < 3488 := by
  rw [col_val]
  have := n.isLt
  split <;> (try split) <;> omega

/-- `col` finds the column. -/
theorem joined_col (d : FVec Ideal S8192x3488 .f32) (i : Fin 8192) (n : Fin 3488) :
    joined d (ix2 i ⟨(col n).val, col_lt n⟩) = d (ix2 i n) := by
  have hn := n.isLt
  have hc := col_val n
  by_cases h0 : n.val < 256
  · exact joined_piece d i (k := 0) (w := 256) (L := []) (o := 0) (pre := 0) (by decide) slices_S8192x3488_S8192x256_0_0 rfl rfl (by decide) (by omega) (by omega) (show 0 + (n.val - 0) = (col n).val by rw [hc]; split <;> (try split) <;> omega)
  by_cases h1 : n.val < 384
  · exact joined_piece d i (k := 1) (w := 128) (L := [256]) (o := 256) (pre := 256) (by decide) slices_S8192x3488_S8192x128_0_256 rfl rfl (by decide) (by omega) (by omega) (show 256 + (n.val - 256) = (col n).val by rw [hc]; split <;> (try split) <;> omega)
  by_cases h2 : n.val < 512
  · exact joined_piece d i (k := 2) (w := 128) (L := [256, 128]) (o := 384) (pre := 384) (by decide) slices_S8192x3488_S8192x128_0_384 rfl rfl (by decide) (by omega) (by omega) (show 384 + (n.val - 384) = (col n).val by rw [hc]; split <;> (try split) <;> omega)
  by_cases h7 : n.val < 768
  · exact joined_piece d i (k := 7) (w := 256) (L := [256, 128, 128, 256, 256, 256, 1024]) (o := 512) (pre := 2304) (by decide) slices_S8192x3488_S8192x256_0_512 rfl rfl (by decide) (by omega) (by omega) (show 2304 + (n.val - 512) = (col n).val by rw [hc]; split <;> (try split) <;> omega)
  by_cases h8 : n.val < 1024
  · exact joined_piece d i (k := 8) (w := 256) (L := [256, 128, 128, 256, 256, 256, 1024, 256]) (o := 768) (pre := 2560) (by decide) slices_S8192x3488_S8192x256_0_768 rfl rfl (by decide) (by omega) (by omega) (show 2560 + (n.val - 768) = (col n).val by rw [hc]; split <;> (try split) <;> omega)
  by_cases h9 : n.val < 1280
  · exact joined_piece d i (k := 9) (w := 256) (L := [256, 128, 128, 256, 256, 256, 1024, 256, 256]) (o := 1024) (pre := 2816) (by decide) slices_S8192x3488_S8192x256_0_1024 rfl rfl (by decide) (by omega) (by omega) (show 2816 + (n.val - 1024) = (col n).val by rw [hc]; split <;> (try split) <;> omega)
  by_cases h10 : n.val < 1536
  · exact joined_piece d i (k := 10) (w := 256) (L := [256, 128, 128, 256, 256, 256, 1024, 256, 256, 256]) (o := 1280) (pre := 3072) (by decide) slices_S8192x3488_S8192x256_0_1280 rfl rfl (by decide) (by omega) (by omega) (show 3072 + (n.val - 1280) = (col n).val by rw [hc]; split <;> (try split) <;> omega)
  by_cases h11 : n.val < 1664
  · exact joined_piece d i (k := 11) (w := 128) (L := [256, 128, 128, 256, 256, 256, 1024, 256, 256, 256, 256]) (o := 1536) (pre := 3328) (by decide) slices_S8192x3488_S8192x128_0_1536 rfl rfl (by decide) (by omega) (by omega) (show 3328 + (n.val - 1536) = (col n).val by rw [hc]; split <;> (try split) <;> omega)
  by_cases h12 : n.val < 1696
  · exact joined_piece d i (k := 12) (w := 32) (L := [256, 128, 128, 256, 256, 256, 1024, 256, 256, 256, 256, 128]) (o := 1664) (pre := 3456) (by decide) slices_S8192x3488_S8192x32_0_1664 rfl rfl (by decide) (by omega) (by omega) (show 3456 + (n.val - 1664) = (col n).val by rw [hc]; split <;> (try split) <;> omega)
  by_cases h3 : n.val < 1952
  · exact joined_piece d i (k := 3) (w := 256) (L := [256, 128, 128]) (o := 1696) (pre := 512) (by decide) slices_S8192x3488_S8192x256_0_1696 rfl rfl (by decide) (by omega) (by omega) (show 512 + (n.val - 1696) = (col n).val by rw [hc]; split <;> (try split) <;> omega)
  by_cases h4 : n.val < 2208
  · exact joined_piece d i (k := 4) (w := 256) (L := [256, 128, 128, 256]) (o := 1952) (pre := 768) (by decide) slices_S8192x3488_S8192x256_0_1952 rfl rfl (by decide) (by omega) (by omega) (show 768 + (n.val - 1952) = (col n).val by rw [hc]; split <;> (try split) <;> omega)
  by_cases h5 : n.val < 2464
  · exact joined_piece d i (k := 5) (w := 256) (L := [256, 128, 128, 256, 256]) (o := 2208) (pre := 1024) (by decide) slices_S8192x3488_S8192x256_0_2208 rfl rfl (by decide) (by omega) (by omega) (show 1024 + (n.val - 2208) = (col n).val by rw [hc]; split <;> (try split) <;> omega)
  exact joined_piece d i (k := 6) (w := 1024) (L := [256, 128, 128, 256, 256, 256]) (o := 2464) (pre := 1280) (by decide) slices_S8192x3488_S8192x1024_0_2464 rfl rfl (by decide) (by omega) (by omega) (show 1280 + (n.val - 2464) = (col n).val by rw [hc]; split <;> (try split) <;> omega)

end Cert.Kernel3Ideal.Weights

end
-- ==== Proof.Weights.lean ====
module
public import proofs.«01_k».proof.Proof.Columns
public import proofs.«01_k».proof.Proof.Gen.Reference3Ideal.Run
public import Idealize.ShloMosaic.Lib.Pipeline.ValueKit
/-!
# The gradient of the input projection's matrix

The call's result is, entry by entry, the sum over all rows of the projection's gradient times the normalised activations;
so is the reference's.
-/

@[expose] public section

set_option maxRecDepth 16384

noncomputable section
namespace Cert.Kernel3Ideal.Weights

open Idealize.ShloMosaic Idealize.ShloMosaic.TcCoe Idealize.ShloMosaic.Tactic Cert.Kernel3Ideal.Gen Cert.Kernel3Ideal

variable (m : (ℓ : Loc nD τ sig) → Buf (Elt Ideal) ℓ) (c : Dev nD)

/-- The normalised and scaled activations. -/
def normed (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf
      (Host.divf (broadcastInDim S8192x1 ![0] bcast_S8192_S8192x1_0
          (Host.reduceAdd (mulf x x) (constant S_ .f32 0x00000000#32) reducesTo_S8192x1024_S8192_d1 h_S_))
        (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

/-- The activations. -/
abbrev argx : FVec Ideal S8192x1024 .f32 := m ((c : Thread nD τ).loc main_arg0)
/-- The scale of the normalisation. -/
abbrev argg : FVec Ideal S1024 .f32 := m ((c : Thread nD τ).loc main_arg1)
/-- The gradient of the projection. -/
abbrev argd : FVec Ideal S8192x3488 .f32 := m ((c : Thread nD τ).loc main_arg2)

set_option maxHeartbeats 2000000 in
/-- The activations as the call reads them. -/
theorem V_v13 : V m c main_v13 = truncf .bf16 (normed (argx m c) (argg m c)) bitsLt_bf16_f32 := by
  simp only [V, hostOps0, hostOps0_1, hostOps0_2, List.flatten_cons, List.flatten_nil, List.append_nil, List.cons_append, List.nil_append]
  after_reads_simp
  rfl

set_option maxHeartbeats 2000000 in
/-- The gradient as the call reads it. -/
theorem V_v29 : V m c main_v29 = truncf .bf16 (internal (argd m c)) bitsLt_bf16_f32 := by
  simp only [V, hostOps0, hostOps0_1, hostOps0_2, List.flatten_cons, List.flatten_nil, List.append_nil, List.cons_append, List.nil_append]
  after_reads_simp
  rfl

/-- The blocks of the activations, point by point. -/
theorem index_0 : ∀ t : Fin cfg0.N, win0_0.index t = ![t.val, 0] := by decide +kernel
/-- The blocks of the gradient, point by point. -/
theorem index_1 : ∀ t : Fin cfg0.N, win0_1.index t = ![t.val, 0] := by decide +kernel

/-- An index given by its two coordinates. -/
theorem ix2_of {n0 n1 : ℕ} {x : (a : Fin 2) → Fin ((![n0, n1] : Fin 2 → ℕ) a)} {a : Fin n0} {b : Fin n1}
    (ha : (x 0).val = a.val) (hb : (x 1).val = b.val) : x = ix2 a b :=
  funext (Fin.forall_fin_two.2 ⟨Fin.ext ha, Fin.ext hb⟩)

/-- Row `r` of the block that point `t` reads. -/
def row (t : Fin cfg0.N) (r : Fin 512) : Fin 8192 :=
  ⟨t.val * 512 + r.val, by have h := Nat.lt_of_lt_of_eq t.isLt N_0; have hr := r.isLt; omega⟩

/-- Its number. -/
theorem row_val (t : Fin cfg0.N) (r : Fin 512) : (row t r).val = t.val * 512 + r.val := rfl

/-- Where a block of the activations lies. -/
theorem emb_x (t : Fin cfg0.N) (r : Fin 512) (l : Fin 1024) : ((win0_0.blk t).view.emb (ix2 r l) : S8192x1024.Idx) = ix2 (row t r) l := by
  refine ix2_of ?_ ?_
  · rw [row_val]
    blk_simp [index_0]
  · blk_simp [index_0]

/-- Where a block of the gradient lies. -/
theorem emb_d (t : Fin cfg0.N) (r : Fin 512) (l : Fin 3584) : ((win0_1.blk t).view.emb (ix2 r l) : S8192x3584.Idx) = ix2 (row t r) l := by
  refine ix2_of ?_ ?_
  · rw [row_val]
    blk_simp [index_1]
  · blk_simp [index_1]

/-- A block of the activations, of any arrays. -/
theorem read_x (X : (b : Ref sig .tc) → Buf (Elt Ideal) ((c : Thread nD τ).loc b)) (t : Fin cfg0.N) (r : Fin 512) (l : Fin 1024) :
    (((cfg0.win 0).blk t).view.read (Elt Ideal) (X (Pipeline.arrRef spec0 0)) : Vec Ideal S512x1024 .bf16) (ix2 r l)
      = (X main_v13 : FVec Ideal S8192x1024 .bf16) (ix2 (row t r) l) :=
  congrArg (X main_v13) (emb_x t r l)

/-- A block of the gradient, of any arrays. -/
theorem read_d (X : (b : Ref sig .tc) → Buf (Elt Ideal) ((c : Thread nD τ).loc b)) (t : Fin cfg0.N) (r : Fin 512) (l : Fin 3584) :
    (((cfg0.win 1).blk t).view.read (Elt Ideal) (X (Pipeline.arrRef spec0 1)) : Vec Ideal S512x3584 .bf16) (ix2 r l)
      = (X main_v29 : FVec Ideal S8192x3584 .bf16) (ix2 (row t r) l) :=
  congrArg (X main_v29) (emb_d t r l)

/-- A block of the activations. -/
theorem block_x {A : FVec Ideal S8192x1024 .bf16} (hA : V m c main_v13 = A) (t : Fin cfg0.N) (r : Fin 512) (l : Fin 1024) :
    (iblk m c 0 t : Vec Ideal S512x1024 .bf16) (ix2 r l) = A (ix2 (row t r) l) := by
  subst hA
  unfold iblk
  exact read_x c (V m c) t r l

/-- A block of the gradient. -/
theorem block_d {A : FVec Ideal S8192x3584 .bf16} (hA : V m c main_v29 = A) (t : Fin cfg0.N) (r : Fin 512) (l : Fin 3584) :
    (iblk m c 1 t : Vec Ideal S512x3584 .bf16) (ix2 r l) = A (ix2 (row t r) l) := by
  subst hA
  unfold iblk
  exact read_d c (V m c) t r l

/-- What a point adds, as a sum over its rows of the arguments. -/
theorem part_block (t : Fin cfg0.N) (y : S3488x1024.Idx) : part (iblk m c 1 t) (iblk m c 0 t) y
    = ∑ r : Fin 512, argd m c (ix2 (row t r) (y 0)) * normed (argx m c) (argg m c) (ix2 (row t r) (y 1)) := by
  refine Finset.sum_congr rfl fun r _ => congrArg₂ (· * ·) ((block_d m c (V_v29 m c) t r _).trans ?_) (block_x m c (V_v13 m c) t r _)
  refine (internal_at _ _ _).trans ?_
  rw [dif_pos (col_lt (y 0))]
  exact joined_col _ _ _

/-- A sum over the points' rows is a sum over all rows. -/
theorem sum_rows (f : Fin 8192 → EReal) : ∑ t : Fin cfg0.N, ∑ r, f (row t r) = ∑ i, f i := by
  rw [← Fintype.sum_equiv ((Equiv.prodCongr (finCongr N_0) (Equiv.refl _)).trans (finProdFinEquiv (m := 16) (n := 512)))
    (fun x => f (row x.1 x.2)) f
    (fun x => congrArg f (Fin.ext (by
      rw [row_val]
      show _ = x.2.val + 512 * x.1.val
      omega))), Fintype.sum_prod_type]

/-- The gradient of the projection's matrix. -/
def gradient (x : FVec Ideal S8192x1024 .f32) (g : FVec Ideal S1024 .f32) (d : FVec Ideal S8192x3488 .f32) : FVec Ideal S3488x1024 .f32 :=
  fun y => ∑ i : Fin 8192, d (ix2 i (y 0)) * normed x g (ix2 i (y 1))

/-- What the window holds after the last point. -/
theorem last_point (y : S3488x1024.Idx) (t : Fin cfg0.N) (ht : t.val + 1 = cfg0.N) :
    outsAt0 m c t.val t.isLt y = gradient (argx m c) (argg m c) (argd m c) y := by
  refine (Pipeline.eq_sum_fin_of_reset_step_apply_last (M := EReal) (ι := S3488x1024.Idx) (fun n h => outsAt0 m c n h) 16 (fun _ => 0)
    (fun t j => ∑ r : Fin 512, argd m c (ix2 (row t r) (j 0)) * normed (argx m c) (argg m c) (ix2 (row t r) (j 1)))
    (fun t h j => (first_step m c t h j).trans (congrArg (0 + ·) (part_block m c t j)))
    (fun t h j => (next_step m c t h j).trans (congrArg (_ + ·) (part_block m c t j)))
    (le_of_eq N_0) t ht y).trans ?_
  exact (zero_add _).trans (sum_rows fun i => argd m c (ix2 i (y 0)) * normed (argx m c) (argg m c) (ix2 i (y 1)))

/-- The call's result. -/
theorem final : (dats m 0 c).arrAt 2 cfg0.N = gradient (argx m c) (argg m c) (argd m c) := by
  refine (dats m 0 c).arrAt_eq_of_after_last 2 t0_15 (by decide +kernel) _ fun j => ?_
  blk_simp
  rw [after0_2]
  exact last_point m c j t0_15 rfl

/-- The reference's result. -/
theorem product_at (x : FVec Ideal S8192x1024 .f32) (g : FVec Ideal S1024 .f32) (d : FVec Ideal S8192x3488 .f32)
    (h1 : S3488x1024.Transposes [1, 0] Cert.Reference3Ideal.S1024x3488) (h2 : Cert.Reference3Ideal.S1024x3488.Transposes [1, 0] S3488x1024) :
    transpose S3488x1024 [1, 0] (transpose Cert.Reference3Ideal.S1024x3488 [1, 0]
      (Host.dotGeneral Cert.Reference3Ideal.dot_S8192x3488_S8192x1024_S3488x1024_0_0_1_1_n_n none d (normed x g)) h1) h2
    = gradient x g d := by
  unfold gradient
  generalize normed x g = xn
  funext y
  obtain ⟨a, b, rfl⟩ : ∃ a b, y = ix2 a b := ⟨y 0, y 1, ix2_of rfl rfl⟩
  pointwise []

end Cert.Kernel3Ideal.Weights

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.LayerEndKernel
public import proofs.«01_k».proof.Proof.LayerEndReference
public import proofs.«01_k».proof.Proof.LayerResultKernel
public import proofs.«01_k».proof.Proof.LayerResultReference
public import proofs.«01_k».proof.Proof.Gen.Kernel5.Frame
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel5Ideal.Value
public import proofs.«01_k».proof.Proof.Gen.Reference5Ideal.Run
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.KernelFrame
public import proofs.«01_k».proof.Proof.Run
public import proofs.«01_k».proof.Proof.Meet
public import proofs.«01_k».proof.Proof.Finite
public import proofs.«01_k».proof.Proof.Weights
public import proofs.«01_k».proof.Proof.Forward
public import proofs.«01_k».proof.Proof.Chain
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Pre_finite.Gen.facts

/-- The kernel's run leaves its arguments as they were. -/
theorem kernel_frame : quiescent_Kernel (hKernel := Cert.Kernel.Gen.facts) :=
  fun m ρ _ => Cert.Kernel.Gen.arguments_kept m ρ

/-- The idealized kernel's run leaves its arguments as they were. -/
theorem ideal_frame : quiescent_KernelIdeal (hKernelIdeal := Cert.KernelIdeal.Gen.facts) :=
  fun m ρ _ => (θ_run Cert.KernelIdeal.defs _ _).mono (fun _ h => ⟨fun c => (h.1 c).2.2.2, h.2⟩)
    (Cert.KernelIdeal.Gen.results m ρ)

/-- The reference's run leaves its arguments as they were. -/
theorem reference_frame : quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The mask, the logarithm of two and its inverse are the values their words stand for. -/
theorem constants : preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl,
   IdealRules.named_const.statement Cert.KernelIdeal.κ "ln2" .f32 0x3F317218#32 ((Real.log 2 : ℝ) : EReal) rfl⟩

/-- Where the arguments are finite, the kernel's three arrays are the reference's. -/
theorem gradients : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hfinite hsame
  refine ⟨fun c => Cert.KernelIdeal.Gen.dqArr m c, fun c => Cert.KernelIdeal.Gen.dkArr m c, fun c => Cert.KernelIdeal.Gen.dvArr m c,
    (θ_run Cert.KernelIdeal.defs _ _).mono (fun _ h => h.1) (Cert.KernelIdeal.Gen.results m ρ),
    (θ_run Cert.ReferenceIdeal.defs _ _).mono (fun r h c => ?_) (Cert.ReferenceIdeal.Value.run (F := Ideal) m' ρ')⟩
  obtain ⟨e0, e1, e2, e3⟩ := hsame c
  obtain ⟨r0, r1, r2, r3⟩ := Cert.Finite.reals (hfinite c)
  obtain ⟨M, hM⟩ := Cert.Attention.rowMax_real (aq := Cert.KernelIdeal.Saved.argq m c) (ak := Cert.KernelIdeal.Saved.argk m c)
    (q := fun i h d => EReal.toReal (Cert.KernelIdeal.Saved.argq m c (ix3 i h d)))
    (k := fun i h d => EReal.toReal (Cert.KernelIdeal.Saved.argk m c (ix3 i h d))) (fun i h d => r0 _) (fun i h d => r1 _)
  have hv : ∀ i h d, Cert.KernelIdeal.Saved.argv m c (ix3 i h d)
      = ((EReal.toReal (Cert.KernelIdeal.Saved.argv m c (ix3 i h d)) : ℝ) : EReal) := fun i h d => r2 _
  have hD : ∀ i h d, Cert.KernelIdeal.Saved.argdy m c (ix2 i (Cert.ReferenceIdeal.Grad.channel h d))
      = ((EReal.toReal (Cert.KernelIdeal.Saved.argdy m c (ix2 i (Cert.ReferenceIdeal.Grad.channel h d))) : ℝ) : EReal) := fun i h d => r3 _
  obtain ⟨hq', hk', hv', hargs⟩ := h c
  refine ⟨hq'.trans ?_, hk'.trans ?_, hv'.trans ?_, hargs⟩
  · change _ = Cert.KernelIdeal.Gen.dqArr m c
    rw [Cert.ReferenceIdeal.Grad.res_v72, Cert.Meet.dq_meets (fun i h d => r0 _) (fun i h d => r1 _) hv hD hM]
    simp only [Cert.ReferenceIdeal.Grad.argq, Cert.ReferenceIdeal.Grad.argk, Cert.ReferenceIdeal.Grad.argv, Cert.ReferenceIdeal.Grad.argdy, e0, e1, e2, e3]
  · change _ = Cert.KernelIdeal.Gen.dkArr m c
    rw [Cert.ReferenceIdeal.Grad.res_v77, Cert.Meet.dk_meets (fun i h d => r0 _) (fun i h d => r1 _) hv hD hM]
    simp only [Cert.ReferenceIdeal.Grad.argq, Cert.ReferenceIdeal.Grad.argk, Cert.ReferenceIdeal.Grad.argv, Cert.ReferenceIdeal.Grad.argdy, e0, e1, e2, e3]
  · change _ = Cert.KernelIdeal.Gen.dvArr m c
    rw [Cert.ReferenceIdeal.Grad.res_v79, Cert.Meet.dv_meets (fun i h d => r0 _) (fun i h d => r1 _) hv hD hM]
    simp only [Cert.ReferenceIdeal.Grad.argq, Cert.ReferenceIdeal.Grad.argk, Cert.ReferenceIdeal.Grad.argv, Cert.ReferenceIdeal.Grad.argdy, e0, e1, e2, e3]

/-- The second kernel's run leaves its arguments as they were. -/
theorem kernel2_frame : quiescent_Kernel2 (hKernel2 := Cert.Kernel2.Gen.facts) :=
  fun m ρ _ => Cert.Kernel2.Gen.frame m ρ

/-- The idealized second kernel's run leaves its arguments as they were. -/
theorem ideal2_frame : quiescent_Kernel2Ideal (hKernel2Ideal := Cert.Kernel2Ideal.Gen.facts) :=
  fun m ρ _ => Cert.Kernel2Ideal.Gen.frame m ρ

/-- The second reference's run leaves its arguments as they were. -/
theorem reference2_frame : quiescent_Reference2Ideal (hReference2Ideal := Cert.Reference2Ideal.Gen.facts) :=
  fun m ρ _ => (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

open Cert.Kernel2Ideal.Input in
/-- The kernel's three gradients are the reference's. -/
theorem inputs : algebraic_Kernel2Ideal_Reference2Ideal (hKernel2Ideal := Cert.Kernel2Ideal.Gen.facts)
    (hReference2Ideal := Cert.Reference2Ideal.Gen.facts) := by
  intro m ρ m' ρ' _ hsame
  refine ⟨fun c => result12 (argx m c) (argg m c) (argw m c) (argn m c) (argd m c), fun c => result13 (argd m c),
    fun c => result14 (argx m c) (argw m c) (argd m c),
    (θ_run Cert.Kernel2Ideal.defs _ _).mono (fun _ h c => ⟨(h c).1.trans (final12 m c), (h c).2.1.trans (final13 m c),
      (h c).2.2.1.trans (final14 m c), (h c).2.2.2⟩) (Cert.Kernel2Ideal.Value.run_blocks m ρ),
    (θ_run Cert.Reference2Ideal.defs _ _).mono (fun r h c => ?_) (Cert.Reference2Ideal.Value.run (F := Ideal) m' ρ')⟩
  obtain ⟨e0, e1, e2, e3, e4⟩ := hsame c
  refine ⟨(h c).1.trans ?_, (h c).2.1.trans ?_, (h c).2.2.1.trans ?_, (h c).2.2.2⟩
  · funext y
    obtain ⟨a, b, rfl⟩ : ∃ a b, y = ix2 a b := ⟨y 0, y 1, Cert.Kernel4Ideal.Forward.ix2_of rfl rfl⟩
    exact (Cert.Reference2Ideal.Input.res12 m' c e0 e1 e2 e3 e4 a b).trans
      (Cert.Reference2Ideal.Input.meets _ _ _ _ _ a b)
  · rw [e4]
    funext y
    obtain ⟨a, b, rfl⟩ : ∃ a b, y = ix2 a b := ⟨y 0, y 1, Cert.Kernel4Ideal.Forward.ix2_of rfl rfl⟩
    exact Cert.Reference2Ideal.Input.res13 _ a b
  · rw [e0, e2, e4]
    funext y
    obtain ⟨a, b, rfl⟩ : ∃ a b, y = ix2 a b := ⟨y 0, y 1, Cert.Kernel4Ideal.Forward.ix2_of rfl rfl⟩
    exact Cert.Reference2Ideal.Input.res14 _ _ _ a b

/-- The third kernel's run leaves its arguments as they were. -/
theorem kernel3_frame : quiescent_Kernel3 (hKernel3 := Cert.Kernel3.Gen.facts) :=
  fun m ρ _ => Cert.Kernel3.Gen.frame m ρ

/-- The idealized third kernel's run leaves its arguments as they were. -/
theorem ideal3_frame : quiescent_Kernel3Ideal (hKernel3Ideal := Cert.Kernel3Ideal.Gen.facts) :=
  fun m ρ _ => Cert.Kernel3Ideal.Gen.frame m ρ

/-- The third reference's run leaves its arguments as they were. -/
theorem reference3_frame : quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel's gradient of the projection's matrix is the reference's. -/
theorem weights : algebraic_Kernel3Ideal_Reference3Ideal (hKernel3Ideal := Cert.Kernel3Ideal.Gen.facts)
    (hReference3Ideal := Cert.Reference3Ideal.Gen.facts) := by
  intro m ρ m' ρ' _ hsame
  refine ⟨fun c => Cert.Kernel3Ideal.Weights.gradient (Cert.Kernel3Ideal.Weights.argx m c) (Cert.Kernel3Ideal.Weights.argg m c)
      (Cert.Kernel3Ideal.Weights.argd m c),
    (θ_run Cert.Kernel3Ideal.defs _ _).mono (fun _ h c => ⟨(h c).1.trans (Cert.Kernel3Ideal.Weights.final m c), (h c).2⟩)
      (Cert.Kernel3Ideal.Value.run_blocks m ρ),
    (θ_run Cert.Reference3Ideal.defs _ _).mono (fun r h c => ?_) (Cert.Reference3Ideal.Value.run (F := Ideal) m' ρ')⟩
  obtain ⟨e0, e1, e2⟩ := hsame c
  refine ⟨(h c).1.trans ?_, (h c).2⟩
  rw [e0, e1, e2]
  exact Cert.Kernel3Ideal.Weights.product_at _ _ _ _ _

/-- The fourth kernel's run leaves its arguments as they were. -/
theorem kernel4_frame : quiescent_Kernel4 (hKernel4 := Cert.Kernel4.Gen.facts) :=
  fun m ρ _ => Cert.Kernel4.Gen.frame m ρ

/-- The idealized fourth kernel's run leaves its arguments as they were. -/
theorem ideal4_frame : quiescent_Kernel4Ideal (hKernel4Ideal := Cert.Kernel4Ideal.Gen.facts) :=
  fun m ρ _ => Cert.Kernel4Ideal.Gen.frame m ρ

/-- The fourth reference's run leaves its arguments as they were. -/
theorem reference4_frame : quiescent_Reference4Ideal (hReference4Ideal := Cert.Reference4Ideal.Gen.facts) :=
  fun m ρ _ => (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

open Cert.Kernel4Ideal.Forward in
/-- The kernel's normalised activations and its projection are the reference's. -/
theorem forward : algebraic_Kernel4Ideal_Reference4Ideal (hKernel4Ideal := Cert.Kernel4Ideal.Gen.facts)
    (hReference4Ideal := Cert.Reference4Ideal.Gen.facts) := by
  intro m ρ m' ρ' _ hsame
  refine ⟨fun c => result3 (argx m c) (argg m c), fun c => result4 (argx m c) (argg m c) (argw m c),
    fun c => result5 (argx m c) (argg m c) (argw m c),
    (θ_run Cert.Kernel4Ideal.defs _ _).mono (fun _ h c => ⟨(h c).1.trans (final3 m c), (h c).2.1.trans (final4 m c),
      (h c).2.2.1.trans (final5 m c), (h c).2.2.2⟩) (Cert.Kernel4Ideal.Value.run_blocks m ρ),
    (θ_run Cert.Reference4Ideal.defs _ _).mono (fun r h c => ?_) (Cert.Reference4Ideal.Value.run (F := Ideal) m' ρ')⟩
  obtain ⟨e0, e1, e2⟩ := hsame c
  refine ⟨(h c).1.trans ?_, (h c).2.1.trans ?_, (h c).2.2.1.trans ?_, (h c).2.2.2⟩
  · rw [e0, e1]
    rfl
  · rw [e0, e1, e2]
    funext y
    obtain ⟨a, b, rfl⟩ : ∃ a b, y = ix2 a b := ⟨y 0, y 1, ix2_of rfl rfl⟩
    exact Cert.Reference4Ideal.Forward.first_columns _ _ a b
  · rw [e0, e1, e2]
    funext y
    obtain ⟨a, b, rfl⟩ : ∃ a b, y = ix2 a b := ⟨y 0, y 1, ix2_of rfl rfl⟩
    exact Cert.Reference4Ideal.Forward.last_columns _ _ a b

/-- The fifth kernel's run leaves its arguments as they were. -/
theorem kernel5_frame : quiescent_Kernel5 (hKernel5 := Cert.Kernel5.Gen.facts) :=
  fun m ρ _ => Cert.Kernel5.Gen.frame m ρ

/-- The idealized fifth kernel's run leaves its arguments as they were. -/
theorem ideal5_frame : quiescent_Kernel5Ideal (hKernel5Ideal := Cert.Kernel5Ideal.Gen.facts) :=
  fun m ρ _ => Cert.Kernel5Ideal.Gen.frame m ρ

/-- The fifth reference's run leaves its arguments as they were. -/
theorem reference5_frame : quiescent_Reference5Ideal (hReference5Ideal := Cert.Reference5Ideal.Gen.facts) :=
  fun m ρ _ => (θ_run Cert.Reference5Ideal.defs _ _).mono
    (fun r h => ⟨fun c => (h c).2.2, Idealize.ShloMosaic.sem_eq_zero_of_no_sems (by decide) r.2⟩)
    (Cert.Reference5Ideal.Value.run (F := Ideal) m ρ)

open Cert.Kernel5Ideal.LayerEnd in
/-- The kernel's loss and its gradient are the reference's. -/
theorem losses : algebraic_Kernel5Ideal_Reference5Ideal (hKernel5Ideal := Cert.Kernel5Ideal.Gen.facts)
    (hReference5Ideal := Cert.Reference5Ideal.Gen.facts) := by
  intro m ρ m' ρ' _ hsame
  refine ⟨fun c => result16 (gap m c), fun c => result17 (gap m c),
    (θ_run Cert.Kernel5Ideal.defs _ _).mono (fun _ h c => ⟨(h c).1.trans (final16 m c), (h c).2.1.trans (final17 m c), (h c).2.2⟩)
      (Cert.Kernel5Ideal.Value.run_blocks m ρ),
    (θ_run Cert.Reference5Ideal.defs _ _).mono (fun r h c => ?_) (Cert.Reference5Ideal.Value.run (F := Ideal) m' ρ')⟩
  obtain ⟨e0, e1, e2, e3, e4, e5, e6, e7, e8, e9, e10⟩ := hsame c
  have far : ∀ i n, Cert.Reference5Ideal.LayerEnd.far m' c (ix2 i n) = gap m c i n := fun i n => by
    unfold Cert.Reference5Ideal.LayerEnd.far
    rw [Cert.Reference5Ideal.LayerEnd.distance_at, e0, e1, e2, e3, e4, e5, e6, e7, e8, e9, e10]
  refine ⟨(h c).1.trans ?_, (h c).2.1.trans ?_, (h c).2.2⟩
  · refine (Cert.Reference5Ideal.LayerEnd.out0_eq m' c).trans ?_
    funext y
    obtain ⟨a, b, rfl⟩ : ∃ a b, y = ix2 a b := ⟨y 0, y 1, Cert.Kernel4Ideal.Forward.ix2_of rfl rfl⟩
    exact (Cert.Reference5Ideal.LayerEnd.slope_at _ a b).trans (congrArg (· * Ideal.ofBits .f32 0x3A800000#32) (far a b))
  · refine (Cert.Reference5Ideal.LayerEnd.out1_eq m' c).trans ?_
    funext y
    obtain ⟨a, b, rfl⟩ : ∃ a b, y = ix2 a b := ⟨y 0, y 1, Cert.Kernel4Ideal.Forward.ix2_of rfl rfl⟩
    refine (Cert.Reference5Ideal.LayerEnd.total_at _ a b).trans (Finset.sum_congr rfl fun i _ => congrArg (· * Ideal.ofBits .f32 0x3A000000#32) ?_)
    exact Finset.sum_congr rfl fun k _ => congrArg₂ (· * ·) (far i k) (far i k)

/-- The sixth kernel's run leaves its arguments as they were. -/
theorem kernel6_frame : quiescent_Kernel6 (hKernel6 := Cert.Kernel6.Gen.facts) :=
  fun m ρ _ => Cert.Kernel6.Gen.frame m ρ

/-- The idealized sixth kernel's run leaves its arguments as they were. -/
theorem ideal6_frame : quiescent_Kernel6Ideal (hKernel6Ideal := Cert.Kernel6Ideal.Gen.facts) :=
  fun m ρ _ => Cert.Kernel6Ideal.Gen.frame m ρ

/-- The sixth reference's run leaves its arguments as they were. -/
theorem reference6_frame : quiescent_Reference6Ideal (hReference6Ideal := Cert.Reference6Ideal.Gen.facts) :=
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ)

open Cert.Kernel6Ideal.LayerResult in
/-- The kernel's result of a layer is the reference's. -/
theorem layers : algebraic_Kernel6Ideal_Reference6Ideal (hKernel6Ideal := Cert.Kernel6Ideal.Gen.facts)
    (hReference6Ideal := Cert.Reference6Ideal.Gen.facts) := by
  intro m ρ m' ρ' _ hsame
  refine ⟨fun c => result15 (gone m c),
    (θ_run Cert.Kernel6Ideal.defs _ _).mono (fun _ h c => ⟨(h c).1.trans (final15 m c), (h c).2⟩) (Cert.Kernel6Ideal.Value.run_blocks m ρ),
    (θ_run Cert.Reference6Ideal.defs _ _).mono (fun r h c => ⟨(h c).1.trans ?_, (h c).2⟩) (Cert.Reference6Ideal.Value.run (F := Ideal) m' ρ')⟩
  obtain ⟨e0, e1, e2, e3, e4, e5, e6, e7, e8, e9⟩ := hsame c
  refine (Cert.Reference6Ideal.LayerResult.out0_eq m' c).trans ?_
  funext y
  obtain ⟨a, b, rfl⟩ : ∃ a b, y = ix2 a b := ⟨y 0, y 1, Cert.Kernel4Ideal.Forward.ix2_of rfl rfl⟩
  unfold Cert.Reference6Ideal.LayerResult.ran
  rw [Cert.Reference6Ideal.LayerResult.computed_at, e0, e1, e2, e3, e4, e5, e6, e7, e8, e9]
  rfl

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts,
  kernel_frame, ideal_frame, fun m ρ _ => ideal_frame m ρ trivial, reference_frame, fun m ρ _ => reference_frame m ρ trivial,
  kernel2_frame, ideal2_frame, reference2_frame,
  kernel3_frame, ideal3_frame, reference3_frame, kernel4_frame, ideal4_frame, reference4_frame,
  kernel5_frame, ideal5_frame, reference5_frame,
  kernel6_frame, ideal6_frame, reference6_frame,
  constants, gradients, trivial, inputs, trivial, weights, trivial, forward, trivial, losses, trivial, layers⟩

end Cert.Proof

end
